-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormReferenceIdeal (m : (ℓ : Loc Cert.PreNormReferenceIdeal.nD Cert.PreNormReferenceIdeal.τ Cert.PreNormReferenceIdeal.sig) → Buf (Elt Ideal) ℓ) : Prop :=
  True

def Pre_InMain (m : (ℓ : Loc Cert.InMain.nD Cert.InMain.τ Cert.InMain.sig) → Buf (Elt Bits) ℓ) : Prop :=
  True

def Pre_InMainIdeal (m : (ℓ : Loc Cert.InMainIdeal.nD Cert.InMainIdeal.τ Cert.InMainIdeal.sig) → Buf (Elt Ideal) ℓ) : Prop :=
  True

def Pre_InMainReferenceIdeal (m : (ℓ : Loc Cert.InMainReferenceIdeal.nD Cert.InMainReferenceIdeal.τ Cert.InMainReferenceIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesReferenceIdeal (m : (ℓ : Loc Cert.InGatesReferenceIdeal.nD Cert.InGatesReferenceIdeal.τ Cert.InGatesReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormReferenceIdeal (m : (ℓ : Loc Cert.PostNormReferenceIdeal.nD Cert.PostNormReferenceIdeal.τ Cert.PostNormReferenceIdeal.sig) → Buf (Elt Ideal) ℓ) : Prop :=
  True

def Pre_PostPreNorm (m : (ℓ : Loc Cert.PostPreNorm.nD Cert.PostPreNorm.τ Cert.PostPreNorm.sig) → Buf (Elt Bits) ℓ) : Prop :=
  True

def Pre_PostPreNormIdeal (m : (ℓ : Loc Cert.PostPreNormIdeal.nD Cert.PostPreNormIdeal.τ Cert.PostPreNormIdeal.sig) → Buf (Elt Ideal) ℓ) : Prop :=
  True

def Pre_PostPreNormReferenceIdeal (m : (ℓ : Loc Cert.PostPreNormReferenceIdeal.nD Cert.PostPreNormReferenceIdeal.τ Cert.PostPreNormReferenceIdeal.sig) → Buf (Elt Ideal) ℓ) : Prop :=
  True

def Pre_DeltaNet (m : (ℓ : Loc Cert.DeltaNet.nD Cert.DeltaNet.τ Cert.DeltaNet.sig) → Buf (Elt Bits) ℓ) : Prop :=
  True

def Pre_DeltaNetIdeal (m : (ℓ : Loc Cert.DeltaNetIdeal.nD Cert.DeltaNetIdeal.τ Cert.DeltaNetIdeal.sig) → Buf (Elt Ideal) ℓ) : Prop :=
  True

def Pre_DeltaGates (m : (ℓ : Loc Cert.DeltaGates.nD Cert.DeltaGates.τ Cert.DeltaGates.sig) → Buf (Elt Bits) ℓ) : Prop :=
  True

def Pre_DeltaGatesIdeal (m : (ℓ : Loc Cert.DeltaGatesIdeal.nD Cert.DeltaGatesIdeal.τ Cert.DeltaGatesIdeal.sig) → Buf (Elt Ideal) ℓ) : Prop :=
  True

def Pre_DeltaGatesIdeal_finite_gates [hPre_finite_gates : Cert.Pre_finite_gates.Facts] (m : (ℓ : Loc Cert.DeltaGatesIdeal.nD Cert.DeltaGatesIdeal.τ Cert.DeltaGatesIdeal.sig) → Buf (Elt Ideal) ℓ) : Prop :=
  ∀ c : Dev Cert.DeltaGatesIdeal.nD,
    (Cert.Pre_finite_gates.fn (F := Ideal) (m ((c.tc : Thread Cert.DeltaGatesIdeal.nD Cert.DeltaGatesIdeal.τ).loc Cert.DeltaGatesIdeal.main_arg0)) (m ((c.tc : Thread Cert.DeltaGatesIdeal.nD Cert.DeltaGatesIdeal.τ).loc Cert.DeltaGatesIdeal.main_arg1)) (m ((c.tc : Thread Cert.DeltaGatesIdeal.nD Cert.DeltaGatesIdeal.τ).loc Cert.DeltaGatesIdeal.main_arg2))) = (fun _ => 1#1)

def Pre_DeltaGatesReferenceIdeal (m : (ℓ : Loc Cert.DeltaGatesReferenceIdeal.nD Cert.DeltaGatesReferenceIdeal.τ Cert.DeltaGatesReferenceIdeal.sig) → Buf (Elt Ideal) ℓ) : Prop :=
  True

def Pre_DeltaGatesReferenceIdeal_finite_gates [hPre_finite_gates : Cert.Pre_finite_gates.Facts] (m : (ℓ : Loc Cert.DeltaGatesReferenceIdeal.nD Cert.DeltaGatesReferenceIdeal.τ Cert.DeltaGatesReferenceIdeal.sig) → Buf (Elt Ideal) ℓ) : Prop :=
  ∀ c : Dev Cert.DeltaGatesReferenceIdeal.nD,
    (Cert.Pre_finite_gates.fn (F := Ideal) (m ((c.tc : Thread Cert.DeltaGatesReferenceIdeal.nD Cert.DeltaGatesReferenceIdeal.τ).loc Cert.DeltaGatesReferenceIdeal.main_arg0)) (m ((c.tc : Thread Cert.DeltaGatesReferenceIdeal.nD Cert.DeltaGatesReferenceIdeal.τ).loc Cert.DeltaGatesReferenceIdeal.main_arg1)) (m ((c.tc : Thread Cert.DeltaGatesReferenceIdeal.nD Cert.DeltaGatesReferenceIdeal.τ).loc Cert.DeltaGatesReferenceIdeal.main_arg2))) = (fun _ => 1#1)

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInReferenceIdeal (m : (ℓ : Loc Cert.CastInReferenceIdeal.nD Cert.CastInReferenceIdeal.τ Cert.CastInReferenceIdeal.sig) → Buf (Elt Ideal) ℓ) : Prop :=
  True

def Pre_CastGates (m : (ℓ : Loc Cert.CastGates.nD Cert.CastGates.τ Cert.CastGates.sig) → Buf (Elt Bits) ℓ) : Prop :=
  True

def Pre_CastGatesIdeal (m : (ℓ : Loc Cert.CastGatesIdeal.nD Cert.CastGatesIdeal.τ Cert.CastGatesIdeal.sig) → Buf (Elt Ideal) ℓ) : Prop :=
  True

def Pre_CastGatesReferenceIdeal (m : (ℓ : Loc Cert.CastGatesReferenceIdeal.nD Cert.CastGatesReferenceIdeal.τ Cert.CastGatesReferenceIdeal.sig) → Buf (Elt Ideal) ℓ) : Prop :=
  True

def Pre_CastBranch (m : (ℓ : Loc Cert.CastBranch.nD Cert.CastBranch.τ Cert.CastBranch.sig) → Buf (Elt Bits) ℓ) : Prop :=
  True

def Pre_CastBranchIdeal (m : (ℓ : Loc Cert.CastBranchIdeal.nD Cert.CastBranchIdeal.τ Cert.CastBranchIdeal.sig) → Buf (Elt Ideal) ℓ) : Prop :=
  True

def Pre_CastBranchReferenceIdeal (m : (ℓ : Loc Cert.CastBranchReferenceIdeal.nD Cert.CastBranchReferenceIdeal.τ Cert.CastBranchReferenceIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutReferenceIdeal (m : (ℓ : Loc Cert.CastOutReferenceIdeal.nD Cert.CastOutReferenceIdeal.τ Cert.CastOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormReferenceIdeal [hPreNormReferenceIdeal : Cert.PreNormReferenceIdeal.Facts] : Prop :=
  ∀ (m : (ℓ : Loc Cert.PreNormReferenceIdeal.nD Cert.PreNormReferenceIdeal.τ Cert.PreNormReferenceIdeal.sig) → Buf (Elt Ideal) ℓ) (g : Dev Cert.PreNormReferenceIdeal.nD → PrngReg), Pre_PreNormReferenceIdeal m →
    θ_run (Cert.PreNormReferenceIdeal.defs (F := Ideal)) (onTc (τ := Cert.PreNormReferenceIdeal.τ) (Cert.PreNormReferenceIdeal.main (F := Ideal))) ⟨m, fun _ => 0, g⟩ (fun r => (∀ c : Dev Cert.PreNormReferenceIdeal.nD,
      r.2.mem ((c.tc : Thread Cert.PreNormReferenceIdeal.nD Cert.PreNormReferenceIdeal.τ).loc Cert.PreNormReferenceIdeal.main_arg0) = m ((c.tc : Thread Cert.PreNormReferenceIdeal.nD Cert.PreNormReferenceIdeal.τ).loc Cert.PreNormReferenceIdeal.main_arg0)
      ∧ r.2.mem ((c.tc : Thread Cert.PreNormReferenceIdeal.nD Cert.PreNormReferenceIdeal.τ).loc Cert.PreNormReferenceIdeal.main_arg1) = m ((c.tc : Thread Cert.PreNormReferenceIdeal.nD Cert.PreNormReferenceIdeal.τ).loc Cert.PreNormReferenceIdeal.main_arg1))
      ∧ r.2.sem = fun _ => 0)

def quiescent_InMain [hInMain : Cert.InMain.Facts] : Prop :=
  ∀ (m : (ℓ : Loc Cert.InMain.nD Cert.InMain.τ Cert.InMain.sig) → Buf (Elt Bits) ℓ) (g : Dev Cert.InMain.nD → PrngReg), Pre_InMain m →
    θ_run (Cert.InMain.defs (F := Bits)) (onTc (τ := Cert.InMain.τ) (Cert.InMain.main (F := Bits))) ⟨m, fun _ => 0, g⟩ (fun r => (∀ c : Dev Cert.InMain.nD,
      r.2.mem ((c.tc : Thread Cert.InMain.nD Cert.InMain.τ).loc Cert.InMain.main_arg0) = m ((c.tc : Thread Cert.InMain.nD Cert.InMain.τ).loc Cert.InMain.main_arg0)
      ∧ r.2.mem ((c.tc : Thread Cert.InMain.nD Cert.InMain.τ).loc Cert.InMain.main_arg1) = m ((c.tc : Thread Cert.InMain.nD Cert.InMain.τ).loc Cert.InMain.main_arg1))
      ∧ r.2.sem = fun _ => 0)

def quiescent_InMainIdeal [hInMainIdeal : Cert.InMainIdeal.Facts] : Prop :=
  ∀ (m : (ℓ : Loc Cert.InMainIdeal.nD Cert.InMainIdeal.τ Cert.InMainIdeal.sig) → Buf (Elt Ideal) ℓ) (g : Dev Cert.InMainIdeal.nD → PrngReg), Pre_InMainIdeal m →
    θ_run (Cert.InMainIdeal.defs (F := Ideal)) (onTc (τ := Cert.InMainIdeal.τ) (Cert.InMainIdeal.main (F := Ideal))) ⟨m, fun _ => 0, g⟩ (fun r => (∀ c : Dev Cert.InMainIdeal.nD,
      r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
      ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ r.2.sem = fun _ => 0)

def quiescent_InMainReferenceIdeal [hInMainReferenceIdeal : Cert.InMainReferenceIdeal.Facts] : Prop :=
  ∀ (m : (ℓ : Loc Cert.InMainReferenceIdeal.nD Cert.InMainReferenceIdeal.τ Cert.InMainReferenceIdeal.sig) → Buf (Elt Ideal) ℓ) (g : Dev Cert.InMainReferenceIdeal.nD → PrngReg), Pre_InMainReferenceIdeal m →
    θ_run (Cert.InMainReferenceIdeal.defs (F := Ideal)) (onTc (τ := Cert.InMainReferenceIdeal.τ) (Cert.InMainReferenceIdeal.main (F := Ideal))) ⟨m, fun _ => 0, g⟩ (fun r => (∀ c : Dev Cert.InMainReferenceIdeal.nD,
      r.2.mem ((c.tc : Thread Cert.InMainReferenceIdeal.nD Cert.InMainReferenceIdeal.τ).loc Cert.InMainReferenceIdeal.main_arg0) = m ((c.tc : Thread Cert.InMainReferenceIdeal.nD Cert.InMainReferenceIdeal.τ).loc Cert.InMainReferenceIdeal.main_arg0)
      ∧ r.2.mem ((c.tc : Thread Cert.InMainReferenceIdeal.nD Cert.InMainReferenceIdeal.τ).loc Cert.InMainReferenceIdeal.main_arg1) = m ((c.tc : Thread Cert.InMainReferenceIdeal.nD Cert.InMainReferenceIdeal.τ).loc Cert.InMainReferenceIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesReferenceIdeal [hInGatesReferenceIdeal : Cert.InGatesReferenceIdeal.Facts] : Prop :=
  ∀ (m : (ℓ : Loc Cert.InGatesReferenceIdeal.nD Cert.InGatesReferenceIdeal.τ Cert.InGatesReferenceIdeal.sig) → Buf (Elt Ideal) ℓ) (g : Dev Cert.InGatesReferenceIdeal.nD → PrngReg), Pre_InGatesReferenceIdeal m →
    θ_run (Cert.InGatesReferenceIdeal.defs (F := Ideal)) (onTc (τ := Cert.InGatesReferenceIdeal.τ) (Cert.InGatesReferenceIdeal.main (F := Ideal))) ⟨m, fun _ => 0, g⟩ (fun r => (∀ c : Dev Cert.InGatesReferenceIdeal.nD,
      r.2.mem ((c.tc : Thread Cert.InGatesReferenceIdeal.nD Cert.InGatesReferenceIdeal.τ).loc Cert.InGatesReferenceIdeal.main_arg0) = m ((c.tc : Thread Cert.InGatesReferenceIdeal.nD Cert.InGatesReferenceIdeal.τ).loc Cert.InGatesReferenceIdeal.main_arg0)
      ∧ r.2.mem ((c.tc : Thread Cert.InGatesReferenceIdeal.nD Cert.InGatesReferenceIdeal.τ).loc Cert.InGatesReferenceIdeal.main_arg1) = m ((c.tc : Thread Cert.InGatesReferenceIdeal.nD Cert.InGatesReferenceIdeal.τ).loc Cert.InGatesReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormReferenceIdeal [hPostNormReferenceIdeal : Cert.PostNormReferenceIdeal.Facts] : Prop :=
  ∀ (m : (ℓ : Loc Cert.PostNormReferenceIdeal.nD Cert.PostNormReferenceIdeal.τ Cert.PostNormReferenceIdeal.sig) → Buf (Elt Ideal) ℓ) (g : Dev Cert.PostNormReferenceIdeal.nD → PrngReg), Pre_PostNormReferenceIdeal m →
    θ_run (Cert.PostNormReferenceIdeal.defs (F := Ideal)) (onTc (τ := Cert.PostNormReferenceIdeal.τ) (Cert.PostNormReferenceIdeal.main (F := Ideal))) ⟨m, fun _ => 0, g⟩ (fun r => (∀ c : Dev Cert.PostNormReferenceIdeal.nD,
      r.2.mem ((c.tc : Thread Cert.PostNormReferenceIdeal.nD Cert.PostNormReferenceIdeal.τ).loc Cert.PostNormReferenceIdeal.main_arg0) = m ((c.tc : Thread Cert.PostNormReferenceIdeal.nD Cert.PostNormReferenceIdeal.τ).loc Cert.PostNormReferenceIdeal.main_arg0)
      ∧ r.2.mem ((c.tc : Thread Cert.PostNormReferenceIdeal.nD Cert.PostNormReferenceIdeal.τ).loc Cert.PostNormReferenceIdeal.main_arg1) = m ((c.tc : Thread Cert.PostNormReferenceIdeal.nD Cert.PostNormReferenceIdeal.τ).loc Cert.PostNormReferenceIdeal.main_arg1)
      ∧ r.2.mem ((c.tc : Thread Cert.PostNormReferenceIdeal.nD Cert.PostNormReferenceIdeal.τ).loc Cert.PostNormReferenceIdeal.main_arg2) = m ((c.tc : Thread Cert.PostNormReferenceIdeal.nD Cert.PostNormReferenceIdeal.τ).loc Cert.PostNormReferenceIdeal.main_arg2))
      ∧ r.2.sem = fun _ => 0)

def quiescent_PostPreNorm [hPostPreNorm : Cert.PostPreNorm.Facts] : Prop :=
  ∀ (m : (ℓ : Loc Cert.PostPreNorm.nD Cert.PostPreNorm.τ Cert.PostPreNorm.sig) → Buf (Elt Bits) ℓ) (g : Dev Cert.PostPreNorm.nD → PrngReg), Pre_PostPreNorm m →
    θ_run (Cert.PostPreNorm.defs (F := Bits)) (onTc (τ := Cert.PostPreNorm.τ) (Cert.PostPreNorm.main (F := Bits))) ⟨m, fun _ => 0, g⟩ (fun r => (∀ c : Dev Cert.PostPreNorm.nD,
      r.2.mem ((c.tc : Thread Cert.PostPreNorm.nD Cert.PostPreNorm.τ).loc Cert.PostPreNorm.main_arg0) = m ((c.tc : Thread Cert.PostPreNorm.nD Cert.PostPreNorm.τ).loc Cert.PostPreNorm.main_arg0)
      ∧ r.2.mem ((c.tc : Thread Cert.PostPreNorm.nD Cert.PostPreNorm.τ).loc Cert.PostPreNorm.main_arg1) = m ((c.tc : Thread Cert.PostPreNorm.nD Cert.PostPreNorm.τ).loc Cert.PostPreNorm.main_arg1)
      ∧ r.2.mem ((c.tc : Thread Cert.PostPreNorm.nD Cert.PostPreNorm.τ).loc Cert.PostPreNorm.main_arg2) = m ((c.tc : Thread Cert.PostPreNorm.nD Cert.PostPreNorm.τ).loc Cert.PostPreNorm.main_arg2)
      ∧ r.2.mem ((c.tc : Thread Cert.PostPreNorm.nD Cert.PostPreNorm.τ).loc Cert.PostPreNorm.main_arg3) = m ((c.tc : Thread Cert.PostPreNorm.nD Cert.PostPreNorm.τ).loc Cert.PostPreNorm.main_arg3))
      ∧ r.2.sem = fun _ => 0)

def quiescent_PostPreNormIdeal [hPostPreNormIdeal : Cert.PostPreNormIdeal.Facts] : Prop :=
  ∀ (m : (ℓ : Loc Cert.PostPreNormIdeal.nD Cert.PostPreNormIdeal.τ Cert.PostPreNormIdeal.sig) → Buf (Elt Ideal) ℓ) (g : Dev Cert.PostPreNormIdeal.nD → PrngReg), Pre_PostPreNormIdeal m →
    θ_run (Cert.PostPreNormIdeal.defs (F := Ideal)) (onTc (τ := Cert.PostPreNormIdeal.τ) (Cert.PostPreNormIdeal.main (F := Ideal))) ⟨m, fun _ => 0, g⟩ (fun r => (∀ c : Dev Cert.PostPreNormIdeal.nD,
      r.2.mem ((c.tc : Thread Cert.PostPreNormIdeal.nD Cert.PostPreNormIdeal.τ).loc Cert.PostPreNormIdeal.main_arg0) = m ((c.tc : Thread Cert.PostPreNormIdeal.nD Cert.PostPreNormIdeal.τ).loc Cert.PostPreNormIdeal.main_arg0)
      ∧ r.2.mem ((c.tc : Thread Cert.PostPreNormIdeal.nD Cert.PostPreNormIdeal.τ).loc Cert.PostPreNormIdeal.main_arg1) = m ((c.tc : Thread Cert.PostPreNormIdeal.nD Cert.PostPreNormIdeal.τ).loc Cert.PostPreNormIdeal.main_arg1)
      ∧ r.2.mem ((c.tc : Thread Cert.PostPreNormIdeal.nD Cert.PostPreNormIdeal.τ).loc Cert.PostPreNormIdeal.main_arg2) = m ((c.tc : Thread Cert.PostPreNormIdeal.nD Cert.PostPreNormIdeal.τ).loc Cert.PostPreNormIdeal.main_arg2)
      ∧ r.2.mem ((c.tc : Thread Cert.PostPreNormIdeal.nD Cert.PostPreNormIdeal.τ).loc Cert.PostPreNormIdeal.main_arg3) = m ((c.tc : Thread Cert.PostPreNormIdeal.nD Cert.PostPreNormIdeal.τ).loc Cert.PostPreNormIdeal.main_arg3))
      ∧ r.2.sem = fun _ => 0)

def quiescent_PostPreNormReferenceIdeal [hPostPreNormReferenceIdeal : Cert.PostPreNormReferenceIdeal.Facts] : Prop :=
  ∀ (m : (ℓ : Loc Cert.PostPreNormReferenceIdeal.nD Cert.PostPreNormReferenceIdeal.τ Cert.PostPreNormReferenceIdeal.sig) → Buf (Elt Ideal) ℓ) (g : Dev Cert.PostPreNormReferenceIdeal.nD → PrngReg), Pre_PostPreNormReferenceIdeal m →
    θ_run (Cert.PostPreNormReferenceIdeal.defs (F := Ideal)) (onTc (τ := Cert.PostPreNormReferenceIdeal.τ) (Cert.PostPreNormReferenceIdeal.main (F := Ideal))) ⟨m, fun _ => 0, g⟩ (fun r => (∀ c : Dev Cert.PostPreNormReferenceIdeal.nD,
      r.2.mem ((c.tc : Thread Cert.PostPreNormReferenceIdeal.nD Cert.PostPreNormReferenceIdeal.τ).loc Cert.PostPreNormReferenceIdeal.main_arg0) = m ((c.tc : Thread Cert.PostPreNormReferenceIdeal.nD Cert.PostPreNormReferenceIdeal.τ).loc Cert.PostPreNormReferenceIdeal.main_arg0)
      ∧ r.2.mem ((c.tc : Thread Cert.PostPreNormReferenceIdeal.nD Cert.PostPreNormReferenceIdeal.τ).loc Cert.PostPreNormReferenceIdeal.main_arg1) = m ((c.tc : Thread Cert.PostPreNormReferenceIdeal.nD Cert.PostPreNormReferenceIdeal.τ).loc Cert.PostPreNormReferenceIdeal.main_arg1)
      ∧ r.2.mem ((c.tc : Thread Cert.PostPreNormReferenceIdeal.nD Cert.PostPreNormReferenceIdeal.τ).loc Cert.PostPreNormReferenceIdeal.main_arg2) = m ((c.tc : Thread Cert.PostPreNormReferenceIdeal.nD Cert.PostPreNormReferenceIdeal.τ).loc Cert.PostPreNormReferenceIdeal.main_arg2)
      ∧ r.2.mem ((c.tc : Thread Cert.PostPreNormReferenceIdeal.nD Cert.PostPreNormReferenceIdeal.τ).loc Cert.PostPreNormReferenceIdeal.main_arg3) = m ((c.tc : Thread Cert.PostPreNormReferenceIdeal.nD Cert.PostPreNormReferenceIdeal.τ).loc Cert.PostPreNormReferenceIdeal.main_arg3))
      ∧ r.2.sem = fun _ => 0)

def quiescent_DeltaNet [hDeltaNet : Cert.DeltaNet.Facts] : Prop :=
  ∀ (m : (ℓ : Loc Cert.DeltaNet.nD Cert.DeltaNet.τ Cert.DeltaNet.sig) → Buf (Elt Bits) ℓ) (g : Dev Cert.DeltaNet.nD → PrngReg), Pre_DeltaNet m →
    θ_run (Cert.DeltaNet.defs (F := Bits)) (onTc (τ := Cert.DeltaNet.τ) (Cert.DeltaNet.main (F := Bits))) ⟨m, fun _ => 0, g⟩ (fun r => (∀ c : Dev Cert.DeltaNet.nD,
      r.2.mem ((c.tc : Thread Cert.DeltaNet.nD Cert.DeltaNet.τ).loc Cert.DeltaNet.main_arg0) = m ((c.tc : Thread Cert.DeltaNet.nD Cert.DeltaNet.τ).loc Cert.DeltaNet.main_arg0)
      ∧ r.2.mem ((c.tc : Thread Cert.DeltaNet.nD Cert.DeltaNet.τ).loc Cert.DeltaNet.main_arg1) = m ((c.tc : Thread Cert.DeltaNet.nD Cert.DeltaNet.τ).loc Cert.DeltaNet.main_arg1)
      ∧ r.2.mem ((c.tc : Thread Cert.DeltaNet.nD Cert.DeltaNet.τ).loc Cert.DeltaNet.main_arg2) = m ((c.tc : Thread Cert.DeltaNet.nD Cert.DeltaNet.τ).loc Cert.DeltaNet.main_arg2)
      ∧ r.2.mem ((c.tc : Thread Cert.DeltaNet.nD Cert.DeltaNet.τ).loc Cert.DeltaNet.main_arg3) = m ((c.tc : Thread Cert.DeltaNet.nD Cert.DeltaNet.τ).loc Cert.DeltaNet.main_arg3)
      ∧ r.2.mem ((c.tc : Thread Cert.DeltaNet.nD Cert.DeltaNet.τ).loc Cert.DeltaNet.main_arg4) = m ((c.tc : Thread Cert.DeltaNet.nD Cert.DeltaNet.τ).loc Cert.DeltaNet.main_arg4)
      ∧ r.2.mem ((c.tc : Thread Cert.DeltaNet.nD Cert.DeltaNet.τ).loc Cert.DeltaNet.main_arg5) = m ((c.tc : Thread Cert.DeltaNet.nD Cert.DeltaNet.τ).loc Cert.DeltaNet.main_arg5)
      ∧ r.2.mem ((c.tc : Thread Cert.DeltaNet.nD Cert.DeltaNet.τ).loc Cert.DeltaNet.main_arg6) = m ((c.tc : Thread Cert.DeltaNet.nD Cert.DeltaNet.τ).loc Cert.DeltaNet.main_arg6))
      ∧ r.2.sem = fun _ => 0)

def quiescent_DeltaNetIdeal [hDeltaNetIdeal : Cert.DeltaNetIdeal.Facts] : Prop :=
  ∀ (m : (ℓ : Loc Cert.DeltaNetIdeal.nD Cert.DeltaNetIdeal.τ Cert.DeltaNetIdeal.sig) → Buf (Elt Ideal) ℓ) (g : Dev Cert.DeltaNetIdeal.nD → PrngReg), Pre_DeltaNetIdeal m →
    θ_run (Cert.DeltaNetIdeal.defs (F := Ideal)) (onTc (τ := Cert.DeltaNetIdeal.τ) (Cert.DeltaNetIdeal.main (F := Ideal))) ⟨m, fun _ => 0, g⟩ (fun r => (∀ c : Dev Cert.DeltaNetIdeal.nD,
      r.2.mem ((c.tc : Thread Cert.DeltaNetIdeal.nD Cert.DeltaNetIdeal.τ).loc Cert.DeltaNetIdeal.main_arg0) = m ((c.tc : Thread Cert.DeltaNetIdeal.nD Cert.DeltaNetIdeal.τ).loc Cert.DeltaNetIdeal.main_arg0)
      ∧ r.2.mem ((c.tc : Thread Cert.DeltaNetIdeal.nD Cert.DeltaNetIdeal.τ).loc Cert.DeltaNetIdeal.main_arg1) = m ((c.tc : Thread Cert.DeltaNetIdeal.nD Cert.DeltaNetIdeal.τ).loc Cert.DeltaNetIdeal.main_arg1)
      ∧ r.2.mem ((c.tc : Thread Cert.DeltaNetIdeal.nD Cert.DeltaNetIdeal.τ).loc Cert.DeltaNetIdeal.main_arg2) = m ((c.tc : Thread Cert.DeltaNetIdeal.nD Cert.DeltaNetIdeal.τ).loc Cert.DeltaNetIdeal.main_arg2)
      ∧ r.2.mem ((c.tc : Thread Cert.DeltaNetIdeal.nD Cert.DeltaNetIdeal.τ).loc Cert.DeltaNetIdeal.main_arg3) = m ((c.tc : Thread Cert.DeltaNetIdeal.nD Cert.DeltaNetIdeal.τ).loc Cert.DeltaNetIdeal.main_arg3)
      ∧ r.2.mem ((c.tc : Thread Cert.DeltaNetIdeal.nD Cert.DeltaNetIdeal.τ).loc Cert.DeltaNetIdeal.main_arg4) = m ((c.tc : Thread Cert.DeltaNetIdeal.nD Cert.DeltaNetIdeal.τ).loc Cert.DeltaNetIdeal.main_arg4)
      ∧ r.2.mem ((c.tc : Thread Cert.DeltaNetIdeal.nD Cert.DeltaNetIdeal.τ).loc Cert.DeltaNetIdeal.main_arg5) = m ((c.tc : Thread Cert.DeltaNetIdeal.nD Cert.DeltaNetIdeal.τ).loc Cert.DeltaNetIdeal.main_arg5)
      ∧ r.2.mem ((c.tc : Thread Cert.DeltaNetIdeal.nD Cert.DeltaNetIdeal.τ).loc Cert.DeltaNetIdeal.main_arg6) = m ((c.tc : Thread Cert.DeltaNetIdeal.nD Cert.DeltaNetIdeal.τ).loc Cert.DeltaNetIdeal.main_arg6))
      ∧ r.2.sem = fun _ => 0)

def quiescent_DeltaGates [hDeltaGates : Cert.DeltaGates.Facts] : Prop :=
  ∀ (m : (ℓ : Loc Cert.DeltaGates.nD Cert.DeltaGates.τ Cert.DeltaGates.sig) → Buf (Elt Bits) ℓ) (g : Dev Cert.DeltaGates.nD → PrngReg), Pre_DeltaGates m →
    θ_run (Cert.DeltaGates.defs (F := Bits)) (onTc (τ := Cert.DeltaGates.τ) (Cert.DeltaGates.main (F := Bits))) ⟨m, fun _ => 0, g⟩ (fun r => (∀ c : Dev Cert.DeltaGates.nD,
      r.2.mem ((c.tc : Thread Cert.DeltaGates.nD Cert.DeltaGates.τ).loc Cert.DeltaGates.main_arg0) = m ((c.tc : Thread Cert.DeltaGates.nD Cert.DeltaGates.τ).loc Cert.DeltaGates.main_arg0)
      ∧ r.2.mem ((c.tc : Thread Cert.DeltaGates.nD Cert.DeltaGates.τ).loc Cert.DeltaGates.main_arg1) = m ((c.tc : Thread Cert.DeltaGates.nD Cert.DeltaGates.τ).loc Cert.DeltaGates.main_arg1)
      ∧ r.2.mem ((c.tc : Thread Cert.DeltaGates.nD Cert.DeltaGates.τ).loc Cert.DeltaGates.main_arg2) = m ((c.tc : Thread Cert.DeltaGates.nD Cert.DeltaGates.τ).loc Cert.DeltaGates.main_arg2))
      ∧ r.2.sem = fun _ => 0)

def quiescent_DeltaGatesIdeal [hDeltaGatesIdeal : Cert.DeltaGatesIdeal.Facts] : Prop :=
  ∀ (m : (ℓ : Loc Cert.DeltaGatesIdeal.nD Cert.DeltaGatesIdeal.τ Cert.DeltaGatesIdeal.sig) → Buf (Elt Ideal) ℓ) (g : Dev Cert.DeltaGatesIdeal.nD → PrngReg), Pre_DeltaGatesIdeal m →
    θ_run (Cert.DeltaGatesIdeal.defs (F := Ideal)) (onTc (τ := Cert.DeltaGatesIdeal.τ) (Cert.DeltaGatesIdeal.main (F := Ideal))) ⟨m, fun _ => 0, g⟩ (fun r => (∀ c : Dev Cert.DeltaGatesIdeal.nD,
      r.2.mem ((c.tc : Thread Cert.DeltaGatesIdeal.nD Cert.DeltaGatesIdeal.τ).loc Cert.DeltaGatesIdeal.main_arg0) = m ((c.tc : Thread Cert.DeltaGatesIdeal.nD Cert.DeltaGatesIdeal.τ).loc Cert.DeltaGatesIdeal.main_arg0)
      ∧ r.2.mem ((c.tc : Thread Cert.DeltaGatesIdeal.nD Cert.DeltaGatesIdeal.τ).loc Cert.DeltaGatesIdeal.main_arg1) = m ((c.tc : Thread Cert.DeltaGatesIdeal.nD Cert.DeltaGatesIdeal.τ).loc Cert.DeltaGatesIdeal.main_arg1)
      ∧ r.2.mem ((c.tc : Thread Cert.DeltaGatesIdeal.nD Cert.DeltaGatesIdeal.τ).loc Cert.DeltaGatesIdeal.main_arg2) = m ((c.tc : Thread Cert.DeltaGatesIdeal.nD Cert.DeltaGatesIdeal.τ).loc Cert.DeltaGatesIdeal.main_arg2))
      ∧ r.2.sem = fun _ => 0)

def quiescent_DeltaGatesIdeal_pre_finite_gates [hDeltaGatesIdeal : Cert.DeltaGatesIdeal.Facts] [hPre_finite_gates : Cert.Pre_finite_gates.Facts] : Prop :=
  ∀ (m : (ℓ : Loc Cert.DeltaGatesIdeal.nD Cert.DeltaGatesIdeal.τ Cert.DeltaGatesIdeal.sig) → Buf (Elt Ideal) ℓ) (g : Dev Cert.DeltaGatesIdeal.nD → PrngReg), Pre_DeltaGatesIdeal_finite_gates m →
    θ_run (Cert.DeltaGatesIdeal.defs (F := Ideal)) (onTc (τ := Cert.DeltaGatesIdeal.τ) (Cert.DeltaGatesIdeal.main (F := Ideal))) ⟨m, fun _ => 0, g⟩ (fun r => (∀ c : Dev Cert.DeltaGatesIdeal.nD,
      r.2.mem ((c.tc : Thread Cert.DeltaGatesIdeal.nD Cert.DeltaGatesIdeal.τ).loc Cert.DeltaGatesIdeal.main_arg0) = m ((c.tc : Thread Cert.DeltaGatesIdeal.nD Cert.DeltaGatesIdeal.τ).loc Cert.DeltaGatesIdeal.main_arg0)
      ∧ r.2.mem ((c.tc : Thread Cert.DeltaGatesIdeal.nD Cert.DeltaGatesIdeal.τ).loc Cert.DeltaGatesIdeal.main_arg1) = m ((c.tc : Thread Cert.DeltaGatesIdeal.nD Cert.DeltaGatesIdeal.τ).loc Cert.DeltaGatesIdeal.main_arg1)
      ∧ r.2.mem ((c.tc : Thread Cert.DeltaGatesIdeal.nD Cert.DeltaGatesIdeal.τ).loc Cert.DeltaGatesIdeal.main_arg2) = m ((c.tc : Thread Cert.DeltaGatesIdeal.nD Cert.DeltaGatesIdeal.τ).loc Cert.DeltaGatesIdeal.main_arg2))
      ∧ r.2.sem = fun _ => 0)

def quiescent_DeltaGatesReferenceIdeal [hDeltaGatesReferenceIdeal : Cert.DeltaGatesReferenceIdeal.Facts] : Prop :=
  ∀ (m : (ℓ : Loc Cert.DeltaGatesReferenceIdeal.nD Cert.DeltaGatesReferenceIdeal.τ Cert.DeltaGatesReferenceIdeal.sig) → Buf (Elt Ideal) ℓ) (g : Dev Cert.DeltaGatesReferenceIdeal.nD → PrngReg), Pre_DeltaGatesReferenceIdeal m →
    θ_run (Cert.DeltaGatesReferenceIdeal.defs (F := Ideal)) (onTc (τ := Cert.DeltaGatesReferenceIdeal.τ) (Cert.DeltaGatesReferenceIdeal.main (F := Ideal))) ⟨m, fun _ => 0, g⟩ (fun r => (∀ c : Dev Cert.DeltaGatesReferenceIdeal.nD,
      r.2.mem ((c.tc : Thread Cert.DeltaGatesReferenceIdeal.nD Cert.DeltaGatesReferenceIdeal.τ).loc Cert.DeltaGatesReferenceIdeal.main_arg0) = m ((c.tc : Thread Cert.DeltaGatesReferenceIdeal.nD Cert.DeltaGatesReferenceIdeal.τ).loc Cert.DeltaGatesReferenceIdeal.main_arg0)
      ∧ r.2.mem ((c.tc : Thread Cert.DeltaGatesReferenceIdeal.nD Cert.DeltaGatesReferenceIdeal.τ).loc Cert.DeltaGatesReferenceIdeal.main_arg1) = m ((c.tc : Thread Cert.DeltaGatesReferenceIdeal.nD Cert.DeltaGatesReferenceIdeal.τ).loc Cert.DeltaGatesReferenceIdeal.main_arg1)
      ∧ r.2.mem ((c.tc : Thread Cert.DeltaGatesReferenceIdeal.nD Cert.DeltaGatesReferenceIdeal.τ).loc Cert.DeltaGatesReferenceIdeal.main_arg2) = m ((c.tc : Thread Cert.DeltaGatesReferenceIdeal.nD Cert.DeltaGatesReferenceIdeal.τ).loc Cert.DeltaGatesReferenceIdeal.main_arg2))
      ∧ r.2.sem = fun _ => 0)

def quiescent_DeltaGatesReferenceIdeal_pre_finite_gates [hDeltaGatesReferenceIdeal : Cert.DeltaGatesReferenceIdeal.Facts] [hPre_finite_gates : Cert.Pre_finite_gates.Facts] : Prop :=
  ∀ (m : (ℓ : Loc Cert.DeltaGatesReferenceIdeal.nD Cert.DeltaGatesReferenceIdeal.τ Cert.DeltaGatesReferenceIdeal.sig) → Buf (Elt Ideal) ℓ) (g : Dev Cert.DeltaGatesReferenceIdeal.nD → PrngReg), Pre_DeltaGatesReferenceIdeal_finite_gates m →
    θ_run (Cert.DeltaGatesReferenceIdeal.defs (F := Ideal)) (onTc (τ := Cert.DeltaGatesReferenceIdeal.τ) (Cert.DeltaGatesReferenceIdeal.main (F := Ideal))) ⟨m, fun _ => 0, g⟩ (fun r => (∀ c : Dev Cert.DeltaGatesReferenceIdeal.nD,
      r.2.mem ((c.tc : Thread Cert.DeltaGatesReferenceIdeal.nD Cert.DeltaGatesReferenceIdeal.τ).loc Cert.DeltaGatesReferenceIdeal.main_arg0) = m ((c.tc : Thread Cert.DeltaGatesReferenceIdeal.nD Cert.DeltaGatesReferenceIdeal.τ).loc Cert.DeltaGatesReferenceIdeal.main_arg0)
      ∧ r.2.mem ((c.tc : Thread Cert.DeltaGatesReferenceIdeal.nD Cert.DeltaGatesReferenceIdeal.τ).loc Cert.DeltaGatesReferenceIdeal.main_arg1) = m ((c.tc : Thread Cert.DeltaGatesReferenceIdeal.nD Cert.DeltaGatesReferenceIdeal.τ).loc Cert.DeltaGatesReferenceIdeal.main_arg1)
      ∧ r.2.mem ((c.tc : Thread Cert.DeltaGatesReferenceIdeal.nD Cert.DeltaGatesReferenceIdeal.τ).loc Cert.DeltaGatesReferenceIdeal.main_arg2) = m ((c.tc : Thread Cert.DeltaGatesReferenceIdeal.nD Cert.DeltaGatesReferenceIdeal.τ).loc Cert.DeltaGatesReferenceIdeal.main_arg2))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInReferenceIdeal [hCastInReferenceIdeal : Cert.CastInReferenceIdeal.Facts] : Prop :=
  ∀ (m : (ℓ : Loc Cert.CastInReferenceIdeal.nD Cert.CastInReferenceIdeal.τ Cert.CastInReferenceIdeal.sig) → Buf (Elt Ideal) ℓ) (g : Dev Cert.CastInReferenceIdeal.nD → PrngReg), Pre_CastInReferenceIdeal m →
    θ_run (Cert.CastInReferenceIdeal.defs (F := Ideal)) (onTc (τ := Cert.CastInReferenceIdeal.τ) (Cert.CastInReferenceIdeal.main (F := Ideal))) ⟨m, fun _ => 0, g⟩ (fun r => (∀ c : Dev Cert.CastInReferenceIdeal.nD,
      r.2.mem ((c.tc : Thread Cert.CastInReferenceIdeal.nD Cert.CastInReferenceIdeal.τ).loc Cert.CastInReferenceIdeal.main_arg0) = m ((c.tc : Thread Cert.CastInReferenceIdeal.nD Cert.CastInReferenceIdeal.τ).loc Cert.CastInReferenceIdeal.main_arg0))
      ∧ r.2.sem = fun _ => 0)

def quiescent_CastGates [hCastGates : Cert.CastGates.Facts] : Prop :=
  ∀ (m : (ℓ : Loc Cert.CastGates.nD Cert.CastGates.τ Cert.CastGates.sig) → Buf (Elt Bits) ℓ) (g : Dev Cert.CastGates.nD → PrngReg), Pre_CastGates m →
    θ_run (Cert.CastGates.defs (F := Bits)) (onTc (τ := Cert.CastGates.τ) (Cert.CastGates.main (F := Bits))) ⟨m, fun _ => 0, g⟩ (fun r => (∀ c : Dev Cert.CastGates.nD,
      r.2.mem ((c.tc : Thread Cert.CastGates.nD Cert.CastGates.τ).loc Cert.CastGates.main_arg0) = m ((c.tc : Thread Cert.CastGates.nD Cert.CastGates.τ).loc Cert.CastGates.main_arg0))
      ∧ r.2.sem = fun _ => 0)

def quiescent_CastGatesIdeal [hCastGatesIdeal : Cert.CastGatesIdeal.Facts] : Prop :=
  ∀ (m : (ℓ : Loc Cert.CastGatesIdeal.nD Cert.CastGatesIdeal.τ Cert.CastGatesIdeal.sig) → Buf (Elt Ideal) ℓ) (g : Dev Cert.CastGatesIdeal.nD → PrngReg), Pre_CastGatesIdeal m →
    θ_run (Cert.CastGatesIdeal.defs (F := Ideal)) (onTc (τ := Cert.CastGatesIdeal.τ) (Cert.CastGatesIdeal.main (F := Ideal))) ⟨m, fun _ => 0, g⟩ (fun r => (∀ c : Dev Cert.CastGatesIdeal.nD,
      r.2.mem ((c.tc : Thread Cert.CastGatesIdeal.nD Cert.CastGatesIdeal.τ).loc Cert.CastGatesIdeal.main_arg0) = m ((c.tc : Thread Cert.CastGatesIdeal.nD Cert.CastGatesIdeal.τ).loc Cert.CastGatesIdeal.main_arg0))
      ∧ r.2.sem = fun _ => 0)

def quiescent_CastGatesReferenceIdeal [hCastGatesReferenceIdeal : Cert.CastGatesReferenceIdeal.Facts] : Prop :=
  ∀ (m : (ℓ : Loc Cert.CastGatesReferenceIdeal.nD Cert.CastGatesReferenceIdeal.τ Cert.CastGatesReferenceIdeal.sig) → Buf (Elt Ideal) ℓ) (g : Dev Cert.CastGatesReferenceIdeal.nD → PrngReg), Pre_CastGatesReferenceIdeal m →
    θ_run (Cert.CastGatesReferenceIdeal.defs (F := Ideal)) (onTc (τ := Cert.CastGatesReferenceIdeal.τ) (Cert.CastGatesReferenceIdeal.main (F := Ideal))) ⟨m, fun _ => 0, g⟩ (fun r => (∀ c : Dev Cert.CastGatesReferenceIdeal.nD,
      r.2.mem ((c.tc : Thread Cert.CastGatesReferenceIdeal.nD Cert.CastGatesReferenceIdeal.τ).loc Cert.CastGatesReferenceIdeal.main_arg0) = m ((c.tc : Thread Cert.CastGatesReferenceIdeal.nD Cert.CastGatesReferenceIdeal.τ).loc Cert.CastGatesReferenceIdeal.main_arg0))
      ∧ r.2.sem = fun _ => 0)

def quiescent_CastBranch [hCastBranch : Cert.CastBranch.Facts] : Prop :=
  ∀ (m : (ℓ : Loc Cert.CastBranch.nD Cert.CastBranch.τ Cert.CastBranch.sig) → Buf (Elt Bits) ℓ) (g : Dev Cert.CastBranch.nD → PrngReg), Pre_CastBranch m →
    θ_run (Cert.CastBranch.defs (F := Bits)) (onTc (τ := Cert.CastBranch.τ) (Cert.CastBranch.main (F := Bits))) ⟨m, fun _ => 0, g⟩ (fun r => (∀ c : Dev Cert.CastBranch.nD,
      r.2.mem ((c.tc : Thread Cert.CastBranch.nD Cert.CastBranch.τ).loc Cert.CastBranch.main_arg0) = m ((c.tc : Thread Cert.CastBranch.nD Cert.CastBranch.τ).loc Cert.CastBranch.main_arg0))
      ∧ r.2.sem = fun _ => 0)

def quiescent_CastBranchIdeal [hCastBranchIdeal : Cert.CastBranchIdeal.Facts] : Prop :=
  ∀ (m : (ℓ : Loc Cert.CastBranchIdeal.nD Cert.CastBranchIdeal.τ Cert.CastBranchIdeal.sig) → Buf (Elt Ideal) ℓ) (g : Dev Cert.CastBranchIdeal.nD → PrngReg), Pre_CastBranchIdeal m →
    θ_run (Cert.CastBranchIdeal.defs (F := Ideal)) (onTc (τ := Cert.CastBranchIdeal.τ) (Cert.CastBranchIdeal.main (F := Ideal))) ⟨m, fun _ => 0, g⟩ (fun r => (∀ c : Dev Cert.CastBranchIdeal.nD,
      r.2.mem ((c.tc : Thread Cert.CastBranchIdeal.nD Cert.CastBranchIdeal.τ).loc Cert.CastBranchIdeal.main_arg0) = m ((c.tc : Thread Cert.CastBranchIdeal.nD Cert.CastBranchIdeal.τ).loc Cert.CastBranchIdeal.main_arg0))
      ∧ r.2.sem = fun _ => 0)

def quiescent_CastBranchReferenceIdeal [hCastBranchReferenceIdeal : Cert.CastBranchReferenceIdeal.Facts] : Prop :=
  ∀ (m : (ℓ : Loc Cert.CastBranchReferenceIdeal.nD Cert.CastBranchReferenceIdeal.τ Cert.CastBranchReferenceIdeal.sig) → Buf (Elt Ideal) ℓ) (g : Dev Cert.CastBranchReferenceIdeal.nD → PrngReg), Pre_CastBranchReferenceIdeal m →
    θ_run (Cert.CastBranchReferenceIdeal.defs (F := Ideal)) (onTc (τ := Cert.CastBranchReferenceIdeal.τ) (Cert.CastBranchReferenceIdeal.main (F := Ideal))) ⟨m, fun _ => 0, g⟩ (fun r => (∀ c : Dev Cert.CastBranchReferenceIdeal.nD,
      r.2.mem ((c.tc : Thread Cert.CastBranchReferenceIdeal.nD Cert.CastBranchReferenceIdeal.τ).loc Cert.CastBranchReferenceIdeal.main_arg0) = m ((c.tc : Thread Cert.CastBranchReferenceIdeal.nD Cert.CastBranchReferenceIdeal.τ).loc Cert.CastBranchReferenceIdeal.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutReferenceIdeal [hCastOutReferenceIdeal : Cert.CastOutReferenceIdeal.Facts] : Prop :=
  ∀ (m : (ℓ : Loc Cert.CastOutReferenceIdeal.nD Cert.CastOutReferenceIdeal.τ Cert.CastOutReferenceIdeal.sig) → Buf (Elt Ideal) ℓ) (g : Dev Cert.CastOutReferenceIdeal.nD → PrngReg), Pre_CastOutReferenceIdeal m →
    θ_run (Cert.CastOutReferenceIdeal.defs (F := Ideal)) (onTc (τ := Cert.CastOutReferenceIdeal.τ) (Cert.CastOutReferenceIdeal.main (F := Ideal))) ⟨m, fun _ => 0, g⟩ (fun r => (∀ c : Dev Cert.CastOutReferenceIdeal.nD,
      r.2.mem ((c.tc : Thread Cert.CastOutReferenceIdeal.nD Cert.CastOutReferenceIdeal.τ).loc Cert.CastOutReferenceIdeal.main_arg0) = m ((c.tc : Thread Cert.CastOutReferenceIdeal.nD Cert.CastOutReferenceIdeal.τ).loc Cert.CastOutReferenceIdeal.main_arg0))
      ∧ r.2.sem = fun _ => 0)

def preserves_Kernel_KernelIdeal : Prop :=
  IdealRules.named_const.Statement Cert.KernelIdeal.κ "slope1" .f32 0x3F5744FD#32 (((Real.sqrt (Real.sqrt 2))⁻¹ : ℝ) : EReal)
  ∧ IdealRules.named_const.Statement Cert.KernelIdeal.κ "mask" .f32 0xF149F2CA#32 ⊥
  ∧ IdealRules.named_const.Statement Cert.KernelIdeal.κ "slope2" .f32 0x3F3504F3#32 (((Real.sqrt (Real.sqrt 4))⁻¹ : ℝ) : EReal)
  ∧ IdealRules.named_const.Statement Cert.KernelIdeal.κ "slope3" .f32 0x3F1837F0#32 (((Real.sqrt (Real.sqrt 8))⁻¹ : ℝ) : EReal)
  ∧ IdealRules.named_const.Statement Cert.KernelIdeal.κ "slope5" .f32 0x3ED744FD#32 (((Real.sqrt (Real.sqrt 32))⁻¹ : ℝ) : EReal)
  ∧ IdealRules.named_const.Statement Cert.KernelIdeal.κ "slope6" .f32 0x3EB504F3#32 (((Real.sqrt (Real.sqrt 64))⁻¹ : ℝ) : EReal)
  ∧ IdealRules.named_const.Statement Cert.KernelIdeal.κ "slope7" .f32 0x3E9837F0#32 (((Real.sqrt (Real.sqrt 128))⁻¹ : ℝ) : EReal)
  ∧ IdealRules.named_const.Statement Cert.KernelIdeal.κ "slope9" .f32 0x3E5744FD#32 (((Real.sqrt (Real.sqrt 512))⁻¹ : ℝ) : EReal)
  ∧ IdealRules.named_const.Statement Cert.KernelIdeal.κ "slope10" .f32 0x3E3504F3#32 (((Real.sqrt (Real.sqrt 1024))⁻¹ : ℝ) : EReal)
  ∧ IdealRules.named_const.Statement Cert.KernelIdeal.κ "slope11" .f32 0x3E1837F0#32 (((Real.sqrt (Real.sqrt 2048))⁻¹ : ℝ) : EReal)
  ∧ IdealRules.named_const.Statement Cert.KernelIdeal.κ "slope13" .f32 0x3DD744FD#32 (((Real.sqrt (Real.sqrt 8192))⁻¹ : ℝ) : EReal)
  ∧ IdealRules.named_const.Statement Cert.KernelIdeal.κ "slope14" .f32 0x3DB504F3#32 (((Real.sqrt (Real.sqrt 16384))⁻¹ : ℝ) : EReal)
  ∧ IdealRules.named_const.Statement Cert.KernelIdeal.κ "slope15" .f32 0x3D9837F0#32 (((Real.sqrt (Real.sqrt 32768))⁻¹ : ℝ) : EReal)
  ∧ IdealRules.named_const.Statement Cert.KernelIdeal.κ "slope17" .f32 0x3D5744FD#32 (((Real.sqrt (Real.sqrt 131072))⁻¹ : ℝ) : EReal)
  ∧ IdealRules.named_const.Statement Cert.KernelIdeal.κ "slope18" .f32 0x3D3504F3#32 (((Real.sqrt (Real.sqrt 262144))⁻¹ : ℝ) : EReal)
  ∧ IdealRules.named_const.Statement Cert.KernelIdeal.κ "slope19" .f32 0x3D1837F0#32 (((Real.sqrt (Real.sqrt 524288))⁻¹ : ℝ) : EReal)
  ∧ IdealRules.named_const.Statement Cert.KernelIdeal.κ "slope21" .f32 0x3CD744FD#32 (((Real.sqrt (Real.sqrt 2097152))⁻¹ : ℝ) : EReal)
  ∧ IdealRules.named_const.Statement Cert.KernelIdeal.κ "slope22" .f32 0x3CB504F3#32 (((Real.sqrt (Real.sqrt 4194304))⁻¹ : ℝ) : EReal)
  ∧ IdealRules.named_const.Statement Cert.KernelIdeal.κ "slope23" .f32 0x3C9837F0#32 (((Real.sqrt (Real.sqrt 8388608))⁻¹ : ℝ) : EReal)
  ∧ IdealRules.named_const.Statement Cert.KernelIdeal.κ "slope25" .f32 0x3C5744FD#32 (((Real.sqrt (Real.sqrt 33554432))⁻¹ : ℝ) : EReal)
  ∧ IdealRules.named_const.Statement Cert.KernelIdeal.κ "slope26" .f32 0x3C3504F3#32 (((Real.sqrt (Real.sqrt 67108864))⁻¹ : ℝ) : EReal)
  ∧ IdealRules.named_const.Statement Cert.KernelIdeal.κ "slope27" .f32 0x3C1837F0#32 (((Real.sqrt (Real.sqrt 134217728))⁻¹ : ℝ) : EReal)
  ∧ IdealRules.named_const.Statement Cert.KernelIdeal.κ "slope29" .f32 0x3BD744FD#32 (((Real.sqrt (Real.sqrt 536870912))⁻¹ : ℝ) : EReal)
  ∧ IdealRules.named_const.Statement Cert.KernelIdeal.κ "slope30" .f32 0x3BB504F3#32 (((Real.sqrt (Real.sqrt 1073741824))⁻¹ : ℝ) : EReal)
  ∧ IdealRules.named_const.Statement Cert.KernelIdeal.κ "slope31" .f32 0x3B9837F0#32 (((Real.sqrt (Real.sqrt 2147483648))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_PreNorm_PreNormIdeal : Prop :=
  True

def algebraic_PreNormIdeal_PreNormReferenceIdeal [hPreNormIdeal : Cert.PreNormIdeal.Facts] [hPreNormReferenceIdeal : Cert.PreNormReferenceIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormReferenceIdeal.nD Cert.PreNormReferenceIdeal.τ Cert.PreNormReferenceIdeal.sig) → Buf (Elt Ideal) ℓ) (g' : Dev Cert.PreNormReferenceIdeal.nD → PrngReg), Pre_PreNormIdeal m →
    (∀ c : Dev Cert.PreNormIdeal.nD,
      m' ((c.tc : Thread Cert.PreNormReferenceIdeal.nD Cert.PreNormReferenceIdeal.τ).loc Cert.PreNormReferenceIdeal.main_arg0) = m ((c.tc : Thread Cert.PreNormIdeal.nD Cert.PreNormIdeal.τ).loc Cert.PreNormIdeal.main_arg0)
      ∧ m' ((c.tc : Thread Cert.PreNormReferenceIdeal.nD Cert.PreNormReferenceIdeal.τ).loc Cert.PreNormReferenceIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v2)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v2) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormReferenceIdeal.defs (F := Ideal)) (onTc (τ := Cert.PreNormReferenceIdeal.τ) (Cert.PreNormReferenceIdeal.main (F := Ideal))) ⟨m', fun _ => 0, g'⟩ (fun r => ∀ c : Dev Cert.PreNormReferenceIdeal.nD,
          r.2.mem ((c.tc : Thread Cert.PreNormReferenceIdeal.nD Cert.PreNormReferenceIdeal.τ).loc Cert.PreNormReferenceIdeal.main_v14) = v0 c
          ∧ r.2.mem ((c.tc : Thread Cert.PreNormReferenceIdeal.nD Cert.PreNormReferenceIdeal.τ).loc Cert.PreNormReferenceIdeal.main_arg0) = m' ((c.tc : Thread Cert.PreNormReferenceIdeal.nD Cert.PreNormReferenceIdeal.τ).loc Cert.PreNormReferenceIdeal.main_arg0)
          ∧ r.2.mem ((c.tc : Thread Cert.PreNormReferenceIdeal.nD Cert.PreNormReferenceIdeal.τ).loc Cert.PreNormReferenceIdeal.main_arg1) = m' ((c.tc : Thread Cert.PreNormReferenceIdeal.nD Cert.PreNormReferenceIdeal.τ).loc Cert.PreNormReferenceIdeal.main_arg1))

def preserves_InMain_InMainIdeal : Prop :=
  True

def algebraic_InMainIdeal_InMainReferenceIdeal [hInMainIdeal : Cert.InMainIdeal.Facts] [hInMainReferenceIdeal : Cert.InMainReferenceIdeal.Facts] : Prop :=
  ∀ (m : (ℓ : Loc Cert.InMainIdeal.nD Cert.InMainIdeal.τ Cert.InMainIdeal.sig) → Buf (Elt Ideal) ℓ) (g : Dev Cert.InMainIdeal.nD → PrngReg)
    (m' : (ℓ : Loc Cert.InMainReferenceIdeal.nD Cert.InMainReferenceIdeal.τ Cert.InMainReferenceIdeal.sig) → Buf (Elt Ideal) ℓ) (g' : Dev Cert.InMainReferenceIdeal.nD → PrngReg), Pre_InMainIdeal m →
    (∀ c : Dev Cert.InMainIdeal.nD,
      m' ((c.tc : Thread Cert.InMainReferenceIdeal.nD Cert.InMainReferenceIdeal.τ).loc Cert.InMainReferenceIdeal.main_arg0) = m ((c.tc : Thread Cert.InMainIdeal.nD Cert.InMainIdeal.τ).loc Cert.InMainIdeal.main_arg0)
      ∧ m' ((c.tc : Thread Cert.InMainReferenceIdeal.nD Cert.InMainReferenceIdeal.τ).loc Cert.InMainReferenceIdeal.main_arg1) = m ((c.tc : Thread Cert.InMainIdeal.nD Cert.InMainIdeal.τ).loc Cert.InMainIdeal.main_arg1)) →
    ∃ (v0 : (c : Dev Cert.InMainIdeal.nD) → Buf (Elt Ideal) ((c.tc : Thread Cert.InMainIdeal.nD Cert.InMainIdeal.τ).loc Cert.InMainIdeal.main_v9)),
      θ_run (Cert.InMainIdeal.defs (F := Ideal)) (onTc (τ := Cert.InMainIdeal.τ) (Cert.InMainIdeal.main (F := Ideal))) ⟨m, fun _ => 0, g⟩ (fun r => ∀ c : Dev Cert.InMainIdeal.nD,
          r.2.mem ((c.tc : Thread Cert.InMainIdeal.nD Cert.InMainIdeal.τ).loc Cert.InMainIdeal.main_v9) = v0 c
          ∧ r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
          ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ θ_run (Cert.InMainReferenceIdeal.defs (F := Ideal)) (onTc (τ := Cert.InMainReferenceIdeal.τ) (Cert.InMainReferenceIdeal.main (F := Ideal))) ⟨m', fun _ => 0, g'⟩ (fun r => ∀ c : Dev Cert.InMainReferenceIdeal.nD,
          r.2.mem ((c.tc : Thread Cert.InMainReferenceIdeal.nD Cert.InMainReferenceIdeal.τ).loc Cert.InMainReferenceIdeal.main_v15) = v0 c
          ∧ r.2.mem ((c.tc : Thread Cert.InMainReferenceIdeal.nD Cert.InMainReferenceIdeal.τ).loc Cert.InMainReferenceIdeal.main_arg0) = m' ((c.tc : Thread Cert.InMainReferenceIdeal.nD Cert.InMainReferenceIdeal.τ).loc Cert.InMainReferenceIdeal.main_arg0)
          ∧ r.2.mem ((c.tc : Thread Cert.InMainReferenceIdeal.nD Cert.InMainReferenceIdeal.τ).loc Cert.InMainReferenceIdeal.main_arg1) = m' ((c.tc : Thread Cert.InMainReferenceIdeal.nD Cert.InMainReferenceIdeal.τ).loc Cert.InMainReferenceIdeal.main_arg1))

def preserves_InGates_InGatesIdeal : Prop :=
  True

def algebraic_InGatesIdeal_InGatesReferenceIdeal [hInGatesIdeal : Cert.InGatesIdeal.Facts] [hInGatesReferenceIdeal : Cert.InGatesReferenceIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesReferenceIdeal.nD Cert.InGatesReferenceIdeal.τ Cert.InGatesReferenceIdeal.sig) → Buf (Elt Ideal) ℓ) (g' : Dev Cert.InGatesReferenceIdeal.nD → PrngReg), Pre_InGatesIdeal m →
    (∀ c : Dev Cert.InGatesIdeal.nD,
      m' ((c.tc : Thread Cert.InGatesReferenceIdeal.nD Cert.InGatesReferenceIdeal.τ).loc Cert.InGatesReferenceIdeal.main_arg0) = m ((c.tc : Thread Cert.InGatesIdeal.nD Cert.InGatesIdeal.τ).loc Cert.InGatesIdeal.main_arg0)
      ∧ m' ((c.tc : Thread Cert.InGatesReferenceIdeal.nD Cert.InGatesReferenceIdeal.τ).loc Cert.InGatesReferenceIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v5)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v5) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesReferenceIdeal.defs (F := Ideal)) (onTc (τ := Cert.InGatesReferenceIdeal.τ) (Cert.InGatesReferenceIdeal.main (F := Ideal))) ⟨m', fun _ => 0, g'⟩ (fun r => ∀ c : Dev Cert.InGatesReferenceIdeal.nD,
          r.2.mem ((c.tc : Thread Cert.InGatesReferenceIdeal.nD Cert.InGatesReferenceIdeal.τ).loc Cert.InGatesReferenceIdeal.main_v14) = v0 c
          ∧ r.2.mem ((c.tc : Thread Cert.InGatesReferenceIdeal.nD Cert.InGatesReferenceIdeal.τ).loc Cert.InGatesReferenceIdeal.main_arg0) = m' ((c.tc : Thread Cert.InGatesReferenceIdeal.nD Cert.InGatesReferenceIdeal.τ).loc Cert.InGatesReferenceIdeal.main_arg0)
          ∧ r.2.mem ((c.tc : Thread Cert.InGatesReferenceIdeal.nD Cert.InGatesReferenceIdeal.τ).loc Cert.InGatesReferenceIdeal.main_arg1) = m' ((c.tc : Thread Cert.InGatesReferenceIdeal.nD Cert.InGatesReferenceIdeal.τ).loc Cert.InGatesReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v22) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_PostNorm_PostNormIdeal : Prop :=
  True

def algebraic_PostNormIdeal_PostNormReferenceIdeal [hPostNormIdeal : Cert.PostNormIdeal.Facts] [hPostNormReferenceIdeal : Cert.PostNormReferenceIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormReferenceIdeal.nD Cert.PostNormReferenceIdeal.τ Cert.PostNormReferenceIdeal.sig) → Buf (Elt Ideal) ℓ) (g' : Dev Cert.PostNormReferenceIdeal.nD → PrngReg), Pre_PostNormIdeal m →
    (∀ c : Dev Cert.PostNormIdeal.nD,
      m' ((c.tc : Thread Cert.PostNormReferenceIdeal.nD Cert.PostNormReferenceIdeal.τ).loc Cert.PostNormReferenceIdeal.main_arg0) = m ((c.tc : Thread Cert.PostNormIdeal.nD Cert.PostNormIdeal.τ).loc Cert.PostNormIdeal.main_arg0)
      ∧ m' ((c.tc : Thread Cert.PostNormReferenceIdeal.nD Cert.PostNormReferenceIdeal.τ).loc Cert.PostNormReferenceIdeal.main_arg1) = m ((c.tc : Thread Cert.PostNormIdeal.nD Cert.PostNormIdeal.τ).loc Cert.PostNormIdeal.main_arg1)
      ∧ m' ((c.tc : Thread Cert.PostNormReferenceIdeal.nD Cert.PostNormReferenceIdeal.τ).loc Cert.PostNormReferenceIdeal.main_arg2) = m ((c.tc : Thread Cert.PostNormIdeal.nD Cert.PostNormIdeal.τ).loc Cert.PostNormIdeal.main_arg2)) →
    ∃ (v0 : (c : Dev Cert.PostNormIdeal.nD) → Buf (Elt Ideal) ((c.tc : Thread Cert.PostNormIdeal.nD Cert.PostNormIdeal.τ).loc Cert.PostNormIdeal.main_v3)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v3) = v0 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ θ_run (Cert.PostNormReferenceIdeal.defs (F := Ideal)) (onTc (τ := Cert.PostNormReferenceIdeal.τ) (Cert.PostNormReferenceIdeal.main (F := Ideal))) ⟨m', fun _ => 0, g'⟩ (fun r => ∀ c : Dev Cert.PostNormReferenceIdeal.nD,
          r.2.mem ((c.tc : Thread Cert.PostNormReferenceIdeal.nD Cert.PostNormReferenceIdeal.τ).loc Cert.PostNormReferenceIdeal.main_v14) = v0 c
          ∧ r.2.mem ((c.tc : Thread Cert.PostNormReferenceIdeal.nD Cert.PostNormReferenceIdeal.τ).loc Cert.PostNormReferenceIdeal.main_arg0) = m' ((c.tc : Thread Cert.PostNormReferenceIdeal.nD Cert.PostNormReferenceIdeal.τ).loc Cert.PostNormReferenceIdeal.main_arg0)
          ∧ r.2.mem ((c.tc : Thread Cert.PostNormReferenceIdeal.nD Cert.PostNormReferenceIdeal.τ).loc Cert.PostNormReferenceIdeal.main_arg1) = m' ((c.tc : Thread Cert.PostNormReferenceIdeal.nD Cert.PostNormReferenceIdeal.τ).loc Cert.PostNormReferenceIdeal.main_arg1)
          ∧ r.2.mem ((c.tc : Thread Cert.PostNormReferenceIdeal.nD Cert.PostNormReferenceIdeal.τ).loc Cert.PostNormReferenceIdeal.main_arg2) = m' ((c.tc : Thread Cert.PostNormReferenceIdeal.nD Cert.PostNormReferenceIdeal.τ).loc Cert.PostNormReferenceIdeal.main_arg2))

def preserves_PostPreNorm_PostPreNormIdeal : Prop :=
  True

def algebraic_PostPreNormIdeal_PostPreNormReferenceIdeal [hPostPreNormIdeal : Cert.PostPreNormIdeal.Facts] [hPostPreNormReferenceIdeal : Cert.PostPreNormReferenceIdeal.Facts] : Prop :=
  ∀ (m : (ℓ : Loc Cert.PostPreNormIdeal.nD Cert.PostPreNormIdeal.τ Cert.PostPreNormIdeal.sig) → Buf (Elt Ideal) ℓ) (g : Dev Cert.PostPreNormIdeal.nD → PrngReg)
    (m' : (ℓ : Loc Cert.PostPreNormReferenceIdeal.nD Cert.PostPreNormReferenceIdeal.τ Cert.PostPreNormReferenceIdeal.sig) → Buf (Elt Ideal) ℓ) (g' : Dev Cert.PostPreNormReferenceIdeal.nD → PrngReg), Pre_PostPreNormIdeal m →
    (∀ c : Dev Cert.PostPreNormIdeal.nD,
      m' ((c.tc : Thread Cert.PostPreNormReferenceIdeal.nD Cert.PostPreNormReferenceIdeal.τ).loc Cert.PostPreNormReferenceIdeal.main_arg0) = m ((c.tc : Thread Cert.PostPreNormIdeal.nD Cert.PostPreNormIdeal.τ).loc Cert.PostPreNormIdeal.main_arg0)
      ∧ m' ((c.tc : Thread Cert.PostPreNormReferenceIdeal.nD Cert.PostPreNormReferenceIdeal.τ).loc Cert.PostPreNormReferenceIdeal.main_arg1) = m ((c.tc : Thread Cert.PostPreNormIdeal.nD Cert.PostPreNormIdeal.τ).loc Cert.PostPreNormIdeal.main_arg1)
      ∧ m' ((c.tc : Thread Cert.PostPreNormReferenceIdeal.nD Cert.PostPreNormReferenceIdeal.τ).loc Cert.PostPreNormReferenceIdeal.main_arg2) = m ((c.tc : Thread Cert.PostPreNormIdeal.nD Cert.PostPreNormIdeal.τ).loc Cert.PostPreNormIdeal.main_arg2)
      ∧ m' ((c.tc : Thread Cert.PostPreNormReferenceIdeal.nD Cert.PostPreNormReferenceIdeal.τ).loc Cert.PostPreNormReferenceIdeal.main_arg3) = m ((c.tc : Thread Cert.PostPreNormIdeal.nD Cert.PostPreNormIdeal.τ).loc Cert.PostPreNormIdeal.main_arg3)) →
    ∃ (v0 : (c : Dev Cert.PostPreNormIdeal.nD) → Buf (Elt Ideal) ((c.tc : Thread Cert.PostPreNormIdeal.nD Cert.PostPreNormIdeal.τ).loc Cert.PostPreNormIdeal.main_v4_0)) (v1 : (c : Dev Cert.PostPreNormIdeal.nD) → Buf (Elt Ideal) ((c.tc : Thread Cert.PostPreNormIdeal.nD Cert.PostPreNormIdeal.τ).loc Cert.PostPreNormIdeal.main_v4_1)),
      θ_run (Cert.PostPreNormIdeal.defs (F := Ideal)) (onTc (τ := Cert.PostPreNormIdeal.τ) (Cert.PostPreNormIdeal.main (F := Ideal))) ⟨m, fun _ => 0, g⟩ (fun r => ∀ c : Dev Cert.PostPreNormIdeal.nD,
          r.2.mem ((c.tc : Thread Cert.PostPreNormIdeal.nD Cert.PostPreNormIdeal.τ).loc Cert.PostPreNormIdeal.main_v4_0) = v0 c
          ∧ r.2.mem ((c.tc : Thread Cert.PostPreNormIdeal.nD Cert.PostPreNormIdeal.τ).loc Cert.PostPreNormIdeal.main_v4_1) = v1 c
          ∧ r.2.mem ((c.tc : Thread Cert.PostPreNormIdeal.nD Cert.PostPreNormIdeal.τ).loc Cert.PostPreNormIdeal.main_arg0) = m ((c.tc : Thread Cert.PostPreNormIdeal.nD Cert.PostPreNormIdeal.τ).loc Cert.PostPreNormIdeal.main_arg0)
          ∧ r.2.mem ((c.tc : Thread Cert.PostPreNormIdeal.nD Cert.PostPreNormIdeal.τ).loc Cert.PostPreNormIdeal.main_arg1) = m ((c.tc : Thread Cert.PostPreNormIdeal.nD Cert.PostPreNormIdeal.τ).loc Cert.PostPreNormIdeal.main_arg1)
          ∧ r.2.mem ((c.tc : Thread Cert.PostPreNormIdeal.nD Cert.PostPreNormIdeal.τ).loc Cert.PostPreNormIdeal.main_arg2) = m ((c.tc : Thread Cert.PostPreNormIdeal.nD Cert.PostPreNormIdeal.τ).loc Cert.PostPreNormIdeal.main_arg2)
          ∧ r.2.mem ((c.tc : Thread Cert.PostPreNormIdeal.nD Cert.PostPreNormIdeal.τ).loc Cert.PostPreNormIdeal.main_arg3) = m ((c.tc : Thread Cert.PostPreNormIdeal.nD Cert.PostPreNormIdeal.τ).loc Cert.PostPreNormIdeal.main_arg3))
      ∧ θ_run (Cert.PostPreNormReferenceIdeal.defs (F := Ideal)) (onTc (τ := Cert.PostPreNormReferenceIdeal.τ) (Cert.PostPreNormReferenceIdeal.main (F := Ideal))) ⟨m', fun _ => 0, g'⟩ (fun r => ∀ c : Dev Cert.PostPreNormReferenceIdeal.nD,
          r.2.mem ((c.tc : Thread Cert.PostPreNormReferenceIdeal.nD Cert.PostPreNormReferenceIdeal.τ).loc Cert.PostPreNormReferenceIdeal.main_v14) = v0 c
          ∧ r.2.mem ((c.tc : Thread Cert.PostPreNormReferenceIdeal.nD Cert.PostPreNormReferenceIdeal.τ).loc Cert.PostPreNormReferenceIdeal.main_v29) = v1 c
          ∧ r.2.mem ((c.tc : Thread Cert.PostPreNormReferenceIdeal.nD Cert.PostPreNormReferenceIdeal.τ).loc Cert.PostPreNormReferenceIdeal.main_arg0) = m' ((c.tc : Thread Cert.PostPreNormReferenceIdeal.nD Cert.PostPreNormReferenceIdeal.τ).loc Cert.PostPreNormReferenceIdeal.main_arg0)
          ∧ r.2.mem ((c.tc : Thread Cert.PostPreNormReferenceIdeal.nD Cert.PostPreNormReferenceIdeal.τ).loc Cert.PostPreNormReferenceIdeal.main_arg1) = m' ((c.tc : Thread Cert.PostPreNormReferenceIdeal.nD Cert.PostPreNormReferenceIdeal.τ).loc Cert.PostPreNormReferenceIdeal.main_arg1)
          ∧ r.2.mem ((c.tc : Thread Cert.PostPreNormReferenceIdeal.nD Cert.PostPreNormReferenceIdeal.τ).loc Cert.PostPreNormReferenceIdeal.main_arg2) = m' ((c.tc : Thread Cert.PostPreNormReferenceIdeal.nD Cert.PostPreNormReferenceIdeal.τ).loc Cert.PostPreNormReferenceIdeal.main_arg2)
          ∧ r.2.mem ((c.tc : Thread Cert.PostPreNormReferenceIdeal.nD Cert.PostPreNormReferenceIdeal.τ).loc Cert.PostPreNormReferenceIdeal.main_arg3) = m' ((c.tc : Thread Cert.PostPreNormReferenceIdeal.nD Cert.PostPreNormReferenceIdeal.τ).loc Cert.PostPreNormReferenceIdeal.main_arg3))

def preserves_DeltaNet_DeltaNetIdeal : Prop :=
  True

def preserves_DeltaGates_DeltaGatesIdeal : Prop :=
  True

def algebraic_DeltaGatesIdeal_DeltaGatesReferenceIdeal_pre_finite_gates [hDeltaGatesIdeal : Cert.DeltaGatesIdeal.Facts] [hDeltaGatesReferenceIdeal : Cert.DeltaGatesReferenceIdeal.Facts] [hPre_finite_gates : Cert.Pre_finite_gates.Facts] : Prop :=
  ∀ (m : (ℓ : Loc Cert.DeltaGatesIdeal.nD Cert.DeltaGatesIdeal.τ Cert.DeltaGatesIdeal.sig) → Buf (Elt Ideal) ℓ) (g : Dev Cert.DeltaGatesIdeal.nD → PrngReg)
    (m' : (ℓ : Loc Cert.DeltaGatesReferenceIdeal.nD Cert.DeltaGatesReferenceIdeal.τ Cert.DeltaGatesReferenceIdeal.sig) → Buf (Elt Ideal) ℓ) (g' : Dev Cert.DeltaGatesReferenceIdeal.nD → PrngReg), Pre_DeltaGatesIdeal_finite_gates m →
    (∀ c : Dev Cert.DeltaGatesIdeal.nD,
      m' ((c.tc : Thread Cert.DeltaGatesReferenceIdeal.nD Cert.DeltaGatesReferenceIdeal.τ).loc Cert.DeltaGatesReferenceIdeal.main_arg0) = m ((c.tc : Thread Cert.DeltaGatesIdeal.nD Cert.DeltaGatesIdeal.τ).loc Cert.DeltaGatesIdeal.main_arg0)
      ∧ m' ((c.tc : Thread Cert.DeltaGatesReferenceIdeal.nD Cert.DeltaGatesReferenceIdeal.τ).loc Cert.DeltaGatesReferenceIdeal.main_arg1) = m ((c.tc : Thread Cert.DeltaGatesIdeal.nD Cert.DeltaGatesIdeal.τ).loc Cert.DeltaGatesIdeal.main_arg1)
      ∧ m' ((c.tc : Thread Cert.DeltaGatesReferenceIdeal.nD Cert.DeltaGatesReferenceIdeal.τ).loc Cert.DeltaGatesReferenceIdeal.main_arg2) = m ((c.tc : Thread Cert.DeltaGatesIdeal.nD Cert.DeltaGatesIdeal.τ).loc Cert.DeltaGatesIdeal.main_arg2)) →
    ∃ (v0 : (c : Dev Cert.DeltaGatesIdeal.nD) → Buf (Elt Ideal) ((c.tc : Thread Cert.DeltaGatesIdeal.nD Cert.DeltaGatesIdeal.τ).loc Cert.DeltaGatesIdeal.main_v15)) (v1 : (c : Dev Cert.DeltaGatesIdeal.nD) → Buf (Elt Ideal) ((c.tc : Thread Cert.DeltaGatesIdeal.nD Cert.DeltaGatesIdeal.τ).loc Cert.DeltaGatesIdeal.main_v16)) (v2 : (c : Dev Cert.DeltaGatesIdeal.nD) → Buf (Elt Ideal) ((c.tc : Thread Cert.DeltaGatesIdeal.nD Cert.DeltaGatesIdeal.τ).loc Cert.DeltaGatesIdeal.main_v17)) (v3 : (c : Dev Cert.DeltaGatesIdeal.nD) → Buf (Elt Ideal) ((c.tc : Thread Cert.DeltaGatesIdeal.nD Cert.DeltaGatesIdeal.τ).loc Cert.DeltaGatesIdeal.main_v14_3)),
      θ_run (Cert.DeltaGatesIdeal.defs (F := Ideal)) (onTc (τ := Cert.DeltaGatesIdeal.τ) (Cert.DeltaGatesIdeal.main (F := Ideal))) ⟨m, fun _ => 0, g⟩ (fun r => ∀ c : Dev Cert.DeltaGatesIdeal.nD,
          r.2.mem ((c.tc : Thread Cert.DeltaGatesIdeal.nD Cert.DeltaGatesIdeal.τ).loc Cert.DeltaGatesIdeal.main_v15) = v0 c
          ∧ r.2.mem ((c.tc : Thread Cert.DeltaGatesIdeal.nD Cert.DeltaGatesIdeal.τ).loc Cert.DeltaGatesIdeal.main_v16) = v1 c
          ∧ r.2.mem ((c.tc : Thread Cert.DeltaGatesIdeal.nD Cert.DeltaGatesIdeal.τ).loc Cert.DeltaGatesIdeal.main_v17) = v2 c
          ∧ r.2.mem ((c.tc : Thread Cert.DeltaGatesIdeal.nD Cert.DeltaGatesIdeal.τ).loc Cert.DeltaGatesIdeal.main_v14_3) = v3 c
          ∧ r.2.mem ((c.tc : Thread Cert.DeltaGatesIdeal.nD Cert.DeltaGatesIdeal.τ).loc Cert.DeltaGatesIdeal.main_arg0) = m ((c.tc : Thread Cert.DeltaGatesIdeal.nD Cert.DeltaGatesIdeal.τ).loc Cert.DeltaGatesIdeal.main_arg0)
          ∧ r.2.mem ((c.tc : Thread Cert.DeltaGatesIdeal.nD Cert.DeltaGatesIdeal.τ).loc Cert.DeltaGatesIdeal.main_arg1) = m ((c.tc : Thread Cert.DeltaGatesIdeal.nD Cert.DeltaGatesIdeal.τ).loc Cert.DeltaGatesIdeal.main_arg1)
          ∧ r.2.mem ((c.tc : Thread Cert.DeltaGatesIdeal.nD Cert.DeltaGatesIdeal.τ).loc Cert.DeltaGatesIdeal.main_arg2) = m ((c.tc : Thread Cert.DeltaGatesIdeal.nD Cert.DeltaGatesIdeal.τ).loc Cert.DeltaGatesIdeal.main_arg2))
      ∧ θ_run (Cert.DeltaGatesReferenceIdeal.defs (F := Ideal)) (onTc (τ := Cert.DeltaGatesReferenceIdeal.τ) (Cert.DeltaGatesReferenceIdeal.main (F := Ideal))) ⟨m', fun _ => 0, g'⟩ (fun r => ∀ c : Dev Cert.DeltaGatesReferenceIdeal.nD,
          r.2.mem ((c.tc : Thread Cert.DeltaGatesReferenceIdeal.nD Cert.DeltaGatesReferenceIdeal.τ).loc Cert.DeltaGatesReferenceIdeal.main_v31) = v0 c
          ∧ r.2.mem ((c.tc : Thread Cert.DeltaGatesReferenceIdeal.nD Cert.DeltaGatesReferenceIdeal.τ).loc Cert.DeltaGatesReferenceIdeal.main_v33) = v1 c
          ∧ r.2.mem ((c.tc : Thread Cert.DeltaGatesReferenceIdeal.nD Cert.DeltaGatesReferenceIdeal.τ).loc Cert.DeltaGatesReferenceIdeal.main_v35) = v2 c
          ∧ r.2.mem ((c.tc : Thread Cert.DeltaGatesReferenceIdeal.nD Cert.DeltaGatesReferenceIdeal.τ).loc Cert.DeltaGatesReferenceIdeal.main_v37) = v3 c
          ∧ r.2.mem ((c.tc : Thread Cert.DeltaGatesReferenceIdeal.nD Cert.DeltaGatesReferenceIdeal.τ).loc Cert.DeltaGatesReferenceIdeal.main_arg0) = m' ((c.tc : Thread Cert.DeltaGatesReferenceIdeal.nD Cert.DeltaGatesReferenceIdeal.τ).loc Cert.DeltaGatesReferenceIdeal.main_arg0)
          ∧ r.2.mem ((c.tc : Thread Cert.DeltaGatesReferenceIdeal.nD Cert.DeltaGatesReferenceIdeal.τ).loc Cert.DeltaGatesReferenceIdeal.main_arg1) = m' ((c.tc : Thread Cert.DeltaGatesReferenceIdeal.nD Cert.DeltaGatesReferenceIdeal.τ).loc Cert.DeltaGatesReferenceIdeal.main_arg1)
          ∧ r.2.mem ((c.tc : Thread Cert.DeltaGatesReferenceIdeal.nD Cert.DeltaGatesReferenceIdeal.τ).loc Cert.DeltaGatesReferenceIdeal.main_arg2) = m' ((c.tc : Thread Cert.DeltaGatesReferenceIdeal.nD Cert.DeltaGatesReferenceIdeal.τ).loc Cert.DeltaGatesReferenceIdeal.main_arg2))

def preserves_CastIn_CastInIdeal : Prop :=
  True

def algebraic_CastInIdeal_CastInReferenceIdeal [hCastInIdeal : Cert.CastInIdeal.Facts] [hCastInReferenceIdeal : Cert.CastInReferenceIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInReferenceIdeal.nD Cert.CastInReferenceIdeal.τ Cert.CastInReferenceIdeal.sig) → Buf (Elt Ideal) ℓ) (g' : Dev Cert.CastInReferenceIdeal.nD → PrngReg), Pre_CastInIdeal m →
    (∀ c : Dev Cert.CastInIdeal.nD,
      m' ((c.tc : Thread Cert.CastInReferenceIdeal.nD Cert.CastInReferenceIdeal.τ).loc Cert.CastInReferenceIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v1)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v1) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInReferenceIdeal.defs (F := Ideal)) (onTc (τ := Cert.CastInReferenceIdeal.τ) (Cert.CastInReferenceIdeal.main (F := Ideal))) ⟨m', fun _ => 0, g'⟩ (fun r => ∀ c : Dev Cert.CastInReferenceIdeal.nD,
          r.2.mem ((c.tc : Thread Cert.CastInReferenceIdeal.nD Cert.CastInReferenceIdeal.τ).loc Cert.CastInReferenceIdeal.main_v13) = v0 c
          ∧ r.2.mem ((c.tc : Thread Cert.CastInReferenceIdeal.nD Cert.CastInReferenceIdeal.τ).loc Cert.CastInReferenceIdeal.main_arg0) = m' ((c.tc : Thread Cert.CastInReferenceIdeal.nD Cert.CastInReferenceIdeal.τ).loc Cert.CastInReferenceIdeal.main_arg0))

def preserves_CastGates_CastGatesIdeal : Prop :=
  True

def algebraic_CastGatesIdeal_CastGatesReferenceIdeal [hCastGatesIdeal : Cert.CastGatesIdeal.Facts] [hCastGatesReferenceIdeal : Cert.CastGatesReferenceIdeal.Facts] : Prop :=
  ∀ (m : (ℓ : Loc Cert.CastGatesIdeal.nD Cert.CastGatesIdeal.τ Cert.CastGatesIdeal.sig) → Buf (Elt Ideal) ℓ) (g : Dev Cert.CastGatesIdeal.nD → PrngReg)
    (m' : (ℓ : Loc Cert.CastGatesReferenceIdeal.nD Cert.CastGatesReferenceIdeal.τ Cert.CastGatesReferenceIdeal.sig) → Buf (Elt Ideal) ℓ) (g' : Dev Cert.CastGatesReferenceIdeal.nD → PrngReg), Pre_CastGatesIdeal m →
    (∀ c : Dev Cert.CastGatesIdeal.nD,
      m' ((c.tc : Thread Cert.CastGatesReferenceIdeal.nD Cert.CastGatesReferenceIdeal.τ).loc Cert.CastGatesReferenceIdeal.main_arg0) = m ((c.tc : Thread Cert.CastGatesIdeal.nD Cert.CastGatesIdeal.τ).loc Cert.CastGatesIdeal.main_arg0)) →
    ∃ (v0 : (c : Dev Cert.CastGatesIdeal.nD) → Buf (Elt Ideal) ((c.tc : Thread Cert.CastGatesIdeal.nD Cert.CastGatesIdeal.τ).loc Cert.CastGatesIdeal.main_v1)),
      θ_run (Cert.CastGatesIdeal.defs (F := Ideal)) (onTc (τ := Cert.CastGatesIdeal.τ) (Cert.CastGatesIdeal.main (F := Ideal))) ⟨m, fun _ => 0, g⟩ (fun r => ∀ c : Dev Cert.CastGatesIdeal.nD,
          r.2.mem ((c.tc : Thread Cert.CastGatesIdeal.nD Cert.CastGatesIdeal.τ).loc Cert.CastGatesIdeal.main_v1) = v0 c
          ∧ r.2.mem ((c.tc : Thread Cert.CastGatesIdeal.nD Cert.CastGatesIdeal.τ).loc Cert.CastGatesIdeal.main_arg0) = m ((c.tc : Thread Cert.CastGatesIdeal.nD Cert.CastGatesIdeal.τ).loc Cert.CastGatesIdeal.main_arg0))
      ∧ θ_run (Cert.CastGatesReferenceIdeal.defs (F := Ideal)) (onTc (τ := Cert.CastGatesReferenceIdeal.τ) (Cert.CastGatesReferenceIdeal.main (F := Ideal))) ⟨m', fun _ => 0, g'⟩ (fun r => ∀ c : Dev Cert.CastGatesReferenceIdeal.nD,
          r.2.mem ((c.tc : Thread Cert.CastGatesReferenceIdeal.nD Cert.CastGatesReferenceIdeal.τ).loc Cert.CastGatesReferenceIdeal.main_v12) = v0 c
          ∧ r.2.mem ((c.tc : Thread Cert.CastGatesReferenceIdeal.nD Cert.CastGatesReferenceIdeal.τ).loc Cert.CastGatesReferenceIdeal.main_arg0) = m' ((c.tc : Thread Cert.CastGatesReferenceIdeal.nD Cert.CastGatesReferenceIdeal.τ).loc Cert.CastGatesReferenceIdeal.main_arg0))

def preserves_CastBranch_CastBranchIdeal : Prop :=
  True

def algebraic_CastBranchIdeal_CastBranchReferenceIdeal [hCastBranchIdeal : Cert.CastBranchIdeal.Facts] [hCastBranchReferenceIdeal : Cert.CastBranchReferenceIdeal.Facts] : Prop :=
  ∀ (m : (ℓ : Loc Cert.CastBranchIdeal.nD Cert.CastBranchIdeal.τ Cert.CastBranchIdeal.sig) → Buf (Elt Ideal) ℓ) (g : Dev Cert.CastBranchIdeal.nD → PrngReg)
    (m' : (ℓ : Loc Cert.CastBranchReferenceIdeal.nD Cert.CastBranchReferenceIdeal.τ Cert.CastBranchReferenceIdeal.sig) → Buf (Elt Ideal) ℓ) (g' : Dev Cert.CastBranchReferenceIdeal.nD → PrngReg), Pre_CastBranchIdeal m →
    (∀ c : Dev Cert.CastBranchIdeal.nD,
      m' ((c.tc : Thread Cert.CastBranchReferenceIdeal.nD Cert.CastBranchReferenceIdeal.τ).loc Cert.CastBranchReferenceIdeal.main_arg0) = m ((c.tc : Thread Cert.CastBranchIdeal.nD Cert.CastBranchIdeal.τ).loc Cert.CastBranchIdeal.main_arg0)) →
    ∃ (v0 : (c : Dev Cert.CastBranchIdeal.nD) → Buf (Elt Ideal) ((c.tc : Thread Cert.CastBranchIdeal.nD Cert.CastBranchIdeal.τ).loc Cert.CastBranchIdeal.main_v0)),
      θ_run (Cert.CastBranchIdeal.defs (F := Ideal)) (onTc (τ := Cert.CastBranchIdeal.τ) (Cert.CastBranchIdeal.main (F := Ideal))) ⟨m, fun _ => 0, g⟩ (fun r => ∀ c : Dev Cert.CastBranchIdeal.nD,
          r.2.mem ((c.tc : Thread Cert.CastBranchIdeal.nD Cert.CastBranchIdeal.τ).loc Cert.CastBranchIdeal.main_v0) = v0 c
          ∧ r.2.mem ((c.tc : Thread Cert.CastBranchIdeal.nD Cert.CastBranchIdeal.τ).loc Cert.CastBranchIdeal.main_arg0) = m ((c.tc : Thread Cert.CastBranchIdeal.nD Cert.CastBranchIdeal.τ).loc Cert.CastBranchIdeal.main_arg0))
      ∧ θ_run (Cert.CastBranchReferenceIdeal.defs (F := Ideal)) (onTc (τ := Cert.CastBranchReferenceIdeal.τ) (Cert.CastBranchReferenceIdeal.main (F := Ideal))) ⟨m', fun _ => 0, g'⟩ (fun r => ∀ c : Dev Cert.CastBranchReferenceIdeal.nD,
          r.2.mem ((c.tc : Thread Cert.CastBranchReferenceIdeal.nD Cert.CastBranchReferenceIdeal.τ).loc Cert.CastBranchReferenceIdeal.main_v0) = v0 c
          ∧ r.2.mem ((c.tc : Thread Cert.CastBranchReferenceIdeal.nD Cert.CastBranchReferenceIdeal.τ).loc Cert.CastBranchReferenceIdeal.main_arg0) = m' ((c.tc : Thread Cert.CastBranchReferenceIdeal.nD Cert.CastBranchReferenceIdeal.τ).loc Cert.CastBranchReferenceIdeal.main_arg0))

def preserves_CastOut_CastOutIdeal : Prop :=
  True

def algebraic_CastOutIdeal_CastOutReferenceIdeal [hCastOutIdeal : Cert.CastOutIdeal.Facts] [hCastOutReferenceIdeal : Cert.CastOutReferenceIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutReferenceIdeal.nD Cert.CastOutReferenceIdeal.τ Cert.CastOutReferenceIdeal.sig) → Buf (Elt Ideal) ℓ) (g' : Dev Cert.CastOutReferenceIdeal.nD → PrngReg), Pre_CastOutIdeal m →
    (∀ c : Dev Cert.CastOutIdeal.nD,
      m' ((c.tc : Thread Cert.CastOutReferenceIdeal.nD Cert.CastOutReferenceIdeal.τ).loc Cert.CastOutReferenceIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutReferenceIdeal.defs (F := Ideal)) (onTc (τ := Cert.CastOutReferenceIdeal.τ) (Cert.CastOutReferenceIdeal.main (F := Ideal))) ⟨m', fun _ => 0, g'⟩ (fun r => ∀ c : Dev Cert.CastOutReferenceIdeal.nD,
          r.2.mem ((c.tc : Thread Cert.CastOutReferenceIdeal.nD Cert.CastOutReferenceIdeal.τ).loc Cert.CastOutReferenceIdeal.main_v0) = v0 c
          ∧ r.2.mem ((c.tc : Thread Cert.CastOutReferenceIdeal.nD Cert.CastOutReferenceIdeal.τ).loc Cert.CastOutReferenceIdeal.main_arg0) = m' ((c.tc : Thread Cert.CastOutReferenceIdeal.nD Cert.CastOutReferenceIdeal.τ).loc Cert.CastOutReferenceIdeal.main_arg0))

def Claim : Prop :=
  ∃ (hKernel : Cert.Kernel.Facts) (hKernelIdeal : Cert.KernelIdeal.Facts) (hReferenceIdeal : Cert.ReferenceIdeal.Facts) (hPreNorm : Cert.PreNorm.Facts) (hPreNormIdeal : Cert.PreNormIdeal.Facts) (hPreNormReferenceIdeal : Cert.PreNormReferenceIdeal.Facts) (hInMain : Cert.InMain.Facts) (hInMainIdeal : Cert.InMainIdeal.Facts) (hInMainReferenceIdeal : Cert.InMainReferenceIdeal.Facts) (hInGates : Cert.InGates.Facts) (hInGatesIdeal : Cert.InGatesIdeal.Facts) (hInGatesReferenceIdeal : Cert.InGatesReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hPostNorm : Cert.PostNorm.Facts) (hPostNormIdeal : Cert.PostNormIdeal.Facts) (hPostNormReferenceIdeal : Cert.PostNormReferenceIdeal.Facts) (hPostPreNorm : Cert.PostPreNorm.Facts) (hPostPreNormIdeal : Cert.PostPreNormIdeal.Facts) (hPostPreNormReferenceIdeal : Cert.PostPreNormReferenceIdeal.Facts) (hDeltaNet : Cert.DeltaNet.Facts) (hDeltaNetIdeal : Cert.DeltaNetIdeal.Facts) (hDeltaGates : Cert.DeltaGates.Facts) (hDeltaGatesIdeal : Cert.DeltaGatesIdeal.Facts) (hDeltaGatesReferenceIdeal : Cert.DeltaGatesReferenceIdeal.Facts) (hCastIn : Cert.CastIn.Facts) (hCastInIdeal : Cert.CastInIdeal.Facts) (hCastInReferenceIdeal : Cert.CastInReferenceIdeal.Facts) (hCastGates : Cert.CastGates.Facts) (hCastGatesIdeal : Cert.CastGatesIdeal.Facts) (hCastGatesReferenceIdeal : Cert.CastGatesReferenceIdeal.Facts) (hCastBranch : Cert.CastBranch.Facts) (hCastBranchIdeal : Cert.CastBranchIdeal.Facts) (hCastBranchReferenceIdeal : Cert.CastBranchReferenceIdeal.Facts) (hCastOut : Cert.CastOut.Facts) (hCastOutIdeal : Cert.CastOutIdeal.Facts) (hCastOutReferenceIdeal : Cert.CastOutReferenceIdeal.Facts) (hPre_finite : Cert.Pre_finite.Facts) (hPre_finite_gates : Cert.Pre_finite_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PreNorm (hPreNorm := hPreNorm)
    ∧ quiescent_PreNormIdeal (hPreNormIdeal := hPreNormIdeal)
    ∧ quiescent_PreNormReferenceIdeal (hPreNormReferenceIdeal := hPreNormReferenceIdeal)
    ∧ quiescent_InMain (hInMain := hInMain)
    ∧ quiescent_InMainIdeal (hInMainIdeal := hInMainIdeal)
    ∧ quiescent_InMainReferenceIdeal (hInMainReferenceIdeal := hInMainReferenceIdeal)
    ∧ quiescent_InGates (hInGates := hInGates)
    ∧ quiescent_InGatesIdeal (hInGatesIdeal := hInGatesIdeal)
    ∧ quiescent_InGatesReferenceIdeal (hInGatesReferenceIdeal := hInGatesReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_PostNorm (hPostNorm := hPostNorm)
    ∧ quiescent_PostNormIdeal (hPostNormIdeal := hPostNormIdeal)
    ∧ quiescent_PostNormReferenceIdeal (hPostNormReferenceIdeal := hPostNormReferenceIdeal)
    ∧ quiescent_PostPreNorm (hPostPreNorm := hPostPreNorm)
    ∧ quiescent_PostPreNormIdeal (hPostPreNormIdeal := hPostPreNormIdeal)
    ∧ quiescent_PostPreNormReferenceIdeal (hPostPreNormReferenceIdeal := hPostPreNormReferenceIdeal)
    ∧ quiescent_DeltaNet (hDeltaNet := hDeltaNet)
    ∧ quiescent_DeltaNetIdeal (hDeltaNetIdeal := hDeltaNetIdeal)
    ∧ quiescent_DeltaGates (hDeltaGates := hDeltaGates)
    ∧ quiescent_DeltaGatesIdeal (hDeltaGatesIdeal := hDeltaGatesIdeal)
    ∧ quiescent_DeltaGatesIdeal_pre_finite_gates (hDeltaGatesIdeal := hDeltaGatesIdeal) (hPre_finite_gates := hPre_finite_gates)
    ∧ quiescent_DeltaGatesReferenceIdeal (hDeltaGatesReferenceIdeal := hDeltaGatesReferenceIdeal)
    ∧ quiescent_DeltaGatesReferenceIdeal_pre_finite_gates (hDeltaGatesReferenceIdeal := hDeltaGatesReferenceIdeal) (hPre_finite_gates := hPre_finite_gates)
    ∧ quiescent_CastIn (hCastIn := hCastIn)
    ∧ quiescent_CastInIdeal (hCastInIdeal := hCastInIdeal)
    ∧ quiescent_CastInReferenceIdeal (hCastInReferenceIdeal := hCastInReferenceIdeal)
    ∧ quiescent_CastGates (hCastGates := hCastGates)
    ∧ quiescent_CastGatesIdeal (hCastGatesIdeal := hCastGatesIdeal)
    ∧ quiescent_CastGatesReferenceIdeal (hCastGatesReferenceIdeal := hCastGatesReferenceIdeal)
    ∧ quiescent_CastBranch (hCastBranch := hCastBranch)
    ∧ quiescent_CastBranchIdeal (hCastBranchIdeal := hCastBranchIdeal)
    ∧ quiescent_CastBranchReferenceIdeal (hCastBranchReferenceIdeal := hCastBranchReferenceIdeal)
    ∧ quiescent_CastOut (hCastOut := hCastOut)
    ∧ quiescent_CastOutIdeal (hCastOutIdeal := hCastOutIdeal)
    ∧ quiescent_CastOutReferenceIdeal (hCastOutReferenceIdeal := hCastOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_PreNorm_PreNormIdeal
    ∧ algebraic_PreNormIdeal_PreNormReferenceIdeal (hPreNormIdeal := hPreNormIdeal) (hPreNormReferenceIdeal := hPreNormReferenceIdeal)
    ∧ preserves_InMain_InMainIdeal
    ∧ algebraic_InMainIdeal_InMainReferenceIdeal (hInMainIdeal := hInMainIdeal) (hInMainReferenceIdeal := hInMainReferenceIdeal)
    ∧ preserves_InGates_InGatesIdeal
    ∧ algebraic_InGatesIdeal_InGatesReferenceIdeal (hInGatesIdeal := hInGatesIdeal) (hInGatesReferenceIdeal := hInGatesReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_PostNorm_PostNormIdeal
    ∧ algebraic_PostNormIdeal_PostNormReferenceIdeal (hPostNormIdeal := hPostNormIdeal) (hPostNormReferenceIdeal := hPostNormReferenceIdeal)
    ∧ preserves_PostPreNorm_PostPreNormIdeal
    ∧ algebraic_PostPreNormIdeal_PostPreNormReferenceIdeal (hPostPreNormIdeal := hPostPreNormIdeal) (hPostPreNormReferenceIdeal := hPostPreNormReferenceIdeal)
    ∧ preserves_DeltaNet_DeltaNetIdeal
    ∧ preserves_DeltaGates_DeltaGatesIdeal
    ∧ algebraic_DeltaGatesIdeal_DeltaGatesReferenceIdeal_pre_finite_gates (hDeltaGatesIdeal := hDeltaGatesIdeal) (hDeltaGatesReferenceIdeal := hDeltaGatesReferenceIdeal) (hPre_finite_gates := hPre_finite_gates)
    ∧ preserves_CastIn_CastInIdeal
    ∧ algebraic_CastInIdeal_CastInReferenceIdeal (hCastInIdeal := hCastInIdeal) (hCastInReferenceIdeal := hCastInReferenceIdeal)
    ∧ preserves_CastGates_CastGatesIdeal
    ∧ algebraic_CastGatesIdeal_CastGatesReferenceIdeal (hCastGatesIdeal := hCastGatesIdeal) (hCastGatesReferenceIdeal := hCastGatesReferenceIdeal)
    ∧ preserves_CastBranch_CastBranchIdeal
    ∧ algebraic_CastBranchIdeal_CastBranchReferenceIdeal (hCastBranchIdeal := hCastBranchIdeal) (hCastBranchReferenceIdeal := hCastBranchReferenceIdeal)
    ∧ preserves_CastOut_CastOutIdeal
    ∧ algebraic_CastOutIdeal_CastOutReferenceIdeal (hCastOutIdeal := hCastOutIdeal) (hCastOutReferenceIdeal := hCastOutReferenceIdeal)
-- ==== Pre_finite.lean ====
abbrev S2x4096x21024 : Shape := ⟨3, ![2, 4096, 21024]⟩
abbrev S32 : Shape := ⟨1, ![32]⟩
abbrev S_ : Shape := ⟨0, ![]⟩

class Facts : Prop where
  bcast_S_S2x4096x21024 : S_.BroadcastsInDim S2x4096x21024 (![] : Fin 0 → Fin S2x4096x21024.rank)
  reducesTo_S2x4096x21024_S_d0_1_2 : S2x4096x21024.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S2x4096x21024 .f32) (main_arg1 : FVec F S32 .f32) : IVec S_ 1 :=
  let main_cst : FVec F S_ .f32 := constant S_ .f32 0xFF800000#32
  let main_v0 : FVec F S2x4096x21024 .f32 := broadcastInDim S2x4096x21024 ![] bcast_S_S2x4096x21024 main_cst
  let main_v1 : IVec S2x4096x21024 1 := cmpf .ogt main_arg0 main_v0
  let main_cst_0 : FVec F S_ .f32 := constant S_ .f32 0x7F800000#32
  let main_v2 : FVec F S2x4096x21024 .f32 := broadcastInDim S2x4096x21024 ![] bcast_S_S2x4096x21024 main_cst_0
  let main_v3 : IVec S2x4096x21024 1 := cmpf .olt main_arg0 main_v2
  let main_v4 : IVec S2x4096x21024 1 := andi main_v1 main_v3
  let main_c : IVec S_ 1 := constantI S_ 1 1#1
  let main_v5 : IVec S_ 1 := (fun x v => Host.reduce IntOp.andi x v reducesTo_S2x4096x21024_S_d0_1_2 h_S_) main_v4 main_c
  let main_cst_1 : FVec F S_ .f32 := constant S_ .f32 0xFF800000#32
  let main_v6 : FVec F S32 .f32 := broadcastInDim S32 ![] bcast_S_S32 main_cst_1
  let main_v7 : IVec S32 1 := cmpf .ogt main_arg1 main_v6
  let main_cst_2 : FVec F S_ .f32 := constant S_ .f32 0x7F800000#32
  let main_v8 : FVec F S32 .f32 := broadcastInDim S32 ![] bcast_S_S32 main_cst_2
  let main_v9 : IVec S32 1 := cmpf .olt main_arg1 main_v8
  let main_v10 : IVec S32 1 := andi main_v7 main_v9
  let main_c_3 : IVec S_ 1 := constantI S_ 1 1#1
  let main_v11 : IVec S_ 1 := (fun x v => Host.reduce IntOp.andi x v reducesTo_S32_S_d0 h_S_) main_v10 main_c_3
  let main_v12 : IVec S_ 1 := andi main_v5 main_v11
  main_v12
-- ==== Pre_finite_gates.lean ====
abbrev S2x4096x21024 : Shape := ⟨3, ![2, 4096, 21024]⟩
abbrev S16 : Shape := ⟨1, ![16]⟩
abbrev S_ : Shape := ⟨0, ![]⟩

class Facts : Prop where
  bcast_S_S2x4096x21024 : S_.BroadcastsInDim S2x4096x21024 (![] : Fin 0 → Fin S2x4096x21024.rank)
  reducesTo_S2x4096x21024_S_d0_1_2 : S2x4096x21024.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn_part1 {F : FTy → Type} [FloatOps F] (main_arg2 : FVec F S16 .f32) (main_v12 : IVec S_ 1) (main_v14 : IVec S16 1) (main_v15 : FVec F S16 .f32) : IVec S_ 1 :=
  let main_v16 : IVec S16 1 := cmpf .olt main_arg2 main_v15
  let main_v17 : IVec S16 1 := andi main_v14 main_v16
  let main_c_6 : IVec S_ 1 := constantI S_ 1 1#1
  let main_v18 : IVec S_ 1 := (fun x v => Host.reduce IntOp.andi x v reducesTo_S16_S_d0 h_S_) main_v17 main_c_6
  let main_v19 : IVec S_ 1 := andi main_v12 main_v18
  main_v19

def fn {F : FTy → Type} [FloatOps F] (main_arg0 : FVec F S2x4096x21024 .f32) (main_arg1 : FVec F S16 .f32) (main_arg2 : FVec F S16 .f32) : IVec S_ 1 :=
  let main_cst : FVec F S_ .f32 := constant S_ .f32 0xFF800000#32
  let main_v0 : FVec F S2x4096x21024 .f32 := broadcastInDim S2x4096x21024 ![] bcast_S_S2x4096x21024 main_cst
  let main_v1 : IVec S2x4096x21024 1 := cmpf .ogt main_arg0 main_v0
  let main_cst_0 : FVec F S_ .f32 := constant S_ .f32 0x7F800000#32
  let main_v2 : FVec F S2x4096x21024 .f32 := broadcastInDim S2x4096x21024 ![] bcast_S_S2x4096x21024 main_cst_0
  let main_v3 : IVec S2x4096x21024 1 := cmpf .olt main_arg0 main_v2
  let main_v4 : IVec S2x4096x21024 1 := andi main_v1 main_v3
  let main_c : IVec S_ 1 := constantI S_ 1 1#1
  let main_v5 : IVec S_ 1 := (fun x v => Host.reduce IntOp.andi x v reducesTo_S2x4096x21024_S_d0_1_2 h_S_) main_v4 main_c
  let main_cst_1 : FVec F S_ .f32 := constant S_ .f32 0xFF800000#32
  let main_v6 : FVec F S16 .f32 := broadcastInDim S16 ![] bcast_S_S16 main_cst_1
  let main_v7 : IVec S16 1 := cmpf .ogt main_arg1 main_v6
  let main_cst_2 : FVec F S_ .f32 := constant S_ .f32 0x7F800000#32
  let main_v8 : FVec F S16 .f32 := broadcastInDim S16 ![] bcast_S_S16 main_cst_2
  let main_v9 : IVec S16 1 := cmpf .olt main_arg1 main_v8
  let main_v10 : IVec S16 1 := andi main_v7 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v5 main_v11
  let main_cst_4 : FVec F S_ .f32 := constant S_ .f32 0xFF800000#32
  let main_v13 : FVec F S16 .f32 := broadcastInDim S16 ![] bcast_S_S16 main_cst_4
  let main_v14 : IVec S16 1 := cmpf .ogt main_arg2 main_v13
  let main_cst_5 : FVec F S_ .f32 := constant S_ .f32 0x7F800000#32
  let main_v15 : FVec F S16 .f32 := broadcastInDim S16 ![] bcast_S_S16 main_cst_5
  fn_part1 (F := F) main_arg2 main_v12 main_v14 main_v15
-- ==== Kernel.lean ====
abbrev S2x4096x21024 : Shape := ⟨3, ![2, 4096, 21024]⟩
abbrev S32 : Shape := ⟨1, ![32]⟩
abbrev S8192x21024 : Shape := ⟨2, ![8192, 21024]⟩
abbrev S8192x2048 : Shape := ⟨2, ![8192, 2048]⟩
abbrev S8192x10240 : Shape := ⟨2, ![8192, 10240]⟩
abbrev S8192x512 : Shape := ⟨2, ![8192, 512]⟩
abbrev S8192x13312 : Shape := ⟨2, ![8192, 13312]⟩
abbrev S128x2048 : Shape := ⟨2, ![128, 2048]⟩
abbrev S128x256 : Shape := ⟨2, ![128, 256]⟩
abbrev S256x256 : Shape := ⟨2, ![256, 256]⟩
abbrev S256x64 : Shape := ⟨2, ![256, 64]⟩
abbrev S128x64 : Shape := ⟨2, ![128, 64]⟩
abbrev S1 : Shape := ⟨1, ![1]⟩
abbrev S128 : Shape := ⟨1, ![128]⟩
abbrev S128x1 : Shape := ⟨2, ![128, 1]⟩
abbrev S1024x256 : Shape := ⟨2, ![1024, 256]⟩
abbrev S1024x64 : Shape := ⟨2, ![1024, 64]⟩

abbrev nBuf : Space → Nat
  | .hbm => 9
  | .vmem => 14
  | .smem => 1
  | _ => 0

abbrev bufTy : (tb : Table) → Fin (tcTables nBuf tb) → BufTy
  | .hbm, ⟨0, _⟩ => ⟨S2x4096x21024, .f32⟩
  | .hbm, ⟨1, _⟩ => ⟨S32, .f32⟩
  | .hbm, ⟨2, _⟩ => ⟨S8192x21024, .f32⟩
  | .hbm, ⟨3, _⟩ => ⟨S8192x2048, .f32⟩
  | .hbm, ⟨4, _⟩ => ⟨S8192x10240, .f32⟩
  | .hbm, ⟨5, _⟩ => ⟨S8192x512, .f32⟩
  | .hbm, ⟨6, _⟩ => ⟨S8192x512, .f32⟩
  | .hbm, ⟨7, _⟩ => ⟨S8192x13312, .f32⟩
  | .hbm, ⟨8, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x2048, .bf16⟩
  | .local _ .vmem, ⟨13, _⟩ => ⟨S128x2048, .bf16⟩
  | .local _ .smem, ⟨0, _⟩ => ⟨S32, .f32⟩
  | _, _ => ⟨S2x4096x21024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c48_i32 : BitVec 32 := 48#32
  let c0_i32 : BitVec 32 := 0#32
  ![v1.toNat, c48_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c48_i32 : BitVec 32 := 48#32
  let c0_i32_0 : BitVec 32 := 0#32
  ![v3.toNat, c48_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c49_i32 : BitVec 32 := 49#32
  let c0_i32 : BitVec 32 := 0#32
  ![v1.toNat, c49_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c49_i32 : BitVec 32 := 49#32
  let c0_i32_0 : BitVec 32 := 0#32
  ![v3.toNat, c49_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | "slope1" => some (((Real.sqrt (Real.sqrt 2))⁻¹ : ℝ) : EReal)
  | "slope10" => some (((Real.sqrt (Real.sqrt 1024))⁻¹ : ℝ) : EReal)
  | "slope11" => some (((Real.sqrt (Real.sqrt 2048))⁻¹ : ℝ) : EReal)
  | "slope13" => some (((Real.sqrt (Real.sqrt 8192))⁻¹ : ℝ) : EReal)
  | "slope14" => some (((Real.sqrt (Real.sqrt 16384))⁻¹ : ℝ) : EReal)
  | "slope15" => some (((Real.sqrt (Real.sqrt 32768))⁻¹ : ℝ) : EReal)
  | "slope17" => some (((Real.sqrt (Real.sqrt 131072))⁻¹ : ℝ) : EReal)
  | "slope18" => some (((Real.sqrt (Real.sqrt 262144))⁻¹ : ℝ) : EReal)
  | "slope19" => some (((Real.sqrt (Real.sqrt 524288))⁻¹ : ℝ) : EReal)
  | "slope2" => some (((Real.sqrt (Real.sqrt 4))⁻¹ : ℝ) : EReal)
  | "slope21" => some (((Real.sqrt (Real.sqrt 2097152))⁻¹ : ℝ) : EReal)
  | "slope22" => some (((Real.sqrt (Real.sqrt 4194304))⁻¹ : ℝ) : EReal)
  | "slope23" => some (((Real.sqrt (Real.sqrt 8388608))⁻¹ : ℝ) : EReal)
  | "slope25" => some (((Real.sqrt (Real.sqrt 33554432))⁻¹ : ℝ) : EReal)
  | "slope26" => some (((Real.sqrt (Real.sqrt 67108864))⁻¹ : ℝ) : EReal)
  | "slope27" => some (((Real.sqrt (Real.sqrt 134217728))⁻¹ : ℝ) : EReal)
  | "slope29" => some (((Real.sqrt (Real.sqrt 536870912))⁻¹ : ℝ) : EReal)
  | "slope3" => some (((Real.sqrt (Real.sqrt 8))⁻¹ : ℝ) : EReal)
  | "slope30" => some (((Real.sqrt (Real.sqrt 1073741824))⁻¹ : ℝ) : EReal)
  | "slope31" => some (((Real.sqrt (Real.sqrt 2147483648))⁻¹ : ℝ) : EReal)
  | "slope5" => some (((Real.sqrt (Real.sqrt 32))⁻¹ : ℝ) : EReal)
  | "slope6" => some (((Real.sqrt (Real.sqrt 64))⁻¹ : ℝ) : EReal)
  | "slope7" => some (((Real.sqrt (Real.sqrt 128))⁻¹ : ℝ) : EReal)
  | "slope9" => some (((Real.sqrt (Real.sqrt 512))⁻¹ : ℝ) : EReal)
  | _ => none
-- ==== ReferenceIdeal.lean ====
abbrev S2x4096x21024 : Shape := ⟨3, ![2, 4096, 21024]⟩
abbrev S32 : Shape := ⟨1, ![32]⟩
abbrev S2x4096x2048 : Shape := ⟨3, ![2, 4096, 2048]⟩
abbrev S2x4096x256 : Shape := ⟨3, ![2, 4096, 256]⟩
abbrev S2x4096x6144 : Shape := ⟨3, ![2, 4096, 6144]⟩
abbrev S2x4096x16 : Shape := ⟨3, ![2, 4096, 16]⟩
abbrev S2x4096x4096 : Shape := ⟨3, ![2, 4096, 4096]⟩
abbrev S2x4096x32x64 : Shape := ⟨4, ![2, 4096, 32, 64]⟩
abbrev S2x4096x4x64 : Shape := ⟨4, ![2, 4096, 4, 64]⟩
abbrev S2x32x128x4x8x64 : Shape := ⟨6, ![2, 32, 128, 4, 8, 64]⟩
abbrev S2x32x128x4x64 : Shape := ⟨5, ![2, 32, 128, 4, 64]⟩
abbrev S_ : Shape := ⟨0, ![]⟩
abbrev S2x33x128x4x64 : Shape := ⟨5, ![2, 33, 128, 4, 64]⟩
abbrev S2x32x256x4x64 : Shape := ⟨5, ![2, 32, 256, 4, 64]⟩
abbrev S2x32x4x256x128x8 : Shape := ⟨6, ![2, 32, 4, 256, 128, 8]⟩
abbrev S2x32x4x8x128x256 : Shape := ⟨6, ![2, 32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S1x1x4x8x128x256 : Shape := ⟨6, ![1, 1, 4, 8, 128, 256]⟩
abbrev S1x32x1x1x128x256 : Shape := ⟨6, ![1, 32, 1, 1, 128, 256]⟩
abbrev S2x32x4x8x128x1 : Shape := ⟨6, ![2, 32, 4, 8, 128, 1]⟩
abbrev S2x32x4x8x128x257 : Shape := ⟨6, ![2, 32, 4, 8, 128, 257]⟩
abbrev S2x32x4x8x128 : Shape := ⟨5, ![2, 32, 4, 8, 128]⟩
abbrev S2x32x4x64x8x128 : Shape := ⟨6, ![2, 32, 4, 64, 8, 128]⟩
abbrev S8192x2048 : Shape := ⟨2, ![8192, 2048]⟩

abbrev nBuf : Space → Nat
  | .hbm => 132
  | .vmem => 0
  | .smem => 0
  | _ => 0

abbrev hbmTy0_0 (i : Nat) : BufTy := match i % 128 with
  | 0 => ⟨S2x4096x21024, .f32⟩
  | 1 => ⟨S32, .f32⟩
  | 2 => ⟨S2x4096x2048, .f32⟩
  | 3 => ⟨S2x4096x256, .f32⟩
  | 4 => ⟨S2x4096x256, .f32⟩
  | 5 => ⟨S2x4096x2048, .f32⟩
  | 6 => ⟨S2x4096x6144, .f32⟩
  | 7 => ⟨S2x4096x2048, .f32⟩
  | 8 => ⟨S2x4096x16, .f32⟩
  | 9 => ⟨S2x4096x16, .f32⟩
  | 10 => ⟨S2x4096x4096, .f32⟩
  | 11 => ⟨S2x4096x4096, .f32⟩
  | 12 => ⟨S2x4096x32x64, .f32⟩
  | 13 => ⟨S2x4096x4x64, .f32⟩
  | 14 => ⟨S2x4096x4x64, .f32⟩
  | 15 => ⟨S2x32x128x4x8x64, .f32⟩
  | 16 => ⟨S2x32x128x4x64, .f32⟩
  | 17 => ⟨S2x32x128x4x64, .f32⟩
  | 18 => ⟨S_, .i32⟩
  | 19 => ⟨S_, .f32⟩
  | 20 => ⟨S2x33x128x4x64, .f32⟩
  | 21 => ⟨S2x32x128x4x64, .f32⟩
  | 22 => ⟨S2x32x256x4x64, .f32⟩
  | 23 => ⟨S_, .i32⟩
  | 24 => ⟨S_, .f32⟩
  | 25 => ⟨S2x33x128x4x64, .f32⟩
  | 26 => ⟨S2x32x128x4x64, .f32⟩
  | 27 => ⟨S2x32x256x4x64, .f32⟩
  | 28 => ⟨S2x32x4x256x128x8, .f32⟩
  | 29 => ⟨S2x32x4x8x128x256, .f32⟩
  | 30 => ⟨S_, .f32⟩
  | 31 => ⟨S2x32x4x8x128x256, .f32⟩
  | 32 => ⟨S2x32x4x8x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S32, .i32⟩
  | 44 => ⟨S32x1x1, .i32⟩
  | 45 => ⟨S_, .i32⟩
  | 46 => ⟨S32x1x1, .i32⟩
  | 47 => ⟨S32x1x1, .i32⟩
  | 48 => ⟨S_, .i32⟩
  | 49 => ⟨S32x1x1, .i32⟩
  | 50 => ⟨S32x1x1, .i32⟩
  | 51 => ⟨S1x1x256, .i32⟩
  | 52 => ⟨S32x1x256, .i32⟩
  | 53 => ⟨S32x1x256, .i32⟩
  | 54 => ⟨S32x1x256, .i32⟩
  | 55 => ⟨S_, .i32⟩
  | 56 => ⟨S128x256, .i32⟩
  | 57 => ⟨S128x256, .i1⟩
  | 58 => ⟨S1x128x256, .i1⟩
  | 59 => ⟨S_, .i32⟩
  | 60 => ⟨S128x256, .i32⟩
  | 61 => ⟨S128x256, .i1⟩
  | 62 => ⟨S1x128x256, .i1⟩
  | 63 => ⟨S1x128x256, .i1⟩
  | 64 => ⟨S_, .i32⟩
  | 65 => ⟨S32x1x256, .i32⟩
  | 66 => ⟨S32x1x256, .i1⟩
  | 67 => ⟨S32x128x256, .i1⟩
  | 68 => ⟨S32x128x256, .i1⟩
  | 69 => ⟨S32x128x256, .i1⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4x8, .f32⟩
  | 84 => ⟨S4x8x1x1, .f32⟩
  | 85 => ⟨S128x256, .f32⟩
  | 86 => ⟨S1x1x128x256, .f32⟩
  | 87 => ⟨S4x8x128x256, .f32⟩
  | 88 => ⟨S4x8x128x256, .f32⟩
  | 89 => ⟨S4x8x128x256, .f32⟩
  | 90 => ⟨S1x1x4x8x128x256, .f32⟩
  | 91 => ⟨S2x32x4x8x128x256, .f32⟩
  | 92 => ⟨S2x32x4x8x128x256, .f32⟩
  | 93 => ⟨S1x32x1x1x128x256, .i1⟩
  | 94 => ⟨S_, .f32⟩
  | 95 => ⟨S_, .f32⟩
  | 96 => ⟨S2x32x4x8x128x256, .i1⟩
  | 97 => ⟨S2x32x4x8x128x256, .f32⟩
  | 98 => ⟨S2x32x4x8x128x256, .f32⟩
  | 99 => ⟨S4x8x1x1, .f32⟩
  | 100 => ⟨S2x32x4x8x128x1, .f32⟩
  | 101 => ⟨S2x32x4x8x128x257, .f32⟩
  | 102 => ⟨S_, .f32⟩
  | 103 => ⟨S2x32x4x8x128, .f32⟩
  | 104 => ⟨S_, .f32⟩
  | 105 => ⟨S2x32x4x8x128, .f32⟩
  | 106 => ⟨S2x32x4x8x128, .f32⟩
  | 107 => ⟨S2x32x4x8x128x1, .f32⟩
  | 108 => ⟨S2x32x4x8x128x257, .f32⟩
  | 109 => ⟨S2x32x4x8x128x257, .f32⟩
  | 110 => ⟨S2x32x4x8x128x257, .f32⟩
  | 111 => ⟨S_, .f32⟩
  | 112 => ⟨S2x32x4x8x128, .f32⟩
  | 113 => ⟨S2x32x4x8x128x1, .f32⟩
  | 114 => ⟨S2x32x4x8x128x257, .f32⟩
  | 115 => ⟨S2x32x4x8x128x257, .f32⟩
  | 116 => ⟨S2x32x4x8x128x256, .f32⟩
  | 117 => ⟨S2x32x4x64x8x128, .f32⟩
  | 118 => ⟨S2x32x128x4x8x64, .f32⟩
  | 119 => ⟨S2x4096x2048, .f32⟩
  | 120 => ⟨S2x4096x2048, .f32⟩
  | 121 => ⟨S2x4096x2048, .f32⟩
  | 122 => ⟨S_, .f32⟩
  | 123 => ⟨S2x4096x2048, .f32⟩
  | 124 => ⟨S2x4096x2048, .f32⟩
  | 125 => ⟨S_, .f32⟩
  | 126 => ⟨S2x4096x2048, .f32⟩
  | 127 => ⟨S2x4096x2048, .f32⟩
  | _ => ⟨S2x4096x21024, .f32⟩

abbrev hbmTy0_1 (i : Nat) : BufTy := match i % 128 with
  | 0 => ⟨S2x4096x2048, .f32⟩
  | 1 => ⟨S2x4096x2048, .f32⟩
  | 2 => ⟨S8192x2048, .f32⟩
  | 3 => ⟨S8192x2048, .bf16⟩
  | _ => ⟨S2x4096x21024, .f32⟩

abbrev hbmTy (i : Nat) : BufTy := match i / 128 with
  | 0 => hbmTy0_0 i
  | 1 => hbmTy0_1 i
  | _ => ⟨S2x4096x21024, .f32⟩

abbrev bufTy : (tb : Table) → Fin (tcTables nBuf tb) → BufTy
  | .hbm, ⟨i, _⟩ => hbmTy i
  | _, _ => ⟨S2x4096x21024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_call1_v0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_cst_13 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_14 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]
-- ==== PreNorm.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormReferenceIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S1x1x4096, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | .hbm, ⟨19, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InMain.lean ====
abbrev S2x4096x4096 : Shape := ⟨3, ![2, 4096, 4096]⟩
abbrev S4x4096x21024 : Shape := ⟨3, ![4, 4096, 21024]⟩
abbrev S4x21024x4096 : Shape := ⟨3, ![4, 21024, 4096]⟩
abbrev S4x2048x4096 : Shape := ⟨3, ![4, 2048, 4096]⟩
abbrev S4x10240x4096 : Shape := ⟨3, ![4, 10240, 4096]⟩
abbrev S4x512x4096 : Shape := ⟨3, ![4, 512, 4096]⟩
abbrev S4x13312x4096 : Shape := ⟨3, ![4, 13312, 4096]⟩
abbrev S8192x4096 : Shape := ⟨2, ![8192, 4096]⟩
abbrev S8192x13312 : Shape := ⟨2, ![8192, 13312]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4x4096x21024, .f32⟩
  | .hbm, ⟨2, _⟩ => ⟨S4x21024x4096, .f32⟩
  | .hbm, ⟨3, _⟩ => ⟨S4x2048x4096, .f32⟩
  | .hbm, ⟨4, _⟩ => ⟨S4x10240x4096, .f32⟩
  | .hbm, ⟨5, _⟩ => ⟨S4x512x4096, .f32⟩
  | .hbm, ⟨6, _⟩ => ⟨S4x512x4096, .f32⟩
  | .hbm, ⟨7, _⟩ => ⟨S4x13312x4096, .f32⟩
  | .hbm, ⟨8, _⟩ => ⟨S4x13312x4096, .bf16⟩
  | .hbm, ⟨9, _⟩ => ⟨S8192x4096, .f32⟩
  | .hbm, ⟨10, _⟩ => ⟨S8192x4096, .bf16⟩
  | .hbm, ⟨11, _⟩ => ⟨S8192x13312, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMainReferenceIdeal.lean ====
abbrev S2x4096x4096 : Shape := ⟨3, ![2, 4096, 4096]⟩
abbrev S4x4096x21024 : Shape := ⟨3, ![4, 4096, 21024]⟩
abbrev S1x4096x21024 : Shape := ⟨3, ![1, 4096, 21024]⟩
abbrev S4096x21024 : Shape := ⟨2, ![4096, 21024]⟩
abbrev S2x4096x21024 : Shape := ⟨3, ![2, 4096, 21024]⟩
abbrev S2x4096x2048 : Shape := ⟨3, ![2, 4096, 2048]⟩
abbrev S2x4096x256 : Shape := ⟨3, ![2, 4096, 256]⟩
abbrev S2x4096x6144 : Shape := ⟨3, ![2, 4096, 6144]⟩
abbrev S2x4096x16 : Shape := ⟨3, ![2, 4096, 16]⟩
abbrev S2x4096x480 : Shape := ⟨3, ![2, 4096, 480]⟩
abbrev S2x4096x13312 : Shape := ⟨3, ![2, 4096, 13312]⟩
abbrev S8192x13312 : Shape := ⟨2, ![8192, 13312]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4x4096x21024, .f32⟩
  | .hbm, ⟨2, _⟩ => ⟨S1x4096x21024, .f32⟩
  | .hbm, ⟨3, _⟩ => ⟨S4096x21024, .f32⟩
  | .hbm, ⟨4, _⟩ => ⟨S2x4096x21024, .f32⟩
  | .hbm, ⟨5, _⟩ => ⟨S2x4096x2048, .f32⟩
  | .hbm, ⟨6, _⟩ => ⟨S2x4096x256, .f32⟩
  | .hbm, ⟨7, _⟩ => ⟨S2x4096x256, .f32⟩
  | .hbm, ⟨8, _⟩ => ⟨S2x4096x2048, .f32⟩
  | .hbm, ⟨9, _⟩ => ⟨S2x4096x6144, .f32⟩
  | .hbm, ⟨10, _⟩ => ⟨S2x4096x2048, .f32⟩
  | .hbm, ⟨11, _⟩ => ⟨S2x4096x16, .f32⟩
  | .hbm, ⟨12, _⟩ => ⟨S2x4096x16, .f32⟩
  | .hbm, ⟨13, _⟩ => ⟨S2x4096x4096, .f32⟩
  | .hbm, ⟨14, _⟩ => ⟨S2x4096x4096, .f32⟩
  | .hbm, ⟨15, _⟩ => ⟨S2x4096x480, .f32⟩
  | .hbm, ⟨16, _⟩ => ⟨S2x4096x13312, .f32⟩
  | .hbm, ⟨17, _⟩ => ⟨S8192x13312, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== InGates.lean ====
abbrev S2x4096x4096 : Shape := ⟨3, ![2, 4096, 4096]⟩
abbrev S4x4096x21024 : Shape := ⟨3, ![4, 4096, 21024]⟩
abbrev S4x21024x4096 : Shape := ⟨3, ![4, 21024, 4096]⟩
abbrev S4x8192x4096 : Shape := ⟨3, ![4, 8192, 4096]⟩
abbrev S8192x4096 : Shape := ⟨2, ![8192, 4096]⟩
abbrev S8192x8192 : Shape := ⟨2, ![8192, 8192]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4x4096x21024, .f32⟩
  | .hbm, ⟨2, _⟩ => ⟨S4x21024x4096, .f32⟩
  | .hbm, ⟨3, _⟩ => ⟨S4x8192x4096, .f32⟩
  | .hbm, ⟨4, _⟩ => ⟨S4x8192x4096, .bf16⟩
  | .hbm, ⟨5, _⟩ => ⟨S8192x4096, .f32⟩
  | .hbm, ⟨6, _⟩ => ⟨S8192x4096, .bf16⟩
  | .hbm, ⟨7, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGatesReferenceIdeal.lean ====
abbrev S2x4096x4096 : Shape := ⟨3, ![2, 4096, 4096]⟩
abbrev S4x4096x21024 : Shape := ⟨3, ![4, 4096, 21024]⟩
abbrev S1x4096x21024 : Shape := ⟨3, ![1, 4096, 21024]⟩
abbrev S4096x21024 : Shape := ⟨2, ![4096, 21024]⟩
abbrev S2x4096x21024 : Shape := ⟨3, ![2, 4096, 21024]⟩
abbrev S2x4096x2048 : Shape := ⟨3, ![2, 4096, 2048]⟩
abbrev S2x4096x256 : Shape := ⟨3, ![2, 4096, 256]⟩
abbrev S2x4096x6144 : Shape := ⟨3, ![2, 4096, 6144]⟩
abbrev S2x4096x16 : Shape := ⟨3, ![2, 4096, 16]⟩
abbrev S2x4096x8192 : Shape := ⟨3, ![2, 4096, 8192]⟩
abbrev S8192x8192 : Shape := ⟨2, ![8192, 8192]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4x4096x21024, .f32⟩
  | .hbm, ⟨2, _⟩ => ⟨S1x4096x21024, .f32⟩
  | .hbm, ⟨3, _⟩ => ⟨S4096x21024, .f32⟩
  | .hbm, ⟨4, _⟩ => ⟨S2x4096x21024, .f32⟩
  | .hbm, ⟨5, _⟩ => ⟨S2x4096x2048, .f32⟩
  | .hbm, ⟨6, _⟩ => ⟨S2x4096x256, .f32⟩
  | .hbm, ⟨7, _⟩ => ⟨S2x4096x256, .f32⟩
  | .hbm, ⟨8, _⟩ => ⟨S2x4096x2048, .f32⟩
  | .hbm, ⟨9, _⟩ => ⟨S2x4096x6144, .f32⟩
  | .hbm, ⟨10, _⟩ => ⟨S2x4096x2048, .f32⟩
  | .hbm, ⟨11, _⟩ => ⟨S2x4096x16, .f32⟩
  | .hbm, ⟨12, _⟩ => ⟨S2x4096x16, .f32⟩
  | .hbm, ⟨13, _⟩ => ⟨S2x4096x4096, .f32⟩
  | .hbm, ⟨14, _⟩ => ⟨S2x4096x4096, .f32⟩
  | .hbm, ⟨15, _⟩ => ⟨S2x4096x8192, .f32⟩
  | .hbm, ⟨16, _⟩ => ⟨S8192x8192, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Merge.lean ====
abbrev S2x4096x2048 : Shape := ⟨3, ![2, 4096, 2048]⟩
abbrev S4x2048x4096 : Shape := ⟨3, ![4, 2048, 4096]⟩
abbrev S2x4096x4096 : Shape := ⟨3, ![2, 4096, 4096]⟩
abbrev S2x4096x8192 : Shape := ⟨3, ![2, 4096, 8192]⟩
abbrev S8192x8192 : Shape := ⟨2, ![8192, 8192]⟩
abbrev S8192x2048 : Shape := ⟨2, ![8192, 2048]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 15
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S4x2048x4096, .f32⟩
  | .hbm, ⟨3, _⟩ => ⟨S4x2048x4096, .f32⟩
  | .hbm, ⟨4, _⟩ => ⟨S2x4096x4096, .f32⟩
  | .hbm, ⟨5, _⟩ => ⟨S2x4096x4096, .f32⟩
  | .hbm, ⟨6, _⟩ => ⟨S2x4096x8192, .f32⟩
  | .hbm, ⟨7, _⟩ => ⟨S8192x8192, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S4x2048x4096, .bf16⟩
  | .hbm, ⟨13, _⟩ => ⟨S4x2048x4096, .bf16⟩
  | .hbm, ⟨14, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S2x4096x2048 : Shape := ⟨3, ![2, 4096, 2048]⟩
abbrev S4x2048x4096 : Shape := ⟨3, ![4, 2048, 4096]⟩
abbrev S2x4096x4096 : Shape := ⟨3, ![2, 4096, 4096]⟩
abbrev S1x2048x4096 : Shape := ⟨3, ![1, 2048, 4096]⟩
abbrev S2048x4096 : Shape := ⟨2, ![2048, 4096]⟩
abbrev S_ : Shape := ⟨0, ![]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S4x2048x4096, .f32⟩
  | .hbm, ⟨3, _⟩ => ⟨S4x2048x4096, .f32⟩
  | .hbm, ⟨4, _⟩ => ⟨S2x4096x4096, .f32⟩
  | .hbm, ⟨5, _⟩ => ⟨S2x4096x4096, .f32⟩
  | .hbm, ⟨6, _⟩ => ⟨S1x2048x4096, .f32⟩
  | .hbm, ⟨7, _⟩ => ⟨S2048x4096, .f32⟩
  | .hbm, ⟨8, _⟩ => ⟨S2x4096x4096, .f32⟩
  | .hbm, ⟨9, _⟩ => ⟨S1x2048x4096, .f32⟩
  | .hbm, ⟨10, _⟩ => ⟨S2048x4096, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S_, .f32⟩
  | .hbm, ⟨15, _⟩ => ⟨S2x4096x4096, .f32⟩
  | .hbm, ⟨16, _⟩ => ⟨S2x4096x4096, .f32⟩
  | .hbm, ⟨17, _⟩ => ⟨S_, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S_, .f32⟩
  | .hbm, ⟨24, _⟩ => ⟨S2x4096x4096, .f32⟩
  | .hbm, ⟨25, _⟩ => ⟨S2x4096x4096, .f32⟩
  | .hbm, ⟨26, _⟩ => ⟨S_, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S8192x4096, .f32⟩
  | .hbm, ⟨32, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== OutProj.lean ====
abbrev S2x4096x4096 : Shape := ⟨3, ![2, 4096, 4096]⟩
abbrev S4x4096x4096 : Shape := ⟨3, ![4, 4096, 4096]⟩
abbrev S8192x4096 : Shape := ⟨2, ![8192, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4x4096x4096, .f32⟩
  | .hbm, ⟨2, _⟩ => ⟨S8192x4096, .f32⟩
  | .hbm, ⟨3, _⟩ => ⟨S8192x4096, .bf16⟩
  | .hbm, ⟨4, _⟩ => ⟨S4x4096x4096, .bf16⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjReferenceIdeal.lean ====
abbrev S2x4096x4096 : Shape := ⟨3, ![2, 4096, 4096]⟩
abbrev S4x4096x4096 : Shape := ⟨3, ![4, 4096, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4x4096x4096, .f32⟩
  | .hbm, ⟨2, _⟩ => ⟨S1x4096x4096, .f32⟩
  | .hbm, ⟨3, _⟩ => ⟨S4096x4096, .f32⟩
  | .hbm, ⟨4, _⟩ => ⟨S2x4096x4096, .f32⟩
  | .hbm, ⟨5, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PostNorm.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostNormReferenceIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S2x4096x4096, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== PostPreNorm.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostPreNormReferenceIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S2x4096x4096, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x4096, .f32⟩
  | .hbm, ⟨16, _⟩ => ⟨S2x4096x4096, .f32⟩
  | .hbm, ⟨17, _⟩ => ⟨S1x1x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S8192x4096, .f32⟩
  | .hbm, ⟨22, _⟩ => ⟨S2x4096x4096, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x4096, .f32⟩
  | .hbm, ⟨34, _⟩ => ⟨S2x4096x4096, .f32⟩
  | .hbm, ⟨35, _⟩ => ⟨S1x1x4096, .f32⟩
  | .hbm, ⟨36, _⟩ => ⟨S2x4096x4096, .f32⟩
  | .hbm, ⟨37, _⟩ => ⟨S2x4096x4096, .f32⟩
  | .hbm, ⟨38, _⟩ => ⟨S8192x4096, .f32⟩
  | .hbm, ⟨39, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== DeltaNet.lean ====
abbrev S8192x13312 : Shape := ⟨2, ![8192, 13312]⟩
abbrev S4x6144 : Shape := ⟨2, ![4, 6144]⟩
abbrev S8192x128 : Shape := ⟨2, ![8192, 128]⟩
abbrev S16x8192 : Shape := ⟨2, ![16, 8192]⟩
abbrev S128 : Shape := ⟨1, ![128]⟩
abbrev S1x128 : Shape := ⟨2, ![1, 128]⟩
abbrev S8192x2048 : Shape := ⟨2, ![8192, 2048]⟩
abbrev S256x2048 : Shape := ⟨2, ![256, 2048]⟩
abbrev S8x2048 : Shape := ⟨2, ![8, 2048]⟩
abbrev S4x2048 : Shape := ⟨2, ![4, 2048]⟩
abbrev S256x128 : Shape := ⟨2, ![256, 128]⟩
abbrev S16x256 : Shape := ⟨2, ![16, 256]⟩
abbrev S16x128x128 : Shape := ⟨3, ![16, 128, 128]⟩
abbrev S264x2048 : Shape := ⟨2, ![264, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S512x128 : Shape := ⟨2, ![512, 128]⟩
abbrev S512x256 : Shape := ⟨2, ![512, 256]⟩
abbrev S1x128x128 : Shape := ⟨3, ![1, 128, 128]⟩
abbrev S128x128 : Shape := ⟨2, ![128, 128]⟩
abbrev S64x128 : Shape := ⟨2, ![64, 128]⟩
abbrev S1x1 : Shape := ⟨2, ![1, 1]⟩

abbrev nBuf : Space → Nat
  | .hbm => 9
  | .vmem => 32
  | .smem => 0
  | _ => 0

abbrev bufTy : (tb : Table) → Fin (tcTables nBuf tb) → BufTy
  | .hbm, ⟨0, _⟩ => ⟨S8192x13312, .f32⟩
  | .hbm, ⟨1, _⟩ => ⟨S4x6144, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S16x8192, .f32⟩
  | .hbm, ⟨6, _⟩ => ⟨S128, .f32⟩
  | .hbm, ⟨7, _⟩ => ⟨S1x128, .f32⟩
  | .hbm, ⟨8, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S4x2048, .f32⟩
  | .local _ .vmem, ⟨13, _⟩ => ⟨S4x2048, .f32⟩
  | .local _ .vmem, ⟨14, _⟩ => ⟨S4x2048, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S16x256, .f32⟩
  | .local _ .vmem, ⟨22, _⟩ => ⟨S16x256, .f32⟩
  | .local _ .vmem, ⟨23, _⟩ => ⟨S256x2048, .f32⟩
  | .local _ .vmem, ⟨24, _⟩ => ⟨S256x2048, .f32⟩
  | .local _ .vmem, ⟨25, _⟩ => ⟨S1x128, .f32⟩
  | .local _ .vmem, ⟨26, _⟩ => ⟨S256x2048, .bf16⟩
  | .local _ .vmem, ⟨27, _⟩ => ⟨S256x2048, .bf16⟩
  | .local _ .vmem, ⟨28, _⟩ => ⟨S16x128x128, .f32⟩
  | .local _ .vmem, ⟨29, _⟩ => ⟨S264x2048, .f32⟩
  | .local _ .vmem, ⟨30, _⟩ => ⟨S264x2048, .f32⟩
  | .local _ .vmem, ⟨31, _⟩ => ⟨S264x2048, .f32⟩
  | _, _ => ⟨S8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨3, ![2, 1, 16], ![false, false, false]⟩

def k0_off1 (i : grid0.Coords) (c0_i32_87 : BitVec 32) : Fin 2 → Nat :=
  let arg1 : BitVec 32 := BitVec.ofNat 32 (i 1).val
  let c16_i32_86 : BitVec 32 := 16#32
  let v256 : BitVec 32 := Scalar.muli arg1 c16_i32_86
  let v257 : BitVec 32 := Scalar.addi v256 c0_i32_87
  let v992 : Index := Scalar.indexCast v257
  let c0_410 : Index := 0#32
  ![v992.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let v5 : BitVec 32 := Scalar.addi c2_i32 arg1
  let c0_i32_0 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c3_i32 : BitVec 32 := 3#32
  let v5 : BitVec 32 := Scalar.addi c3_i32 arg1
  let c0_i32_0 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let v5 : BitVec 32 := Scalar.addi c4_i32 arg1
  let c0_i32_0 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c5_i32 : BitVec 32 := 5#32
  let v2 : BitVec 32 := Scalar.addi c5_i32 arg1
  let c0_i32 : BitVec 32 := 0#32
  ![v1.toNat, v2.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== DeltaGates.lean ====
abbrev S2x4096x21024 : Shape := ⟨3, ![2, 4096, 21024]⟩
abbrev S16 : Shape := ⟨1, ![16]⟩
abbrev S8192x21024 : Shape := ⟨2, ![8192, 21024]⟩
abbrev S8192x2048 : Shape := ⟨2, ![8192, 2048]⟩
abbrev S8192x10240 : Shape := ⟨2, ![8192, 10240]⟩
abbrev S8192x512 : Shape := ⟨2, ![8192, 512]⟩
abbrev S8192x13312 : Shape := ⟨2, ![8192, 13312]⟩
abbrev S8192x16 : Shape := ⟨2, ![8192, 16]⟩
abbrev S16x8192 : Shape := ⟨2, ![16, 8192]⟩
abbrev S_ : Shape := ⟨0, ![]⟩
abbrev S128 : Shape := ⟨1, ![128]⟩
abbrev S1x128 : Shape := ⟨2, ![1, 128]⟩
abbrev S16x1 : Shape := ⟨2, ![16, 1]⟩
abbrev S8192x128 : Shape := ⟨2, ![8192, 128]⟩
abbrev S256x128 : Shape := ⟨2, ![256, 128]⟩
abbrev S16x256 : Shape := ⟨2, ![16, 256]⟩

abbrev nBuf : Space → Nat
  | .hbm => 28
  | .vmem => 16
  | .smem => 0
  | _ => 0

abbrev bufTy : (tb : Table) → Fin (tcTables nBuf tb) → BufTy
  | .hbm, ⟨0, _⟩ => ⟨S2x4096x21024, .f32⟩
  | .hbm, ⟨1, _⟩ => ⟨S16, .f32⟩
  | .hbm, ⟨2, _⟩ => ⟨S16, .f32⟩
  | .hbm, ⟨3, _⟩ => ⟨S8192x21024, .f32⟩
  | .hbm, ⟨4, _⟩ => ⟨S8192x2048, .f32⟩
  | .hbm, ⟨5, _⟩ => ⟨S8192x10240, .f32⟩
  | .hbm, ⟨6, _⟩ => ⟨S8192x512, .f32⟩
  | .hbm, ⟨7, _⟩ => ⟨S8192x512, .f32⟩
  | .hbm, ⟨8, _⟩ => ⟨S8192x13312, .f32⟩
  | .hbm, ⟨9, _⟩ => ⟨S8192x16, .f32⟩
  | .hbm, ⟨10, _⟩ => ⟨S16x8192, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16x1, .f32⟩
  | .hbm, ⟨20, _⟩ => ⟨S16x1, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S16x8192, .f32⟩
  | .hbm, ⟨25, _⟩ => ⟨S8192x16, .f32⟩
  | .hbm, ⟨26, _⟩ => ⟨S8192x16, .f32⟩
  | .hbm, ⟨27, _⟩ => ⟨S8192x16, .f32⟩
  | .local _ .vmem, ⟨0, _⟩ => ⟨S256x128, .f32⟩
  | .local _ .vmem, ⟨1, _⟩ => ⟨S256x128, .f32⟩
  | .local _ .vmem, ⟨2, _⟩ => ⟨S16x256, .f32⟩
  | .local _ .vmem, ⟨3, _⟩ => ⟨S16x256, .f32⟩
  | .local _ .vmem, ⟨4, _⟩ => ⟨S1x128, .f32⟩
  | .local _ .vmem, ⟨5, _⟩ => ⟨S1x128, .f32⟩
  | .local _ .vmem, ⟨6, _⟩ => ⟨S16x1, .f32⟩
  | .local _ .vmem, ⟨7, _⟩ => ⟨S16x1, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S16x256, .f32⟩
  | .local _ .vmem, ⟨15, _⟩ => ⟨S16x256, .f32⟩
  | _, _ => ⟨S2x4096x21024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c100_i32 : BitVec 32 := 100#32
  let c0_i32 : BitVec 32 := 0#32
  ![arg0.toNat, c100_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DeltaGatesReferenceIdeal.lean ====
abbrev S2x4096x21024 : Shape := ⟨3, ![2, 4096, 21024]⟩
abbrev S16 : Shape := ⟨1, ![16]⟩
abbrev S2x4096x2048 : Shape := ⟨3, ![2, 4096, 2048]⟩
abbrev S2x4096x256 : Shape := ⟨3, ![2, 4096, 256]⟩
abbrev S2x4096x6144 : Shape := ⟨3, ![2, 4096, 6144]⟩
abbrev S2x4096x16 : Shape := ⟨3, ![2, 4096, 16]⟩
abbrev S2x4096x4096 : Shape := ⟨3, ![2, 4096, 4096]⟩
abbrev S_ : Shape := ⟨0, ![]⟩
abbrev S1x1x16 : Shape := ⟨3, ![1, 1, 16]⟩
abbrev S2x64x64x16 : Shape := ⟨4, ![2, 64, 64, 16]⟩
abbrev S2x16x64x64 : Shape := ⟨4, ![2, 16, 64, 64]⟩
abbrev S2x16x64x1 : Shape := ⟨4, ![2, 16, 64, 1]⟩
abbrev S8192x16 : Shape := ⟨2, ![8192, 16]⟩
abbrev S16x2x64x64 : Shape := ⟨4, ![16, 2, 64, 64]⟩
abbrev S16x8192 : Shape := ⟨2, ![16, 8192]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x21024, .f32⟩
  | .hbm, ⟨1, _⟩ => ⟨S16, .f32⟩
  | .hbm, ⟨2, _⟩ => ⟨S16, .f32⟩
  | .hbm, ⟨3, _⟩ => ⟨S2x4096x2048, .f32⟩
  | .hbm, ⟨4, _⟩ => ⟨S2x4096x256, .f32⟩
  | .hbm, ⟨5, _⟩ => ⟨S2x4096x256, .f32⟩
  | .hbm, ⟨6, _⟩ => ⟨S2x4096x2048, .f32⟩
  | .hbm, ⟨7, _⟩ => ⟨S2x4096x6144, .f32⟩
  | .hbm, ⟨8, _⟩ => ⟨S2x4096x2048, .f32⟩
  | .hbm, ⟨9, _⟩ => ⟨S2x4096x16, .f32⟩
  | .hbm, ⟨10, _⟩ => ⟨S2x4096x16, .f32⟩
  | .hbm, ⟨11, _⟩ => ⟨S2x4096x4096, .f32⟩
  | .hbm, ⟨12, _⟩ => ⟨S2x4096x4096, .f32⟩
  | .hbm, ⟨13, _⟩ => ⟨S2x4096x16, .f32⟩
  | .hbm, ⟨14, _⟩ => ⟨S2x4096x16, .f32⟩
  | .hbm, ⟨15, _⟩ => ⟨S_, .f32⟩
  | .hbm, ⟨16, _⟩ => ⟨S2x4096x16, .f32⟩
  | .hbm, ⟨17, _⟩ => ⟨S2x4096x16, .f32⟩
  | .hbm, ⟨18, _⟩ => ⟨S_, .f32⟩
  | .hbm, ⟨19, _⟩ => ⟨S2x4096x16, .f32⟩
  | .hbm, ⟨20, _⟩ => ⟨S2x4096x16, .f32⟩
  | .hbm, ⟨21, _⟩ => ⟨S16, .f32⟩
  | .hbm, ⟨22, _⟩ => ⟨S16, .f32⟩
  | .hbm, ⟨23, _⟩ => ⟨S1x1x16, .f32⟩
  | .hbm, ⟨24, _⟩ => ⟨S2x4096x16, .f32⟩
  | .hbm, ⟨25, _⟩ => ⟨S2x4096x16, .f32⟩
  | .hbm, ⟨26, _⟩ => ⟨S_, .f32⟩
  | .hbm, ⟨27, _⟩ => ⟨S2x4096x16, .f32⟩
  | .hbm, ⟨28, _⟩ => ⟨S2x4096x16, .f32⟩
  | .hbm, ⟨29, _⟩ => ⟨S2x4096x16, .f32⟩
  | .hbm, ⟨30, _⟩ => ⟨S2x4096x16, .f32⟩
  | .hbm, ⟨31, _⟩ => ⟨S2x4096x16, .i1⟩
  | .hbm, ⟨32, _⟩ => ⟨S2x4096x16, .f32⟩
  | .hbm, ⟨33, _⟩ => ⟨S2x4096x16, .f32⟩
  | .hbm, ⟨34, _⟩ => ⟨S2x4096x16, .f32⟩
  | .hbm, ⟨35, _⟩ => ⟨S2x4096x16, .f32⟩
  | .hbm, ⟨36, _⟩ => ⟨S2x4096x16, .f32⟩
  | .hbm, ⟨37, _⟩ => ⟨S2x4096x16, .f32⟩
  | .hbm, ⟨38, _⟩ => ⟨S2x4096x16, .f32⟩
  | .hbm, ⟨39, _⟩ => ⟨S2x4096x16, .f32⟩
  | .hbm, ⟨40, _⟩ => ⟨S1x1x16, .f32⟩
  | .hbm, ⟨41, _⟩ => ⟨S2x4096x16, .f32⟩
  | .hbm, ⟨42, _⟩ => ⟨S2x4096x16, .f32⟩
  | .hbm, ⟨43, _⟩ => ⟨S2x64x64x16, .f32⟩
  | .hbm, ⟨44, _⟩ => ⟨S2x16x64x64, .f32⟩
  | .hbm, ⟨45, _⟩ => ⟨S_, .f32⟩
  | .hbm, ⟨46, _⟩ => ⟨S_, .f32⟩
  | .hbm, ⟨47, _⟩ => ⟨S2x16x64x64, .f32⟩
  | .hbm, ⟨48, _⟩ => ⟨S2x16x64x1, .f32⟩
  | .hbm, ⟨49, _⟩ => ⟨S2x16x64x64, .f32⟩
  | .hbm, ⟨50, _⟩ => ⟨S2x16x64x64, .f32⟩
  | .hbm, ⟨51, _⟩ => ⟨S8192x16, .f32⟩
  | .hbm, ⟨52, _⟩ => ⟨S2x64x64x16, .f32⟩
  | .hbm, ⟨53, _⟩ => ⟨S8192x16, .f32⟩
  | .hbm, ⟨54, _⟩ => ⟨S2x64x64x16, .f32⟩
  | .hbm, ⟨55, _⟩ => ⟨S8192x16, .f32⟩
  | .hbm, ⟨56, _⟩ => ⟨S16x2x64x64, .f32⟩
  | .hbm, ⟨57, _⟩ => ⟨S16x8192, .f32⟩
  | _, _ => ⟨S2x4096x21024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_call0_cst : Ref sig .tc := ⟨.hbm, 45, rfl⟩
abbrev main_call1_call0_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== CastIn.lean ====
abbrev S4x4096x21024 : Shape := ⟨3, ![4, 4096, 21024]⟩
abbrev S4x21024x4096 : Shape := ⟨3, ![4, 21024, 4096]⟩
abbrev S4x13312x4096 : Shape := ⟨3, ![4, 13312, 4096]⟩
abbrev S1x512x4096 : Shape := ⟨3, ![1, 512, 4096]⟩
abbrev S512x4096 : Shape := ⟨2, ![512, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4x4096x21024, .f32⟩
  | .hbm, ⟨1, _⟩ => ⟨S4x21024x4096, .f32⟩
  | .hbm, ⟨2, _⟩ => ⟨S4x13312x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x512x4096, .bf16⟩
  | .local _ .vmem, ⟨3, _⟩ => ⟨S1x512x4096, .bf16⟩
  | _, _ => ⟨S4x4096x21024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 26], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c24_i32 : BitVec 32 := 24#32
  let v1 : BitVec 1 := Scalar.cmpi .slt arg1 c24_i32
  let c1_i32 : BitVec 32 := 1#32
  let v2 : BitVec 32 := Scalar.addi arg1 c1_i32
  let c24_i32_0 : BitVec 32 := 24#32
  let v3 : BitVec 1 := Scalar.cmpi .eq arg1 c24_i32_0
  let c4_i32_1 : BitVec 32 := 4#32
  let v4 : BitVec 32 := Scalar.select v3 c4_i32_1 arg1
  let v5 : BitVec 32 := Scalar.select v1 v2 v4
  let v6 : BitVec 32 := Scalar.select v0 arg1 v5
  let c0_i32 : BitVec 32 := 0#32
  let c0_i32_2 : BitVec 32 := 0#32
  ![arg0.toNat, v6.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastInReferenceIdeal.lean ====
abbrev S4x4096x21024 : Shape := ⟨3, ![4, 4096, 21024]⟩
abbrev S4x4096x2048 : Shape := ⟨3, ![4, 4096, 2048]⟩
abbrev S4x4096x256 : Shape := ⟨3, ![4, 4096, 256]⟩
abbrev S4x4096x6144 : Shape := ⟨3, ![4, 4096, 6144]⟩
abbrev S4x4096x16 : Shape := ⟨3, ![4, 4096, 16]⟩
abbrev S4x4096x4096 : Shape := ⟨3, ![4, 4096, 4096]⟩
abbrev S4x4096x480 : Shape := ⟨3, ![4, 4096, 480]⟩
abbrev S4x4096x13312 : Shape := ⟨3, ![4, 4096, 13312]⟩
abbrev S4x13312x4096 : Shape := ⟨3, ![4, 13312, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x21024, .f32⟩
  | .hbm, ⟨1, _⟩ => ⟨S4x4096x2048, .f32⟩
  | .hbm, ⟨2, _⟩ => ⟨S4x4096x256, .f32⟩
  | .hbm, ⟨3, _⟩ => ⟨S4x4096x256, .f32⟩
  | .hbm, ⟨4, _⟩ => ⟨S4x4096x2048, .f32⟩
  | .hbm, ⟨5, _⟩ => ⟨S4x4096x6144, .f32⟩
  | .hbm, ⟨6, _⟩ => ⟨S4x4096x2048, .f32⟩
  | .hbm, ⟨7, _⟩ => ⟨S4x4096x16, .f32⟩
  | .hbm, ⟨8, _⟩ => ⟨S4x4096x16, .f32⟩
  | .hbm, ⟨9, _⟩ => ⟨S4x4096x4096, .f32⟩
  | .hbm, ⟨10, _⟩ => ⟨S4x4096x4096, .f32⟩
  | .hbm, ⟨11, _⟩ => ⟨S4x4096x480, .f32⟩
  | .hbm, ⟨12, _⟩ => ⟨S4x4096x13312, .f32⟩
  | .hbm, ⟨13, _⟩ => ⟨S4x13312x4096, .f32⟩
  | .hbm, ⟨14, _⟩ => ⟨S4x13312x4096, .bf16⟩
  | _, _ => ⟨S4x4096x21024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩

abbrev nD : Nat := 1
abbrev τ : Topo := Topo.v7x

variable {F : FTy → Type} [FloatOps F]
-- ==== CastGates.lean ====
abbrev S4x4096x21024 : Shape := ⟨3, ![4, 4096, 21024]⟩
abbrev S4x21024x4096 : Shape := ⟨3, ![4, 21024, 4096]⟩
abbrev S4x8192x4096 : Shape := ⟨3, ![4, 8192, 4096]⟩
abbrev S1x512x4096 : Shape := ⟨3, ![1, 512, 4096]⟩
abbrev S1x32x4096 : Shape := ⟨3, ![1, 32, 4096]⟩
abbrev S1x480x4096 : Shape := ⟨3, ![1, 480, 4096]⟩
abbrev S480x4096 : Shape := ⟨2, ![480, 4096]⟩
abbrev S32x4096 : Shape := ⟨2, ![32, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x21024, .f32⟩
  | .hbm, ⟨1, _⟩ => ⟨S4x21024x4096, .f32⟩
  | .hbm, ⟨2, _⟩ => ⟨S4x8192x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x32x4096, .f32⟩
  | .local _ .vmem, ⟨3, _⟩ => ⟨S1x32x4096, .f32⟩
  | .local _ .vmem, ⟨4, _⟩ => ⟨S1x512x4096, .bf16⟩
  | .local _ .vmem, ⟨5, _⟩ => ⟨S1x512x4096, .bf16⟩
  | _, _ => ⟨S4x4096x21024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c1_i32 : BitVec 32 := 1#32
  let v1 : BitVec 32 := Scalar.addi v0 c1_i32
  let c16_i32 : BitVec 32 := 16#32
  let v2 : BitVec 32 := Scalar.muli v1 c16_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CastGatesReferenceIdeal.lean ====
abbrev S4x4096x21024 : Shape := ⟨3, ![4, 4096, 21024]⟩
abbrev S4x4096x2048 : Shape := ⟨3, ![4, 4096, 2048]⟩
abbrev S4x4096x256 : Shape := ⟨3, ![4, 4096, 256]⟩
abbrev S4x4096x6144 : Shape := ⟨3, ![4, 4096, 6144]⟩
abbrev S4x4096x16 : Shape := ⟨3, ![4, 4096, 16]⟩
abbrev S4x4096x4096 : Shape := ⟨3, ![4, 4096, 4096]⟩
abbrev S4x4096x8192 : Shape := ⟨3, ![4, 4096, 8192]⟩
abbrev S4x8192x4096 : Shape := ⟨3, ![4, 8192, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x21024, .f32⟩
  | .hbm, ⟨1, _⟩ => ⟨S4x4096x2048, .f32⟩
  | .hbm, ⟨2, _⟩ => ⟨S4x4096x256, .f32⟩
  | .hbm, ⟨3, _⟩ => ⟨S4x4096x256, .f32⟩
  | .hbm, ⟨4, _⟩ => ⟨S4x4096x2048, .f32⟩
  | .hbm, ⟨5, _⟩ => ⟨S4x4096x6144, .f32⟩
  | .hbm, ⟨6, _⟩ => ⟨S4x4096x2048, .f32⟩
  | .hbm, ⟨7, _⟩ => ⟨S4x4096x16, .f32⟩
  | .hbm, ⟨8, _⟩ => ⟨S4x4096x16, .f32⟩
  | .hbm, ⟨9, _⟩ => ⟨S4x4096x4096, .f32⟩
  | .hbm, ⟨10, _⟩ => ⟨S4x4096x4096, .f32⟩
  | .hbm, ⟨11, _⟩ => ⟨S4x4096x8192, .f32⟩
  | .hbm, ⟨12, _⟩ => ⟨S4x8192x4096, .f32⟩
  | .hbm, ⟨13, _⟩ => ⟨S4x8192x4096, .bf16⟩
  | _, _ => ⟨S4x4096x21024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩

abbrev nD : Nat := 1
abbrev τ : Topo := Topo.v7x

variable {F : FTy → Type} [FloatOps F]
-- ==== CastBranch.lean ====
abbrev S4x2048x4096 : Shape := ⟨3, ![4, 2048, 4096]⟩
abbrev S1x2048x512 : Shape := ⟨3, ![1, 2048, 512]⟩
abbrev S2048x512 : Shape := ⟨2, ![2048, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x512, .bf16⟩
  | .local _ .vmem, ⟨3, _⟩ => ⟨S1x2048x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastBranchReferenceIdeal.lean ====
abbrev S4x2048x4096 : Shape := ⟨3, ![4, 2048, 4096]⟩

abbrev nBuf : Space → Nat
  | .hbm => 2
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastOut.lean ====
abbrev S4x4096x4096 : Shape := ⟨3, ![4, 4096, 4096]⟩
abbrev S1x4096x512 : Shape := ⟨3, ![1, 4096, 512]⟩
abbrev S4096x512 : Shape := ⟨2, ![4096, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .bf16⟩
  | .local _ .vmem, ⟨0, _⟩ => ⟨S1x4096x512, .f32⟩
  | .local _ .vmem, ⟨1, _⟩ => ⟨S1x4096x512, .f32⟩
  | .local _ .vmem, ⟨2, _⟩ => ⟨S1x4096x512, .bf16⟩
  | .local _ .vmem, ⟨3, _⟩ => ⟨S1x4096x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastOutReferenceIdeal.lean ====
abbrev S4x4096x4096 : Shape := ⟨3, ![4, 4096, 4096]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Attn.Block.lean ====
/- What the attention kernel's body stores at one grid point, one head at a time: every head runs the same operations
   on its own columns of the query and gate blocks, its group's columns of the key and value bands, its sink and its
   slope. `headOut` is one head's stored tile; `pieces` lists the 32 tiles as the body's stores leave them. -/
module

public import proofs.«01_k».proof.Proof.Gen.KernelIdeal.Value

@[expose] public section

noncomputable section

namespace Cert.Attn

open Cert.KernelIdeal Cert.KernelIdeal.Gen Idealize.ShloMosaic Idealize.ShloMosaic.TcCoe Idealize.SL.Sem

variable {F : FTy → Type} [FloatOps F] [Named F]

/-- Head `8 * g + j`: the `j`-th query head of key-value group `g`. -/
def head (g : Fin 4) (j : Fin 8) : Fin 32 := ⟨8 * g.val + j.val, by omega⟩

/-- The distance slope of each head, as the kernel's constants name it. -/
def slope (h : Fin 32) : F .f32 :=
  (![
    Named.named κ "slope1" 0x3F5744FD#32, Named.named κ "slope2" 0x3F3504F3#32,
    Named.named κ "slope3" 0x3F1837F0#32, Scalar.ofBits .f32 0x3F000000#32,
    Named.named κ "slope5" 0x3ED744FD#32, Named.named κ "slope6" 0x3EB504F3#32,
    Named.named κ "slope7" 0x3E9837F0#32, Scalar.ofBits .f32 0x3E800000#32,
    Named.named κ "slope9" 0x3E5744FD#32, Named.named κ "slope10" 0x3E3504F3#32,
    Named.named κ "slope11" 0x3E1837F0#32, Scalar.ofBits .f32 0x3E000000#32,
    Named.named κ "slope13" 0x3DD744FD#32, Named.named κ "slope14" 0x3DB504F3#32,
    Named.named κ "slope15" 0x3D9837F0#32, Scalar.ofBits .f32 0x3D800000#32,
    Named.named κ "slope17" 0x3D5744FD#32, Named.named κ "slope18" 0x3D3504F3#32,
    Named.named κ "slope19" 0x3D1837F0#32, Scalar.ofBits .f32 0x3D000000#32,
    Named.named κ "slope21" 0x3CD744FD#32, Named.named κ "slope22" 0x3CB504F3#32,
    Named.named κ "slope23" 0x3C9837F0#32, Scalar.ofBits .f32 0x3C800000#32,
    Named.named κ "slope25" 0x3C5744FD#32, Named.named κ "slope26" 0x3C3504F3#32,
    Named.named κ "slope27" 0x3C1837F0#32, Scalar.ofBits .f32 0x3C000000#32,
    Named.named κ "slope29" 0x3BD744FD#32, Named.named κ "slope30" 0x3BB504F3#32,
    Named.named κ "slope31" 0x3B9837F0#32, Scalar.ofBits .f32 0x3B800000#32] : Fin 32 → F .f32) h

/-- Columns `64 h … 64 h + 63` of a query or gate block. -/
def cols (x : Vec F S128x2048 .f32) (h : Fin 32) : Vec F S128x64 .f32 :=
  View.ld x (Rect.unit (s := S128x2048) ![0, 64 * h.val] S128x64.size
    (fun a => match a with
      | ⟨0, _⟩ => by show 0 + 128 ≤ 128; omega
      | ⟨1, _⟩ => by have := h.isLt; show 64 * h.val + 64 ≤ 2048; omega))

/-- The scalar-memory cell of head `h`. -/
def sinkAt (x : Vec F S32 .f32) (h : Fin 32) : F .f32 :=
  View.ld x (Rect.unit (s := S32) ![h.val] S1.size
    (fun a => match a with | ⟨0, _⟩ => by have := h.isLt; show h.val + 1 ≤ 32; omega)) (Shape.Idx.first (lt_of_lt_of_eq Nat.one_pos numel1_S1.symm))

/-- Two 128-row blocks stacked: the previous block's rows, then the current block's. -/
def band (prev cur : Vec F S128x256 .f32) : FVec F S256x256 .bf16 :=
  k0_pay5 (View.ld prev (Rect.unit (s := S128x256) ![0, 0] S128x256.size inb_S128x256_S128x256_0_0))
    (View.ld cur (Rect.unit (s := S128x256) ![0, 0] S128x256.size inb_S128x256_S128x256_0_0))

/-- Group `g`'s 64 columns of a band. -/
def bandCols (b : FVec F S256x256 .bf16) (g : Fin 4) : FVec F S256x64 .bf16 :=
  extractStridedSlice S256x64 ![0, 64 * g.val] b
    ⟨rfl, fun a => match a with
      | ⟨0, _⟩ => by show 0 + 256 ≤ 256; omega
      | ⟨1, _⟩ => by have := g.isLt; show 64 * g.val + 64 ≤ 256; omega⟩

/-- Masked scores of one head: scaled products less the slope times the distance, the mask's value off the window. -/
def scores (i : grid0.Coords) (sl : F .f32) (q : Vec F S128x64 .f32) (k : FVec F S256x64 .bf16) : FVec F S128x256 .f32 :=
  select (k0_pay3 i)
    (subf
      (mulf (matmul dot_S128x64_S256x64_S128x256_1_1_0_0_n_n none
          (truncf .bf16 (shapeCast S128x64 q shapeCasts_S128x64_S128x64) bitsLt_bf16_f32) k
          (constant S128x256 .f32 0x00000000#32))
        (broadcast S128x256 (Scalar.ofBits .f32 0x3E000000#32)))
      (mulf (broadcast S128x256 sl) k0_pay4))
    (broadcast S128x256 (Named.named κ "mask" 0xF149F2CA#32))

/-- The row maximum of the scores and the sink. -/
def rowMax (s : FVec F S128x256 .f32) (sink : F .f32) : FVec F S128x1 .f32 :=
  maximumf
    (shapeCast S128x1 (multiReduction .maximumf [1] S128 s 0xFF800000#32 reduces_S128x256_S128 (.inl rfl) rfl)
      shapeCasts_S128_S128x1)
    (broadcast S128x1 sink)

/-- The exponentials of the scores less their row's maximum. -/
def weights (s : FVec F S128x256 .f32) (sink : F .f32) : FVec F S128x256 .f32 :=
  exp (subf s (broadcastTo S128x256 (rowMax s sink) broadcasts_S128x1_S128x256))

/-- The softmax denominator: the row sum of the exponentials and the sink's exponential. -/
def denom (s : FVec F S128x256 .f32) (sink : F .f32) : FVec F S128x1 .f32 :=
  addf
    (shapeCast S128x1 (multiReduction .add [1] S128 (weights s sink) 0x00000000#32 reduces_S128x256_S128 (.inl rfl) rfl)
      shapeCasts_S128_S128x1)
    (exp (subf (broadcast S128x1 sink) (rowMax s sink)))

/-- The kernel's gate: with `u = z / 2`, `u + u tanh u`. -/
def gate (z : Vec F S128x64 .f32) : FVec F S128x64 .f32 :=
  addf (mulf (broadcast S128x64 (Scalar.ofBits .f32 0x3F000000#32)) (shapeCast S128x64 z shapeCasts_S128x64_S128x64))
    (mulf (mulf (broadcast S128x64 (Scalar.ofBits .f32 0x3F000000#32)) (shapeCast S128x64 z shapeCasts_S128x64_S128x64))
      (tanh (mulf (broadcast S128x64 (Scalar.ofBits .f32 0x3F000000#32))
        (shapeCast S128x64 z shapeCasts_S128x64_S128x64))))

section Point

variable (i : grid0.Coords) (x0 : Vec F S32 .f32) (x1 x2 : Vec F S128x2048 .f32) (x3 x4 x5 x6 : Vec F S128x256 .f32)

/-- Head `8 g + j`'s scores at a grid point. -/
def headScores (g : Fin 4) (j : Fin 8) : FVec F S128x256 .f32 :=
  scores i (slope (head g j)) (cols x1 (head g j)) (bandCols (band x4 x3) g)

/-- A group's eight heads' weights, one head below the other, times the group's columns of the value band. -/
def groupOut (g : Fin 4) : FVec F S1024x64 .f32 :=
  matmul dot_S1024x256_S256x64_S1024x64_1_0_0_1_n_n none
    (concatenate S1024x256 0
      (List.ofFn fun j : Fin 8 => ⟨S128x256, truncf .bf16 (weights (headScores i x1 x3 x4 g j) (sinkAt x0 (head g j))) bitsLt_bf16_f32⟩)
      concatenates_S128x256_S128x256_S128x256_S128x256_S128x256_S128x256_S128x256_S128x256_S1024x256_d0)
    (bandCols (band x6 x5) g) (constant S1024x64 .f32 0x00000000#32)

/-- The tile head `8 g + j` stores. -/
def headOut (g : Fin 4) (j : Fin 8) : FVec F S128x64 .bf16 :=
  truncf .bf16
    (mulf
      (divf
        (extractStridedSlice S128x64 ![128 * j.val, 0] (groupOut i x0 x1 x3 x4 x5 x6 g)
          ⟨rfl, fun a => match a with
            | ⟨0, _⟩ => by have := j.isLt; show 128 * j.val + 128 ≤ 1024; omega
            | ⟨1, _⟩ => by show 0 + 64 ≤ 64; omega⟩)
        (broadcastTo S128x64 (denom (headScores i x1 x3 x4 g j) (sinkAt x0 (head g j))) broadcasts_S128x1_S128x64))
      (gate (cols x2 (head g j))))
    bitsLt_bf16_f32

/-- Head `h`'s piece of the output block. -/
def piece (h : Fin 32) : View.Piece (Elt F) S128x2048 .bf16 :=
  ⟨Rect.unit (s := S128x2048) ![0, 64 * h.val] S128x64.size
    (fun a => match a with
      | ⟨0, _⟩ => by show 0 + 128 ≤ 128; omega
      | ⟨1, _⟩ => by have := h.isLt; show 64 * h.val + 64 ≤ 2048; omega),
    headOut i x0 x1 x2 x3 x4 x5 x6 ⟨h.val / 8, by omega⟩ ⟨h.val % 8, by omega⟩⟩

/-- The block's pieces, the last store first. -/
def pieces : List (View.Piece (Elt F) S128x2048 .bf16) :=
  List.ofFn fun n : Fin 32 => piece i x0 x1 x2 x3 x4 x5 x6 n.rev

end Point

set_option maxRecDepth 65536 in
/-- The run's pieces are the heads' tiles, over the input blocks read through their buffers. -/
theorem run_pieces (c : Dev nD) (i : grid0.Coords) (arg2 : Memref sig .tc .smem S32 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x2048 .bf16) (harg9 : arg9.IsWhole)
    (x0 : Vec F S32 .f32) (x1 : Vec F S128x2048 .f32) (x2 : Vec F S128x2048 .f32) (x3 : Vec F S128x256 .f32) (x4 : Vec F S128x256 .f32) (x5 : Vec F S128x256 .f32) (x6 : Vec F S128x256 .f32) :
    (kernelRun0_A c i arg2 harg2 arg3 harg3 arg4 harg4 arg5 harg5 arg6 harg6 arg7 harg7 arg8 harg8 arg9 harg9 x0 x1 x2 x3 x4 x5 x6).1
      = pieces i (arg2.view.read (Elt F) (harg2.unread x0)) (arg3.view.read (Elt F) (harg3.unread x1))
          (arg4.view.read (Elt F) (harg4.unread x2)) (arg5.view.read (Elt F) (harg5.unread x3))
          (arg6.view.read (Elt F) (harg6.unread x4)) (arg7.view.read (Elt F) (harg7.unread x5))
          (arg8.view.read (Elt F) (harg8.unread x6)) := by
  unfold kernelRun0_A
  rfl

end Cert.Attn

end
-- ==== Proof.Attn.Scalar.lean ====
/- The scalars of one attention row: a masked score, the softmax with a sink over the 256 keys of a band, the gate, and
   the equations between the kernel's forms and the reference's. -/
module

public import Idealize.ShloMosaic.Lib.Pointwise

@[expose] public section

noncomputable section

namespace Cert.Attn

open Idealize.ShloMosaic

/-- Query `r` of block `n` sees key `c` of its band: at a distance from 0 to 127 back, and not before the sequence. -/
def Sees (n r c : Nat) : Prop := (r < c ∧ c ≤ r + 128) ∧ (128 ≤ c ∨ 0 < n)

instance (n r c : Nat) : Decidable (Sees n r c) := by unfold Sees; infer_instance

/-- A masked score: the product scaled by 1/8 less the slope times the distance, or minus infinity. -/
def score (n r c : Nat) (qk sl : EReal) : EReal :=
  if Sees n r c then qk * ((1 / 8 : ℝ) : EReal) - sl * (((r : ℝ) + 128 - c : ℝ) : EReal) else ⊥

/-- The largest of the scores and the sink. -/
def top (s : Fin 256 → EReal) (sink : EReal) : EReal := max (Finset.fold max ⊥ s Finset.univ) sink

/-- The exponential of a score less the largest. -/
def wt (s : Fin 256 → EReal) (sink : EReal) (c : Fin 256) : EReal := Ideal.exp (s c - top s sink)

/-- The softmax's denominator, the sink's exponential included. -/
def den (s : Fin 256 → EReal) (sink : EReal) : EReal := ∑ c, wt s sink c + Ideal.exp (sink - top s sink)

/-- The scores with the sink after them. -/
def withSink (s : Fin 256 → EReal) (sink : EReal) (k : Fin 257) : EReal := if h : k.val < 256 then s ⟨k.val, h⟩ else sink

theorem withSink_castSucc (s : Fin 256 → EReal) (sink : EReal) (c : Fin 256) : withSink s sink c.castSucc = s c := dif_pos c.isLt

theorem withSink_last (s : Fin 256 → EReal) (sink : EReal) : withSink s sink (Fin.last 256) = sink := dif_neg (lt_irrefl _)

/-- The largest of the 257 is the largest of the scores and the sink. -/
theorem fold_withSink (s : Fin 256 → EReal) (sink : EReal) :
    max ⊥ (Finset.fold max ⊥ (withSink s sink) Finset.univ) = top s sink := by
  unfold top
  rw [max_eq_right bot_le, Fin.univ_castSuccEmb, Finset.fold_cons, Finset.fold_map, withSink_last, max_comm]
  exact congrArg (max · sink) (Finset.fold_congr fun c _ => withSink_castSucc s sink c)

/-- The sum of the 257 exponentials is the denominator. -/
theorem sum_withSink (s : Fin 256 → EReal) (sink : EReal) :
    ∑ k, Ideal.exp (withSink s sink k - top s sink) = den s sink := by
  rw [Fin.sum_univ_castSucc, withSink_last]
  simp only [withSink_castSucc]
  rfl

/-- The weighted mean of the values as the kernel takes it: one division after the sum. -/
def attend (s : Fin 256 → EReal) (sink : EReal) (v : Fin 256 → EReal) : EReal :=
  Ideal.div (∑ c, wt s sink c * v c) (den s sink)

/-- The weighted mean as the reference takes it: the weights divided first. -/
def attendRef (s : Fin 256 → EReal) (sink : EReal) (v : Fin 256 → EReal) : EReal :=
  ∑ c, v c * Ideal.div (wt s sink c) (den s sink)

/-- The gate as the kernel takes it: with `u = z / 2`, `u + u tanh u`. -/
def gateK (z : EReal) : EReal :=
  ((1 / 2 : ℝ) : EReal) * z + ((1 / 2 : ℝ) : EReal) * z * Ideal.tanh (((1 / 2 : ℝ) : EReal) * z)

/-- The gate as the reference takes it: `z / (1 + e^(-z))`. -/
def gateR (z : EReal) : EReal := z * Ideal.div 1 (1 + Ideal.exp (-z))

/-- On real numbers the two gates are one. -/
theorem gateK_eq_gateR (z : ℝ) : gateK z = gateR z := by
  have h1 : (1 : EReal) + Ideal.exp (-(z : EReal)) = ((1 + Real.exp (-z) : ℝ) : EReal) := by
    rw [← EReal.coe_neg, Ideal.exp_coe]; push_cast; rfl
  have h2 : (1 + Real.exp (-z)) ≠ 0 := by positivity
  have h3 : ((1 / 2 : ℝ) : EReal) * (z : EReal) = ((1 / 2 * z : ℝ) : EReal) := by push_cast; rfl
  unfold gateK gateR
  rw [h1, Ideal.div_coe h2, h3, Ideal.tanh_coe]
  rw [one_mul, ← EReal.coe_mul, ← EReal.coe_mul, ← EReal.coe_add]
  congr 1
  rw [Real.tanh_eq_sinh_div_cosh, Real.sinh_eq, Real.cosh_eq]
  have e1 : Real.exp (-z) = Real.exp (-(1/2*z)) * Real.exp (-(1/2*z)) := by rw [← Real.exp_add]; congr 1; ring
  have e2 : Real.exp (1/2*z) * Real.exp (-(1/2*z)) = 1 := by rw [← Real.exp_add]; simp
  have p1 := Real.exp_pos (1/2*z)
  have p2 := Real.exp_pos (-(1/2*z))
  rw [e1]
  generalize Real.exp (1/2*z) = a at *
  generalize Real.exp (-(1/2*z)) = b at *
  field_simp
  linear_combination (2 * b * z) * e2

/-- A score is minus infinity or a real number. -/
def NotTop (x : EReal) : Prop := x = ⊥ ∨ ∃ r : ℝ, x = (r : EReal)

theorem fold_notTop (s : Fin 256 → EReal) (h : ∀ c, NotTop (s c)) (S : Finset (Fin 256)) : NotTop (Finset.fold max ⊥ s S) := by
  classical
  induction S using Finset.induction_on with
  | empty => exact .inl rfl
  | insert a S ha ih =>
    rw [Finset.fold_insert ha]
    rcases max_choice (s a) (Finset.fold max ⊥ s S) with e | e <;> rw [e]
    · exact h a
    · exact ih

/-- With a real sink the largest is a real number. -/
theorem top_real (s : Fin 256 → EReal) (h : ∀ c, NotTop (s c)) (sink : ℝ) : ∃ m : ℝ, top s sink = m := by
  unfold top
  rcases fold_notTop s h Finset.univ with e | ⟨r, e⟩ <;> rw [e]
  · exact ⟨sink, by simp⟩
  · exact ⟨max r sink, ((EReal.coe_strictMono.monotone.map_max (a := r) (b := sink))).symm⟩

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The weights are nonnegative real numbers, and the denominator a positive one. -/
theorem wt_real (s : Fin 256 → EReal) (h : ∀ c, NotTop (s c)) (sink : ℝ) :
    ∃ (w : Fin 256 → ℝ) (d : ℝ), (∀ c, wt s sink c = w c) ∧ den s sink = d ∧ d ≠ 0 := by
  obtain ⟨m, hm⟩ := top_real s h sink
  have hw : ∀ c, ∃ w : ℝ, 0 ≤ w ∧ wt s sink c = w := fun c => by
    unfold wt; rw [hm]
    rcases h c with e | ⟨r, e⟩ <;> rw [e]
    · exact ⟨0, le_refl _, by simp [EReal.bot_sub]⟩
    · exact ⟨Real.exp (r - m), (Real.exp_pos _).le, by rw [← EReal.coe_sub, Ideal.exp_coe]⟩
  choose w w0 hw using hw
  refine ⟨w, ∑ c, w c + Real.exp (sink - m), hw, ?_, ?_⟩
  · unfold den; rw [hm, ← EReal.coe_sub, Ideal.exp_coe, EReal.coe_add, coe_sum]
    simp only [hw]
  · have := Finset.sum_nonneg (s := Finset.univ) (f := w) (fun c _ => w0 c)
    have := Real.exp_pos (sink - m)
    positivity

/-- The two weighted means agree: the scores real or minus infinity, the sink real, and the values real and equal
    wherever the score is not minus infinity. -/
theorem attend_eq_attendRef (s : Fin 256 → EReal) (h : ∀ c, NotTop (s c)) (sink : ℝ) (v v' : Fin 256 → EReal)
    (hv : ∀ c, s c ≠ ⊥ → v c = v' c) (hr : ∀ c, ∃ r : ℝ, v' c = r) : attend s sink v = attendRef s sink v' := by
  obtain ⟨m, hm⟩ := top_real s h sink
  obtain ⟨w, d, hw, hd, d0⟩ := wt_real s h sink
  choose u hu using hr
  have e : ∀ c, wt s sink c * v c = ((w c * u c : ℝ) : EReal) := fun c => by
    by_cases hc : s c = ⊥
    · have : wt s sink c = 0 := by unfold wt; rw [hm, hc]; simp [EReal.bot_sub]
      have hw0 : w c = 0 := by have := (hw c).symm.trans this; exact_mod_cast this
      rw [this, hw0]; simp
    · rw [hv c hc, hu c, hw c, EReal.coe_mul]
  unfold attend attendRef
  rw [Finset.sum_congr rfl fun c _ => e c, hd, Ideal.div_coe d0]
  simp only [hw, hu, Ideal.div_coe d0]
  rw [← coe_sum, ← EReal.coe_mul]
  simp only [← EReal.coe_mul]
  rw [← coe_sum]
  congr 1
  rw [Finset.sum_mul]
  exact Finset.sum_congr rfl fun c _ => by ring

end Cert.Attn

end
-- ==== Proof.Attn.Words.lean ====
/- The constants, the distances and the window masks of the two programs as numbers and conditions, and the attention of a
   row of the projection. -/
module

public import proofs.«01_k».proof.Proof.Attn.Scalar

@[expose] public section

noncomputable section

namespace Cert.Attn

open Idealize.ShloMosaic

theorem lit_eighth : Ideal.ofBits .f32 0x3E000000#32 = ((1 / 8 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_negInf : Ideal.ofBits .f32 0xFF800000#32 = ⊥ := by
  simp [Ideal.ofBits, Ideal.ieee]

theorem dist_toInt (r : Fin 128) (c : Fin 256) :
    (IntOp.subi (IntOp.addi (BitVec.ofNat 32 r.val) 128#32) (BitVec.ofNat 32 c.val)).toInt = (r.val : ℤ) + 128 - c.val := by
  have hr := r.isLt
  have hc := c.isLt
  show (BitVec.ofNat 32 r.val + 128#32 - BitVec.ofNat 32 c.val).toInt = _
  rw [BitVec.toInt_sub, BitVec.toInt_add]
  simp only [BitVec.toInt_ofNat', Int.bmod]
  norm_num
  omega

/-- The body's mask bit is the window condition. -/
theorem sees_bit (n : BitVec 32) (N : Nat) (hn : n = BitVec.ofNat 32 N) (hN : N < 32) (r : Fin 128) (c : Fin 256) {α : Type} (a b : α) :
    Scalar.select (IntOp.andi (IntOp.andi
        (IntOp.cmpi .sge (IntOp.subi (IntOp.addi (BitVec.ofNat 32 r.val) 128#32) (BitVec.ofNat 32 c.val)) 0#32)
        (IntOp.cmpi .slt (IntOp.subi (IntOp.addi (BitVec.ofNat 32 r.val) 128#32) (BitVec.ofNat 32 c.val)) 128#32))
        (IntOp.ori (IntOp.cmpi .sge (BitVec.ofNat 32 c.val) 128#32) (Scalar.cmpi .sgt n 0#32))) a b
      = if Sees N r c then a else b := by
  have hd := dist_toInt r c
  have hc := c.isLt
  generalize IntOp.subi (IntOp.addi (BitVec.ofNat 32 r.val) 128#32) (BitVec.ofNat 32 c.val) = D at *
  have h1 : (BitVec.ofNat 32 c.val).toInt = c.val := by
    rw [BitVec.toInt_ofNat', Int.bmod]; norm_num; omega
  have h2 : n.toInt = N := by
    rw [hn, BitVec.toInt_ofNat', Int.bmod]; norm_num; omega
  have e : ∀ p q : Bool, IntOp.andi (BitVec.ofBool p) (BitVec.ofBool q) = BitVec.ofBool (p && q) := by decide
  have e' : ∀ p q : Bool, IntOp.ori (BitVec.ofBool p) (BitVec.ofBool q) = BitVec.ofBool (p || q) := by decide
  have e'' : ∀ p : Bool, (BitVec.ofBool p = 1) ↔ p = true := by decide
  simp only [Scalar.cmpi, IntOp.cmpi, e, e', Scalar.select, e'', Bool.and_eq_true, Bool.or_eq_true, BitVec.sle_iff_toInt_le, BitVec.slt_iff_toInt_lt, hd, h1, h2]
  refine if_congr ?_ rfl rfl
  unfold Sees
  simp only [BitVec.toInt_ofNat', Int.bmod]
  norm_num
  omega

theorem dist_eq (r : Fin 128) (c : Fin 256) :
    FloatOps.sitofp (F := Ideal) .f32 (IntOp.subi (IntOp.addi (BitVec.ofNat 32 r.val) 128#32) (BitVec.ofNat 32 c.val))
      = (((r : ℝ) + 128 - c : ℝ) : EReal) := by
  show (((IntOp.subi (IntOp.addi (BitVec.ofNat 32 r.val) 128#32) (BitVec.ofNat 32 c.val)).toInt : ℝ) : EReal) = _
  rw [dist_toInt]; push_cast; rfl

theorem position_toInt (n : Fin 32) (c : Fin 256) :
    (BitVec.ofNat 32 (n.val * 128) - 128#32 + BitVec.ofNat 32 c.val).toInt = (n.val : ℤ) * 128 - 128 + c.val := by
  have hc := c.isLt
  have hn := n.isLt
  rw [BitVec.toInt_add, BitVec.toInt_sub]
  simp only [BitVec.toInt_ofNat', Int.bmod]
  norm_num
  omega

/-- The reference's mask bit is the window condition: it tests the key's position in the sequence. -/
theorem sees_bit_ref (n : Fin 32) (r : Fin 128) (c : Fin 256) {α : Type} (a b : α) :
    Scalar.select (IntOp.andi (IntOp.andi
        (IntOp.cmpi .sge (IntOp.subi (IntOp.addi (BitVec.ofNat 32 r.val) 128#32) (BitVec.ofNat 32 c.val)) 0#32)
        (IntOp.cmpi .slt (IntOp.subi (IntOp.addi (BitVec.ofNat 32 r.val) 128#32) (BitVec.ofNat 32 c.val)) 128#32))
        (IntOp.cmpi .sge (IntOp.addi (IntOp.subi (IntOp.muli (BitVec.ofNat 32 n.val) 128#32) 128#32) (BitVec.ofNat 32 c.val)) 0#32)) a b
      = if Sees n r c then a else b := by
  have hd := dist_toInt r c
  have hc := c.isLt
  have hn := n.isLt
  generalize IntOp.subi (IntOp.addi (BitVec.ofNat 32 r.val) 128#32) (BitVec.ofNat 32 c.val) = D at *
  have h1 : (IntOp.addi (IntOp.subi (IntOp.muli (BitVec.ofNat 32 n.val) 128#32) 128#32) (BitVec.ofNat 32 c.val)).toInt = (n.val : ℤ) * 128 - 128 + c.val := by
    have hm : IntOp.muli (BitVec.ofNat 32 n.val) 128#32 = BitVec.ofNat 32 (n.val * 128) := (BitVec.ofNat_mul n.val 128).symm
    rw [hm]
    exact position_toInt n c
  generalize IntOp.addi (IntOp.subi (IntOp.muli (BitVec.ofNat 32 n.val) 128#32) 128#32) (BitVec.ofNat 32 c.val) = K at *
  have e : ∀ p q : Bool, IntOp.andi (BitVec.ofBool p) (BitVec.ofBool q) = BitVec.ofBool (p && q) := by decide
  have e'' : ∀ p : Bool, (BitVec.ofBool p = 1) ↔ p = true := by decide
  simp only [IntOp.cmpi, e, Scalar.select, e'', Bool.and_eq_true, BitVec.sle_iff_toInt_le, BitVec.slt_iff_toInt_lt, hd, h1]
  refine if_congr ?_ rfl rfl
  unfold Sees
  simp only [BitVec.toInt_ofNat', Int.bmod]
  norm_num
  omega

/-- The projection with its two leading axes read as one row axis. -/
def flat {α : Type} (X : (⟨3, ![2, 4096, 21024]⟩ : Shape).Idx → α) (R : Fin 8192) (C : Fin 21024) : α :=
  X (ix3 ⟨R.val / 4096, by omega⟩ ⟨R.val % 4096, by omega⟩ C)

/-- The row of key `c` of the band of row `R`'s block: the block before it in the same sequence, then the block itself
    (the first block of a sequence stands before itself, where no key is seen). -/
def keyRow (R : Fin 8192) (c : Fin 256) : Fin 8192 :=
  if c.val < 128 then ⟨128 * (R.val / 4096 * 32 + (R.val / 128 % 32 - 1)) + c.val, by omega⟩
  else ⟨128 * (R.val / 128) + (c.val - 128), by omega⟩

/-- The masked score of row `R` against key `c` of its band, for head `h`. -/
def rowScore (X : (⟨3, ![2, 4096, 21024]⟩ : Shape).Idx → EReal) (sl : Fin 32 → EReal) (R : Fin 8192) (h : Fin 32) (c : Fin 256) : EReal :=
  score (R.val / 128 % 32) (R.val % 128) c
    (∑ x : Fin 64, flat X R ⟨64 * h.val + x.val, by omega⟩ * flat X (keyRow R c) ⟨2048 + (64 * (h.val / 8) + x.val), by omega⟩) (sl h)

end Cert.Attn

end
-- ==== Proof.Attn.Head.lean ====
/- The attention body's tile for one head, read at an index over the extended reals. -/
module

public import proofs.«01_k».proof.Proof.Attn.Block
public import proofs.«01_k».proof.Proof.Attn.Words
public import Idealize.ShloMosaic.Lib.Pipeline.ValueKit

@[expose] public section

noncomputable section

namespace Cert.Attn

open Cert.KernelIdeal Cert.KernelIdeal.Gen Idealize.ShloMosaic Idealize.ShloMosaic.TcCoe Idealize.SL.Sem

set_option maxRecDepth 16384

theorem mask_eq : Named.named (F := Ideal) κ "mask" (φ := .f32) 0xF149F2CA#32 = ⊥ :=
  IdealRules.named_const.ideal_named_scalar κ "mask" _ _ rfl

theorem scores_apply (i : grid0.Coords) (sl : EReal) (q : Vec Ideal S128x64 .f32) (k : FVec Ideal S256x64 .bf16) (r : Fin 128) (c : Fin 256) :
    scores (F := Ideal) i sl q k (ix2 r c) = score (i 1) r c (∑ x, q (ix2 r x) * k (ix2 c x)) sl := by
  pointwise [scores, k0_pay4, k0_pay3, k0_pay2]
  rw [sees_bit _ (i 1) rfl (i 1).isLt, dist_eq, lit_eighth, mask_eq]
  rfl

theorem rowMax_apply (s : FVec Ideal S128x256 .f32) (sink : EReal) (r : Fin 128) (c : Fin 1) :
    rowMax (F := Ideal) s sink (ix2 r c) = top (fun x => s (ix2 r x)) sink := by
  pointwise [rowMax]
  rw [lit_negInf]; rfl

theorem weights_apply (s : FVec Ideal S128x256 .f32) (sink : EReal) (r : Fin 128) (c : Fin 256) :
    weights (F := Ideal) s sink (ix2 r c) = wt (fun x => s (ix2 r x)) sink c := by
  pointwise [weights]
  rw [rowMax_apply]; rfl

theorem denom_apply (s : FVec Ideal S128x256 .f32) (sink : EReal) (r : Fin 128) (c : Fin 1) :
    denom (F := Ideal) s sink (ix2 r c) = den (fun x => s (ix2 r x)) sink := by
  pointwise [denom]
  simp only [rowMax_apply, weights_apply]; rfl

theorem gate_apply (z : Vec Ideal S128x64 .f32) (r : Fin 128) (d : Fin 64) : gate (F := Ideal) z (ix2 r d) = gateK (z (ix2 r d)) := by
  pointwise [gate]
  rw [lit_half]; rfl

/-- A key's or value's entry of a band: the previous block's rows first. -/
def bandAt (prev cur : Vec Ideal S128x256 .f32) (g : Fin 4) (c : Fin 256) (d : Fin 64) : EReal :=
  if h : c.val < 128 then prev (ix2 ⟨c.val, h⟩ ⟨64 * g.val + d.val, by omega⟩)
  else cur (ix2 ⟨c.val - 128, by omega⟩ ⟨64 * g.val + d.val, by omega⟩)

theorem bandCols_apply (prev cur : Vec Ideal S128x256 .f32) (g : Fin 4) (c : Fin 256) (d : Fin 64) :
    bandCols (band prev cur) g (ix2 c d) = bandAt prev cur g c d := by
  pointwise [bandCols, band, k0_pay5]
  rfl

section Point

variable (i : grid0.Coords) (x0 : Vec Ideal S32 .f32) (x1 x2 : Vec Ideal S128x2048 .f32) (x3 x4 x5 x6 : Vec Ideal S128x256 .f32)

/-- The score of query row `r` of head `8 g + j` against key `c`, from the blocks. -/
def blkScore (g : Fin 4) (j : Fin 8) (r : Fin 128) (c : Fin 256) : EReal :=
  score (i 1) r c (∑ x : Fin 64, x1 (ix2 r ⟨64 * (head g j).val + x.val, by omega⟩) * bandAt x4 x3 g c x) (slope (F := Ideal) (head g j))

theorem headScores_apply (g : Fin 4) (j : Fin 8) (r : Fin 128) (c : Fin 256) :
    headScores i x1 x3 x4 g j (ix2 r c) = blkScore i x1 x3 x4 g j r c := by
  unfold headScores blkScore
  rw [scores_apply]
  congr 1
  refine Finset.sum_congr rfl fun x _ => ?_
  rw [bandCols_apply]
  pointwise [cols]

theorem sinkAt_apply (h : Fin 32) : sinkAt x0 h = x0 (ix1 h) := by
  pointwise [sinkAt]

theorem groupProduct_apply (w : FVec Ideal S1024x256 .bf16) (v : FVec Ideal S256x64 .bf16) (r : Fin 1024) (d : Fin 64) :
    matmul dot_S1024x256_S256x64_S1024x64_1_0_0_1_n_n none w v (constant S1024x64 .f32 0x00000000#32) (ix2 r d)
      = ∑ c, w (ix2 r c) * v (ix2 c d) := by
  pointwise []

theorem groupOut_apply (g : Fin 4) (j : Fin 8) (r : Fin 128) (d : Fin 64) :
    groupOut i x0 x1 x3 x4 x5 x6 g (ix2 ⟨128 * j.val + r.val, by omega⟩ d)
      = ∑ c, wt (blkScore i x1 x3 x4 g j r) (x0 (ix1 (head g j))) c * bandAt x6 x5 g c d := by
  have hc : ∀ c : Fin 256, concatenate S1024x256 0
      (List.ofFn fun j : Fin 8 => ⟨S128x256, truncf (F := Ideal) .bf16 (weights (headScores i x1 x3 x4 g j) (sinkAt x0 (head g j))) bitsLt_bf16_f32⟩)
      concatenates_S128x256_S128x256_S128x256_S128x256_S128x256_S128x256_S128x256_S128x256_S1024x256_d0
      (ix2 ⟨128 * j.val + r.val, by omega⟩ c) = wt (blkScore i x1 x3 x4 g j r) (x0 (ix1 (head g j))) c := fun c => by
    refine (concatenate_ofFn_apply (t := S1024x256) (s₁ := S128x256) 0
      (fun j : Fin 8 => truncf (F := Ideal) .bf16 (weights (headScores i x1 x3 x4 g j) (sinkAt x0 (head g j))) bitsLt_bf16_f32)
      _ rfl 128 rfl _ j ?_ (ix2 r c) ?_ ?_).trans ?_
    · show (128 * j.val + r.val) / 128 = j.val; omega
    · show r.val = (128 * j.val + r.val) % 128; omega
    · intro b hb
      match b with
      | ⟨0, _⟩ => exact absurd rfl hb
      | ⟨1, _⟩ => rfl
    · pointwise []
      rw [weights_apply, sinkAt_apply]
      simp only [headScores_apply]
  unfold groupOut
  rw [groupProduct_apply]
  refine Finset.sum_congr rfl fun c _ => ?_
  rw [bandCols_apply]
  exact congrArg (· * _) (hc c)

theorem headOut_apply (g : Fin 4) (j : Fin 8) (r : Fin 128) (d : Fin 64) :
    headOut i x0 x1 x2 x3 x4 x5 x6 g j (ix2 r d)
      = attend (blkScore i x1 x3 x4 g j r) (x0 (ix1 (head g j))) (fun c => bandAt x6 x5 g c d)
        * gateK (x2 (ix2 r ⟨64 * (head g j).val + d.val, by omega⟩)) := by
  pointwise [headOut]
  rw [groupOut_apply, denom_apply, gate_apply, sinkAt_apply]
  simp only [headScores_apply]
  pointwise [cols]
  rfl

/-- The block a grid point leaves, at an index. -/
def blkOut (r : Fin 128) (C : Fin 2048) : EReal :=
  attend (blkScore i x1 x3 x4 ⟨C.val / 512, by omega⟩ ⟨C.val / 64 % 8, by omega⟩ r) (x0 (ix1 ⟨C.val / 64, by omega⟩))
      (fun c => bandAt x6 x5 ⟨C.val / 512, by omega⟩ c ⟨C.val % 64, by omega⟩)
    * gateK (x2 (ix2 r C))

theorem canon_pieces (r : Fin 128) (C : Fin 2048) :
    View.canon (pieces i x0 x1 x2 x3 x4 x5 x6) (ix2 r C) = blkOut i x0 x1 x2 x3 x4 x5 x6 r C := by
  unfold pieces piece
  refine View.canon_ofFn_unit_eq_of_forall (S := S128x2048) (Val := Elt Ideal) (e := .bf16) (fun n : Fin 32 => ![0, 64 * n.rev.val]) S128x64.size _
    (fun n => headOut i x0 x1 x2 x3 x4 x5 x6 ⟨n.rev.val / 8, by omega⟩ ⟨n.rev.val % 8, by omega⟩) (ix2 r C) _ ?_ ?_
  · refine ⟨(⟨C.val / 64, by omega⟩ : Fin 32).rev, fun a => ?_⟩
    rw [Fin.rev_rev]
    match a with
    | ⟨0, _⟩ => exact ⟨Nat.zero_le _, by show r.val < 0 + 128; omega⟩
    | ⟨1, _⟩ => exact ⟨by show 64 * (C.val / 64) ≤ C.val; omega, by show C.val < 64 * (C.val / 64) + 64; omega⟩
  · suffices key : ∀ h : Fin 32, View.TileAt (S := S128x2048) (Val := Elt Ideal) (e := .bf16) (ix2 r C) ![0, 64 * h.val] S128x64.size
        (headOut i x0 x1 x2 x3 x4 x5 x6 ⟨h.val / 8, by omega⟩ ⟨h.val % 8, by omega⟩) (blkOut i x0 x1 x2 x3 x4 x5 x6 r C) from
      fun n => key n.rev
    intro h x hx
    have h0 : r.val = 0 + (x 0).val := hx 0
    have h1 : C.val = 64 * h.val + (x 1).val := hx 1
    have hx1 : (x 1).val < 64 := (x 1).isLt
    have ex : x = ix2 (n0 := 128) (n1 := 64) ⟨r.val, r.isLt⟩ ⟨C.val % 64, by omega⟩ := by
      refine funext fun a => Fin.ext ?_
      match a with
      | ⟨0, _⟩ => show (x 0).val = r.val; omega
      | ⟨1, _⟩ => show (x 1).val = C.val % 64; omega
    rw [ex, headOut_apply]
    unfold blkOut
    have hh : h.val = C.val / 64 := by omega
    have e1 : (⟨h.val / 8, by omega⟩ : Fin 4) = ⟨C.val / 512, by omega⟩ := Fin.ext (by show h.val / 8 = C.val / 512; omega)
    have e2 : (⟨h.val % 8, by omega⟩ : Fin 8) = ⟨C.val / 64 % 8, by omega⟩ := Fin.ext (by show h.val % 8 = C.val / 64 % 8; omega)
    have e3 : head ⟨C.val / 512, by omega⟩ ⟨C.val / 64 % 8, by omega⟩ = ⟨C.val / 64, by omega⟩ :=
      Fin.ext (by show 8 * (C.val / 512) + C.val / 64 % 8 = C.val / 64; omega)
    have e4 : (⟨64 * (C.val / 64) + C.val % 64, by omega⟩ : Fin 2048) = C := Fin.ext (by show 64 * (C.val / 64) + C.val % 64 = C.val; omega)
    simp only [e1, e2, e3, e4]

end Point

end Cert.Attn

end
-- ==== Proof.Attn.Pack.lean ====
/- The packed projection the kernel reads, at an index, from the projection in the model's column order. -/
module

public import proofs.«01_k».proof.Proof.Gen.KernelIdeal.Frame
public import proofs.«01_k».proof.Proof.Attn.Words
public import Idealize.ShloMosaic.Lib.Pointwise
public import Idealize.ShloMosaic.Lib.Pipeline.ValueKit
public import Idealize.ShloMosaic.Lib.StableHlo.ReadAt

@[expose] public section

noncomputable section

namespace Cert.Attn

open Cert.KernelIdeal Cert.KernelIdeal.Gen Idealize.ShloMosaic Idealize.ShloMosaic.TcCoe Idealize.SL.Sem

set_option maxRecDepth 16384

/-- The projection's column that packed column `C` holds, as a number. -/
def packNat (C : Nat) : Nat :=
  if C < 2048 then C else if C < 12288 then C + 512 else if C < 12800 then C - 10240 else C

/-- The projection's column that packed column `C` holds. -/
def packCol (C : Fin 13312) : Fin 21024 := ⟨packNat C.val, by unfold packNat; split_ifs <;> omega⟩

variable (m : (ℓ : Loc nD τ sig) → Buf (Elt Ideal) ℓ)

/-- The kernel's host code: four column ranges of the flattened projection side by side. -/
def packed (x : Vec Ideal S2x4096x21024 .f32) : Vec Ideal S8192x13312 .f32 :=
  let p := shapeCast S8192x21024 x shapeCasts_S2x4096x21024_S8192x21024
  concatenate S8192x13312 1
    [⟨S8192x2048, extractStridedSlice S8192x2048 ![0, 0] p slices_S8192x21024_S8192x2048_0_0⟩,
      ⟨S8192x10240, extractStridedSlice S8192x10240 ![0, 2560] p slices_S8192x21024_S8192x10240_0_2560⟩,
      ⟨S8192x512, extractStridedSlice S8192x512 ![0, 2048] p slices_S8192x21024_S8192x512_0_2048⟩,
      ⟨S8192x512, extractStridedSlice S8192x512 ![0, 12800] p slices_S8192x21024_S8192x512_0_12800⟩]
    concatenates_S8192x2048_S8192x10240_S8192x512_S8192x512_S8192x13312_d1

theorem packed_apply (x : Vec Ideal S2x4096x21024 .f32) (R : Fin 8192) (C : Fin 13312) :
    packed x (ix2 R C) = flat x R (packCol C) := by
  pointwise [packed]
  unfold flat
  split_ifs <;> refine congrArg (fun k => x (ix3 _ _ k)) (Fin.ext ?_) <;> simp only [packCol, packNat] <;> split_ifs <;> omega

theorem V_packed (c : Dev nD) : V m c main_v5 = packed (m ((c : Thread nD τ).loc main_arg0)) := by
  rfl

end Cert.Attn

end
-- ==== Proof.Attn.Array.lean ====
/- The array the attention kernel leaves, at an index, from the projection and the sinks. -/
module

public import proofs.«01_k».proof.Proof.Attn.Head
public import proofs.«01_k».proof.Proof.Attn.Pack

@[expose] public section

noncomputable section

namespace Cert.Attn

open Cert.KernelIdeal Cert.KernelIdeal.Gen Idealize.ShloMosaic Idealize.ShloMosaic.TcCoe Idealize.SL.Sem

set_option maxRecDepth 16384

/-- The kernel's result at row `R` and column `C`. -/
def kerOut (X : S2x4096x21024.Idx → EReal) (s : S32.Idx → EReal) (R : Fin 8192) (C : Fin 2048) : EReal :=
  attend (rowScore X (slope (F := Ideal)) R ⟨C.val / 64, by omega⟩) (s (ix1 ⟨C.val / 64, by omega⟩))
      (fun c => flat X (keyRow R c) ⟨2304 + (64 * (C.val / 512) + C.val % 64), by omega⟩)
    * gateK (flat X R ⟨2560 + C.val, by omega⟩)

variable (m : (ℓ : Loc nD τ sig) → Buf (Elt Ideal) ℓ) (c : Dev nD)

theorem index0 : ∀ t : Fin cfg0.N, win0_0.index t = ![0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 1] := (by decide +kernel : ∀ t : Fin grid0.N, _)
theorem index3 : ∀ t : Fin cfg0.N, win0_3.index t = ![t.val, 48] := (by decide +kernel : ∀ t : Fin grid0.N, _)
theorem index4 : ∀ t : Fin cfg0.N, win0_4.index t = ![t.val / 32 * 32 + (t.val % 32 - 1), 48] := (by decide +kernel : ∀ t : Fin grid0.N, _)
theorem index5 : ∀ t : Fin cfg0.N, win0_5.index t = ![t.val, 49] := (by decide +kernel : ∀ t : Fin grid0.N, _)
theorem index6 : ∀ t : Fin cfg0.N, win0_6.index t = ![t.val / 32 * 32 + (t.val % 32 - 1), 49] := (by decide +kernel : ∀ t : Fin grid0.N, _)
theorem index7 : ∀ t : Fin cfg0.N, win0_7.index t = ![t.val, 0] := (by decide +kernel : ∀ t : Fin grid0.N, _)
theorem coord1 : ∀ t : Fin cfg0.N, (grid0.coords t 1).val = t.val % 32 := (by decide +kernel : ∀ t : Fin grid0.N, _)

theorem point_lt (t : Fin cfg0.N) : t.val < 64 := t.isLt

theorem block0 (t : Fin cfg0.N) (h : Fin 32) : iblk m c 0 t (ix1 h) = m ((c : Thread nD τ).loc main_arg1) (ix1 h) := by
  blk_simp [iblk]
  rw [V_main_arg1]
  refine congrArg (m _) ?_
  blk_ext [index0]

theorem block1 (t : Fin cfg0.N) (r : Fin 128) (C : Fin 2048) :
    X0_1 m c t (ix2 r C) = packed (m ((c : Thread nD τ).loc main_arg0))
      (ix2 ⟨128 * t.val + r.val, by have := point_lt t; omega⟩ ⟨0 + C.val, by omega⟩) := by
  unfold X0_1 Pipeline.Window.fill
  rw [dif_pos (moved0_1 t (ix2 r C))]
  blk_simp [iblk]
  rw [V_packed]
  refine congrArg (packed _) ?_
  blk_ext [index1]

theorem block2 (t : Fin cfg0.N) (r : Fin 128) (C : Fin 2048) :
    X0_2 m c t (ix2 r C) = packed (m ((c : Thread nD τ).loc main_arg0))
      (ix2 ⟨128 * t.val + r.val, by have := point_lt t; omega⟩ ⟨2048 + C.val, by omega⟩) := by
  unfold X0_2 Pipeline.Window.fill
  rw [dif_pos (moved0_2 t (ix2 r C))]
  blk_simp [iblk]
  rw [V_packed]
  refine congrArg (packed _) ?_
  blk_ext [index2]

theorem block3 (t : Fin cfg0.N) (r : Fin 128) (C : Fin 256) :
    iblk m c 3 t (ix2 r C) = packed (m ((c : Thread nD τ).loc main_arg0))
      (ix2 ⟨128 * t.val + r.val, by have := point_lt t; omega⟩ ⟨12288 + C.val, by omega⟩) := by
  blk_simp [iblk]
  rw [V_packed]
  refine congrArg (packed _) ?_
  blk_ext [index3]

theorem block4 (t : Fin cfg0.N) (r : Fin 128) (C : Fin 256) :
    iblk m c 4 t (ix2 r C) = packed (m ((c : Thread nD τ).loc main_arg0))
      (ix2 ⟨128 * (t.val / 32 * 32 + (t.val % 32 - 1)) + r.val, by have := point_lt t; omega⟩ ⟨12288 + C.val, by omega⟩) := by
  blk_simp [iblk]
  rw [V_packed]
  refine congrArg (packed _) ?_
  blk_ext [index4]

theorem block5 (t : Fin cfg0.N) (r : Fin 128) (C : Fin 256) :
    iblk m c 5 t (ix2 r C) = packed (m ((c : Thread nD τ).loc main_arg0))
      (ix2 ⟨128 * t.val + r.val, by have := point_lt t; omega⟩ ⟨12544 + C.val, by omega⟩) := by
  blk_simp [iblk]
  rw [V_packed]
  refine congrArg (packed _) ?_
  blk_ext [index5]

theorem block6 (t : Fin cfg0.N) (r : Fin 128) (C : Fin 256) :
    iblk m c 6 t (ix2 r C) = packed (m ((c : Thread nD τ).loc main_arg0))
      (ix2 ⟨128 * (t.val / 32 * 32 + (t.val % 32 - 1)) + r.val, by have := point_lt t; omega⟩ ⟨12544 + C.val, by omega⟩) := by
  blk_simp [iblk]
  rw [V_packed]
  refine congrArg (packed _) ?_
  blk_ext [index6]

/-- The block the run leaves is the heads' tiles. -/
theorem outsAt_eq (t : Fin cfg0.N) (r : Fin 128) (C : Fin 2048) :
    outsAt0 m c t (ix2 r C) = blkOut (grid0.coords t) (iblk m c 0 t) (X0_1 m c t) (X0_2 m c t) (iblk m c 3 t) (iblk m c 4 t) (iblk m c 5 t) (iblk m c 6 t) r C := by
  unfold outsAt0 out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (X0_1 m c t) (X0_2 m c t) (iblk m c 3 t) (iblk m c 4 t) (iblk m c 5 t) (iblk m c 6 t)), run_pieces, canon_pieces]
  rw [(hs0_0 t).read_unread, (hs0_1 t).read_unread, (hs0_2 t).read_unread, (hs0_3 t).read_unread, (hs0_4 t).read_unread, (hs0_5 t).read_unread, (hs0_6 t).read_unread]

/-- The array row of row `r` of point `t`'s blocks. -/
def rowOf (t : Fin cfg0.N) (r : Fin 128) : Fin 8192 := ⟨128 * t.val + r.val, by have := point_lt t; omega⟩

theorem keyRow_prev (t : Fin cfg0.N) (r : Fin 128) (k : Fin 256) (h : k.val < 128) :
    keyRow (rowOf t r) k = ⟨128 * (t.val / 32 * 32 + (t.val % 32 - 1)) + k.val, by have := point_lt t; omega⟩ := by
  have := point_lt t
  unfold keyRow rowOf
  rw [if_pos h]
  refine Fin.ext ?_
  show 128 * ((128 * t.val + r.val) / 4096 * 32 + ((128 * t.val + r.val) / 128 % 32 - 1)) + k.val = 128 * (t.val / 32 * 32 + (t.val % 32 - 1)) + k.val
  omega

theorem keyRow_cur (t : Fin cfg0.N) (r : Fin 128) (k : Fin 256) (h : ¬ k.val < 128) :
    keyRow (rowOf t r) k = ⟨128 * t.val + (k.val - 128), by have := point_lt t; omega⟩ := by
  have := point_lt t
  unfold keyRow rowOf
  rw [if_neg h]
  refine Fin.ext ?_
  show 128 * ((128 * t.val + r.val) / 128) + (k.val - 128) = 128 * t.val + (k.val - 128)
  omega

theorem band_key (t : Fin cfg0.N) (r : Fin 128) (g : Fin 4) (k : Fin 256) (d : Fin 64) :
    bandAt (iblk m c 4 t) (iblk m c 3 t) g k d
      = flat (m ((c : Thread nD τ).loc main_arg0)) (keyRow (rowOf t r) k) ⟨2048 + (64 * g.val + d.val), by omega⟩ := by
  unfold bandAt
  split
  · next h =>
    rw [block4, packed_apply, keyRow_prev t r k h]
    refine congrArg (flat _ _) (Fin.ext ?_)
    simp only [packCol, packNat]; split_ifs <;> omega
  · next h =>
    rw [block3, packed_apply, keyRow_cur t r k h]
    refine congrArg (flat _ _) (Fin.ext ?_)
    simp only [packCol, packNat]; split_ifs <;> omega

theorem band_value (t : Fin cfg0.N) (r : Fin 128) (g : Fin 4) (k : Fin 256) (d : Fin 64) :
    bandAt (iblk m c 6 t) (iblk m c 5 t) g k d
      = flat (m ((c : Thread nD τ).loc main_arg0)) (keyRow (rowOf t r) k) ⟨2304 + (64 * g.val + d.val), by omega⟩ := by
  unfold bandAt
  split
  · next h =>
    rw [block6, packed_apply, keyRow_prev t r k h]
    refine congrArg (flat _ _) (Fin.ext ?_)
    simp only [packCol, packNat]; split_ifs <;> omega
  · next h =>
    rw [block5, packed_apply, keyRow_cur t r k h]
    refine congrArg (flat _ _) (Fin.ext ?_)
    simp only [packCol, packNat]; split_ifs <;> omega

theorem blkScore_eq (t : Fin cfg0.N) (r : Fin 128) (C : Fin 2048) (k : Fin 256) :
    blkScore (grid0.coords t) (X0_1 m c t) (iblk m c 3 t) (iblk m c 4 t) ⟨C.val / 512, by omega⟩ ⟨C.val / 64 % 8, by omega⟩ r k
      = rowScore (m ((c : Thread nD τ).loc main_arg0)) (slope (F := Ideal)) (rowOf t r) ⟨C.val / 64, by omega⟩ k := by
  have ht := point_lt t
  have e3 : head ⟨C.val / 512, by omega⟩ ⟨C.val / 64 % 8, by omega⟩ = ⟨C.val / 64, by omega⟩ :=
    Fin.ext (by show 8 * (C.val / 512) + C.val / 64 % 8 = C.val / 64; omega)
  have e4 : C.val / 64 / 8 = C.val / 512 := by omega
  have e5 : (rowOf t r).val / 128 % 32 = t.val % 32 := by show (128 * t.val + r.val) / 128 % 32 = _; omega
  have e6 : (rowOf t r).val % 128 = r.val := by show (128 * t.val + r.val) % 128 = _; omega
  unfold blkScore rowScore
  simp only [e3, e4, e5, e6, coord1 t]
  congr 1
  refine Finset.sum_congr rfl fun x _ => ?_
  rw [band_key m c t r, block1, packed_apply]
  refine congrArg (· * _) (congrArg (flat _ _) (Fin.ext ?_))
  simp only [packCol, packNat]; split_ifs <;> omega

theorem blkOut_eq (t : Fin cfg0.N) (r : Fin 128) (C : Fin 2048) :
    blkOut (grid0.coords t) (iblk m c 0 t) (X0_1 m c t) (X0_2 m c t) (iblk m c 3 t) (iblk m c 4 t) (iblk m c 5 t) (iblk m c 6 t) r C
      = kerOut (m ((c : Thread nD τ).loc main_arg0)) (m ((c : Thread nD τ).loc main_arg1)) (rowOf t r) C := by
  unfold blkOut kerOut
  rw [block0, block2, packed_apply, funext (blkScore_eq m c t r C), funext fun k => band_value m c t r ⟨C.val / 512, by omega⟩ k ⟨C.val % 64, by omega⟩]
  refine congrArg (_ * gateK ·) (congrArg (flat _ _) (Fin.ext ?_))
  simp only [packCol, packNat]; split_ifs <;> omega

/-- The whole array after the run. -/
theorem final_array : (dats m 0 c).arrAt 7 cfg0.N
    = fun i => kerOut (m ((c : Thread nD τ).loc main_arg0)) (m ((c : Thread nD τ).loc main_arg1)) (i 0) (i 1) := by
  refine (dats m 0 c).arrAt_eq_of_covers 7 _ (by decide +kernel) fun t hf y => ?_
  blk_simp
  rw [after0_7]
  have e : y = ix2 (n0 := 128) (n1 := 2048) (y 0) (y 1) := eq_ix2 (n0 := 128) (n1 := 2048) y
  have e0 : (win0_7.blk t).view.emb y 0 = rowOf t (y 0) := by
    refine Fin.ext ?_
    show _ = 128 * t.val + (y 0).val
    blk_simp [index7]
    omega
  have e1 : (win0_7.blk t).view.emb y 1 = (y 1 : Fin 2048) := by
    refine Fin.ext ?_
    blk_simp [index7]
  exact (congrArg (outsAt0 m c t) e).trans ((outsAt_eq m c t (y 0) (y 1)).trans
    ((blkOut_eq m c t (y 0) (y 1)).trans (congrArg₂ (kerOut _ _) e0 e1).symm))

end Cert.Attn

end
-- ==== Proof.Attn.RefScore.lean ====
/- The reference's masked scores and value bands, read at an index. -/
module

public import proofs.«01_k».proof.Proof.Gen.ReferenceIdeal.Read
public import proofs.«01_k».proof.Proof.Attn.Words
public import Idealize.ShloMosaic.Lib.Pipeline.ValueKit

@[expose] public section

noncomputable section

namespace Cert.Attn.Ref

open Cert.ReferenceIdeal Cert.ReferenceIdeal.Gen Cert.ReferenceIdeal.Read Idealize.ShloMosaic Idealize.ShloMosaic.TcCoe Idealize.SL.Sem

set_option maxRecDepth 16384

variable (x : Vec Ideal S2x4096x21024 .f32) (s : Vec Ideal S32 .f32)

/-- Row `r` of block `n` of sequence `b`. -/
def rowAt (b : Fin 2) (n : Fin 32) (r : Fin 128) : Fin 8192 := ⟨4096 * b.val + (128 * n.val + r.val), by omega⟩

theorem flat_rowAt (b : Fin 2) (n : Fin 32) (r : Fin 128) (C : Fin 21024) (t : Fin 4096) (ht : t.val = 128 * n.val + r.val) :
    x (ix3 b t C) = flat x (rowAt b n r) C := by
  unfold flat rowAt
  refine congrArg₂ (fun p q => x (ix3 p q C)) (Fin.ext ?_) (Fin.ext ?_)
  · show b.val = (4096 * b.val + (128 * n.val + r.val)) / 4096; omega
  · show t.val = (4096 * b.val + (128 * n.val + r.val)) % 4096; omega

theorem query_apply (b : Fin 2) (n : Fin 32) (r : Fin 128) (g : Fin 4) (j : Fin 8) (d : Fin 64) :
    val_main_v13 (F := Ideal) x (ix6 b n r g j d) = flat x (rowAt b n r) ⟨64 * (8 * g.val + j.val) + d.val, by omega⟩ := by
  pointwise [val_main_v13, val_main_v10, val_main_v0]
  rw [flat_rowAt x b n r _ _ (by show n.val * 128 + r.val = _; omega)]
  exact congrArg (flat x _) (Fin.ext (by show (g.val * 8 + j.val) * 64 + d.val = 64 * (8 * g.val + j.val) + d.val; omega))

/-- A band's row `k`, at columns from `off` on, as the reference stacks it: zeros before the sequence. -/
def bandRef (off : Nat) (hoff : off + 256 ≤ 21024) (b : Fin 2) (n : Fin 32) (k : Fin 256) (g : Fin 4) (d : Fin 64) : EReal :=
  if 128 ≤ k.val ∨ 0 < n.val then flat x (keyRow (rowAt b n 0) k) ⟨off + (64 * g.val + d.val), by omega⟩ else 0

theorem bandRef_eq (off : Nat) (hoff : off + 256 ≤ 21024) (b : Fin 2) (n : Fin 32) (k : Fin 256) (g : Fin 4) (d : Fin 64) :
    (if h : k.val < 128 then
      if h_1 : (1 ≤ n.val ∧ n.val - 1 < 32) ∧ k.val < 128 then
        x (ix3 b ⟨(n.val - 1) * 128 + k.val, by omega⟩ ⟨off + (g.val * 64 + d.val), by omega⟩)
      else FloatOps.sitofp (F := Ideal) FTy.f32 0#32
    else x (ix3 b ⟨n.val * 128 + (k.val - 128), by omega⟩ ⟨off + (g.val * 64 + d.val), by omega⟩)) = bandRef x off hoff b n k g d := by
  have hcol : (⟨off + (g.val * 64 + d.val), by omega⟩ : Fin 21024) = ⟨off + (64 * g.val + d.val), by omega⟩ :=
    Fin.ext (by show off + (g.val * 64 + d.val) = off + (64 * g.val + d.val); omega)
  unfold bandRef
  rw [hcol]
  by_cases h : k.val < 128
  · rw [dif_pos h]
    by_cases hn : 0 < n.val
    · rw [dif_pos ⟨⟨hn, by omega⟩, h⟩, if_pos (.inr hn), flat_rowAt x b ⟨n.val - 1, by omega⟩ ⟨k.val, h⟩ _ _ (by show (n.val - 1) * 128 + k.val = 128 * (n.val - 1) + k.val; omega)]
      refine congrArg (flat x · _) (Fin.ext ?_)
      unfold keyRow rowAt
      rw [if_pos h]
      show 4096 * b.val + (128 * (n.val - 1) + k.val) = 128 * ((4096 * b.val + (128 * n.val + 0)) / 4096 * 32 + ((4096 * b.val + (128 * n.val + 0)) / 128 % 32 - 1)) + k.val
      omega
    · rw [dif_neg (by omega), if_neg (by omega)]
      show (((0#32 : BitVec 32).toInt : ℝ) : EReal) = 0
      simp
  · rw [dif_neg h, if_pos (.inl (by omega)), flat_rowAt x b n ⟨k.val - 128, by omega⟩ _ _ (by show n.val * 128 + (k.val - 128) = 128 * n.val + (k.val - 128); omega)]
    refine congrArg (flat x · _) (Fin.ext ?_)
    unfold keyRow rowAt
    rw [if_neg h]
    show 4096 * b.val + (128 * n.val + (k.val - 128)) = 128 * ((4096 * b.val + (128 * n.val + 0)) / 128) + (k.val - 128)
    omega

theorem key_apply (b : Fin 2) (n : Fin 32) (k : Fin 256) (g : Fin 4) (d : Fin 64) :
    val_main_v18 (F := Ideal) x (ix5 b n k g d) = bandRef x 2048 (by norm_num) b n k g d := by
  rw [← bandRef_eq]
  pointwise [val_main_v18, val_main_v17, val_main_v16, val_main_v14, val_main_v11, val_main_v1, val_main_call0_v0, val_main_c]

theorem value_apply (b : Fin 2) (n : Fin 32) (k : Fin 256) (g : Fin 4) (d : Fin 64) :
    val_main_v21 (F := Ideal) x (ix5 b n k g d) = bandRef x 2304 (by norm_num) b n k g d := by
  rw [← bandRef_eq]
  pointwise [val_main_v21, val_main_v20, val_main_v19, val_main_v15, val_main_v12, val_main_v2, val_main_call1_v0, val_main_c_0]

/-- The reference's slope of head `h`: two to the power `-8 (h + 1) / 32`. -/
def slopeRef (h : Fin 32) : EReal := ((Real.rpow 2 (-((h.val : ℝ) + 1) / 4) : ℝ) : EReal)

theorem slope_apply (g : Fin 4) (j : Fin 8) :
    val_main_v66 (F := Ideal) (ix2 g j) = slopeRef ⟨8 * g.val + j.val, by omega⟩ := by
  pointwise [val_main_v66, val_main_v65, val_main_v64, val_main_v63, val_main_v62, val_main_v61, val_main_v60, val_main_v59, val_main_v58, val_main_v57, val_main_cst_7, val_main_cst_8, val_main_cst_9, val_main_cst_10]
  have l1 : Ideal.ofBits .f32 1073741824#32 = ((2 : ℝ) : EReal) := by simp [Ideal.ofBits, Ideal.ieee, -EReal.coe_mul]; norm_num
  have l2 : Ideal.ofBits .f32 3238002688#32 = ((-8 : ℝ) : EReal) := by simp [Ideal.ofBits, Ideal.ieee, -EReal.coe_mul]; norm_num
  have l3 : Ideal.ofBits .f32 1107296256#32 = ((32 : ℝ) : EReal) := by simp [Ideal.ofBits, Ideal.ieee, -EReal.coe_mul]; norm_num
  have hw : (BitVec.ofNat 32 (g.val * 8 + j.val)).toInt = ((8 * g.val + j.val : ℕ) : ℤ) := by
    rw [BitVec.toInt_ofNat', Int.bmod]; norm_num; omega
  have l4 : FloatOps.sitofp (F := Ideal) FTy.f32 (BitVec.ofNat 32 (g.val * 8 + j.val)) = (((8 * g.val + j.val : ℕ) : ℝ) : EReal) := by
    show (((BitVec.ofNat 32 (g.val * 8 + j.val)).toInt : ℝ) : EReal) = _
    rw [hw]; simp
  rw [l1, l2, l3, l4, Ideal.div_coe (by norm_num)]
  have : ((-8 : ℝ) : EReal) * (1 + (((8 * g.val + j.val : ℕ) : ℝ) : EReal)) * ((1 / 32 : ℝ) : EReal)
      = ((-(((8 * g.val + j.val : ℕ) : ℝ) + 1) / 4 : ℝ) : EReal) := by
    rw [← EReal.coe_one, ← EReal.coe_add, ← EReal.coe_mul, ← EReal.coe_mul]
    congr 1; ring
  rw [this]
  rfl

theorem dist_apply (r : Fin 128) (k : Fin 256) :
    FloatOps.sitofp (F := Ideal) .f32 (val_main_v34 (F := Ideal) (ix2 r k)) = (((r : ℝ) + 128 - k : ℝ) : EReal) := by
  rw [← dist_eq]
  pointwise [val_main_v34, val_main_v33, val_main_v32, val_main_v31, val_main_v30, val_main_v29, val_main_v28, val_main_v27, val_main_v26, val_main_c_1]

theorem mask_apply (n : Fin 32) (r : Fin 128) (k : Fin 256) {α : Type} (a b : α) :
    Scalar.select (val_main_v56 (F := Ideal) (ix3 n r k)) a b = if Sees n r k then a else b := by
  rw [← sees_bit_ref]
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c_1, val_main_c_2, val_main_c_3, val_main_c_4, val_main_c_5, val_main_c_6]

theorem score_apply (b : Fin 2) (n : Fin 32) (g : Fin 4) (j : Fin 8) (r : Fin 128) (k : Fin 256) :
    val_main_v77 (F := Ideal) x (ix6 b n g j r k) = rowScore x slopeRef (rowAt b n r) ⟨8 * g.val + j.val, by omega⟩ k := by
  have h1 : val_main_v77 (F := Ideal) x (ix6 b n g j r k)
      = score n r k (∑ d : Fin 64, bandRef x 2048 (by norm_num) b n k g d * flat x (rowAt b n r) ⟨64 * (8 * g.val + j.val) + d.val, by omega⟩)
          (slopeRef ⟨8 * g.val + j.val, by omega⟩) := by
    pointwise [val_main_v77, val_main_v75, val_main_v74, val_main_v73, val_main_v72, val_main_v71, val_main_v70, val_main_v69, val_main_v68, val_main_v67, val_main_call2_v0, val_main_call2_v1, val_main_call2_v2, val_main_cst_11, val_main_v76, val_main_v25, val_main_v24, val_main_cst, val_main_v23, val_main_v22]
    rw [mask_apply, dist_apply, lit_eighth, slope_apply]
    simp only [key_apply, query_apply]
    unfold score
    refine if_congr Iff.rfl rfl ?_
    show Ideal.ofBits .f32 4286578688#32 = ⊥
    exact lit_negInf
  have e1 : (rowAt b n r).val / 128 % 32 = n.val := by show (4096 * b.val + (128 * n.val + r.val)) / 128 % 32 = _; omega
  have e2 : (rowAt b n r).val % 128 = r.val := by show (4096 * b.val + (128 * n.val + r.val)) % 128 = _; omega
  have e3 : keyRow (rowAt b n 0) k = keyRow (rowAt b n r) k := by
    refine Fin.ext ?_
    unfold keyRow rowAt
    split
    · show 128 * ((4096 * b.val + (128 * n.val + 0)) / 4096 * 32 + ((4096 * b.val + (128 * n.val + 0)) / 128 % 32 - 1)) + k.val
        = 128 * ((4096 * b.val + (128 * n.val + r.val)) / 4096 * 32 + ((4096 * b.val + (128 * n.val + r.val)) / 128 % 32 - 1)) + k.val
      omega
    · show 128 * ((4096 * b.val + (128 * n.val + 0)) / 128) + (k.val - 128) = 128 * ((4096 * b.val + (128 * n.val + r.val)) / 128) + (k.val - 128)
      omega
  have e4 : (8 * g.val + j.val) / 8 = g.val := by omega
  rw [h1]
  unfold rowScore
  simp only [e1, e2, e4]
  unfold score
  by_cases hs : Sees n r k
  · rw [if_pos hs, if_pos hs]
    refine congrArg (fun q => q * _ - _) (Finset.sum_congr rfl fun d _ => ?_)
    unfold bandRef
    rw [if_pos hs.2, mul_comm, e3]
  · rw [if_neg hs, if_neg hs]

end Cert.Attn.Ref

end
-- ==== Proof.Attn.Slopes.lean ====
/- The slopes: the kernel's constant of head `h` is two to the power `-(h + 1) / 4`, as the reference computes it. -/
module

public import proofs.«01_k».proof.Proof.Attn.Block
public import proofs.«01_k».proof.Proof.Attn.RefScore

@[expose] public section

noncomputable section

namespace Cert.Attn

open Cert.KernelIdeal Idealize.ShloMosaic Idealize.SL.Sem

/-- The fourth root of `2^k`, inverted, is `2^(-k/4)`. -/
theorem inv_root_root (h : Fin 32) (N : ℝ) (hN : N = 2 ^ (h.val + 1)) : (((Real.sqrt (Real.sqrt N))⁻¹ : ℝ) : EReal) = Ref.slopeRef h := by
  unfold Ref.slopeRef
  congr 1
  show _ = (2 : ℝ) ^ (-((h.val : ℝ) + 1) / 4)
  rw [hN, Real.sqrt_eq_rpow, Real.sqrt_eq_rpow, ← Real.rpow_natCast, ← Real.rpow_mul (by positivity), ← Real.rpow_mul (by norm_num),
    ← Real.rpow_neg (by norm_num)]
  congr 1
  push_cast
  ring

/-- A named slope. -/
theorem named_slope (name : String) (w : BitVec 32) (h : Fin 32) (N : ℝ)
    (hn : (κ name : Option EReal) = some (((Real.sqrt (Real.sqrt N))⁻¹ : ℝ) : EReal)) (hN : N = 2 ^ (h.val + 1)) :
    Named.named (F := Ideal) (φ := .f32) κ name w = Ref.slopeRef h :=
  (IdealRules.named_const.ideal_named_scalar κ name _ _ hn).trans (inv_root_root h N hN)

/-- A slope whose power is whole is the float itself. -/
theorem whole_slope (w : BitVec 32) (h : Fin 32) (j : ℕ) (hw : Ideal.ofBits .f32 w = (((2 : ℝ) ^ j)⁻¹ : ℝ)) (hj : h.val + 1 = 4 * j) :
    Scalar.ofBits (F := Ideal) .f32 w = Ref.slopeRef h := by
  show Ideal.ofBits .f32 w = _
  rw [hw]
  unfold Ref.slopeRef
  congr 1
  show _ = (2 : ℝ) ^ (-((h.val : ℝ) + 1) / 4)
  have : (-((h.val : ℝ) + 1) / 4) = -(j : ℝ) := by
    have : ((h.val : ℝ) + 1) = 4 * j := by exact_mod_cast hj
    rw [this]; ring
  rw [this, Real.rpow_neg (by norm_num), Real.rpow_natCast]

theorem slope_eq (h : Fin 32) : slope (F := Ideal) h = Ref.slopeRef h := by
  fin_cases h
  all_goals first
    | exact named_slope _ _ _ _ rfl (by norm_num)
    | exact whole_slope _ _ 1 (by simp [Ideal.ofBits, Ideal.ieee, -EReal.coe_mul]; norm_num) rfl
    | exact whole_slope _ _ 2 (by simp [Ideal.ofBits, Ideal.ieee, -EReal.coe_mul]; norm_num) rfl
    | exact whole_slope _ _ 3 (by simp [Ideal.ofBits, Ideal.ieee, -EReal.coe_mul]; norm_num) rfl
    | exact whole_slope _ _ 4 (by simp [Ideal.ofBits, Ideal.ieee, -EReal.coe_mul]; norm_num) rfl
    | exact whole_slope _ _ 5 (by simp [Ideal.ofBits, Ideal.ieee, -EReal.coe_mul]; norm_num) rfl
    | exact whole_slope _ _ 6 (by simp [Ideal.ofBits, Ideal.ieee, -EReal.coe_mul]; norm_num) rfl
    | exact whole_slope _ _ 7 (by simp [Ideal.ofBits, Ideal.ieee, -EReal.coe_mul]; norm_num) rfl
    | exact whole_slope _ _ 8 (by simp [Ideal.ofBits, Ideal.ieee, -EReal.coe_mul]; norm_num) rfl

end Cert.Attn

end
-- ==== Proof.Attn.RefSoftmax.lean ====
/- The reference's softmax over the 256 scores and the sink, read at an index. -/
module

public import proofs.«01_k».proof.Proof.Attn.RefScore

@[expose] public section

noncomputable section

namespace Cert.Attn.Ref

open Cert.ReferenceIdeal Cert.ReferenceIdeal.Gen Cert.ReferenceIdeal.Read Idealize.ShloMosaic Idealize.ShloMosaic.TcCoe Idealize.SL.Sem

set_option maxRecDepth 16384

variable (x : Vec Ideal S2x4096x21024 .f32) (s : Vec Ideal S32 .f32)

/-- The query head `j` of group `g`. -/
abbrev headOf (g : Fin 4) (j : Fin 8) : Fin 32 := ⟨8 * g.val + j.val, by omega⟩

/-- The masked scores of row `r` of block `n`, for head `j` of group `g`. -/
abbrev scores (b : Fin 2) (n : Fin 32) (g : Fin 4) (j : Fin 8) (r : Fin 128) : Fin 256 → EReal :=
  rowScore x slopeRef (rowAt b n r) (headOf g j)

/-- The sink of head `j` of group `g`. -/
abbrev sinkOf (g : Fin 4) (j : Fin 8) : EReal := s (ix1 (headOf g j))

theorem withSink_apply (b : Fin 2) (n : Fin 32) (g : Fin 4) (j : Fin 8) (r : Fin 128) (k : Fin 257) :
    val_main_v80 (F := Ideal) x s (ix6 b n g j r k) = withSink (scores x b n g j r) (sinkOf s g j) k := by
  have h1 : val_main_v80 (F := Ideal) x s (ix6 b n g j r k)
      = if h : k.val < 256 then val_main_v77 (F := Ideal) x (ix6 b n g j r ⟨k.val, h⟩)
        else s (ix1 ⟨g.val * 8 + j.val, by omega⟩) := by
    pointwise [val_main_v80, val_main_v79, val_main_v78]
  rw [h1]
  unfold withSink
  split
  · exact score_apply x b n g j r _
  · exact congrArg (fun q => s (ix1 q)) (Fin.ext (by show g.val * 8 + j.val = 8 * g.val + j.val; omega))

theorem top_apply (b : Fin 2) (n : Fin 32) (g : Fin 4) (j : Fin 8) (r : Fin 128) :
    val_main_v83 (F := Ideal) x s (ix5 b n g j r) = top (scores x b n g j r) (sinkOf s g j) := by
  rw [← fold_withSink, val_main_v83_apply, val_main_v82_apply, val_main_cst_13_apply]
  refine congrArg₂ max lit_negInf ?_
  have h2 := fun k => withSink_apply x s b n g j r k
  unfold val_main_v81
  generalize val_main_v80 (F := Ideal) x s = y at h2
  refine (Host.reduce_eq_fold_single (FloatOps.maximumf (F := Ideal) (φ := .f32)) y (val_main_cst_12 (F := Ideal))
    reducesTo_S2x32x4x8x128x257_S2x32x4x8x128_d5 (by decide) h_S_ (ix5 b n g j r)).trans ?_
  rw [val_main_cst_12_apply]
  refine (congrArg (fun q => Finset.fold _ q _ _) lit_negInf).trans (Finset.fold_congr fun k _ => ?_)
  exact (congrArg y (funext fun a => Fin.ext (by
    match a with | ⟨0, _⟩ => rfl | ⟨1, _⟩ => rfl | ⟨2, _⟩ => rfl | ⟨3, _⟩ => rfl | ⟨4, _⟩ => rfl | ⟨5, _⟩ => rfl))).trans (h2 k)

theorem exp_apply (b : Fin 2) (n : Fin 32) (g : Fin 4) (j : Fin 8) (r : Fin 128) (k : Fin 257) :
    val_main_v87 (F := Ideal) x s (ix6 b n g j r k)
      = Ideal.exp (withSink (scores x b n g j r) (sinkOf s g j) k - top (scores x b n g j r) (sinkOf s g j)) := by
  rw [← withSink_apply, ← top_apply]
  have h3 : val_main_v85 (F := Ideal) x s (ix6 b n g j r k) = val_main_v83 (F := Ideal) x s (ix5 b n g j r) := by
    pointwise [val_main_v85, val_main_v84]
  rw [val_main_v87_apply, val_main_v86_apply, h3]
  rfl

theorem den_apply (b : Fin 2) (n : Fin 32) (g : Fin 4) (j : Fin 8) (r : Fin 128) :
    val_main_v88 (F := Ideal) x s (ix5 b n g j r) = den (scores x b n g j r) (sinkOf s g j) := by
  rw [← sum_withSink, val_main_v88_apply, val_main_cst_14_apply]
  have h0 : FloatOps.ofBits (F := Ideal) .f32 0x00000000#32 = 0 := by
    show Ideal.ofBits .f32 0#32 = 0
    simp [Ideal.ofBits, Ideal.ieee]
  rw [h0, zero_add]
  refine Finset.sum_congr rfl fun k _ => Eq.trans (congrArg (val_main_v87 (F := Ideal) x s) (funext fun a => Fin.ext (by
    match a with | ⟨0, _⟩ => rfl | ⟨1, _⟩ => rfl | ⟨2, _⟩ => rfl | ⟨3, _⟩ => rfl | ⟨4, _⟩ => rfl | ⟨5, _⟩ => rfl))) (exp_apply x s b n g j r k)

/-- The reference's weight of key `k`. -/
theorem weight_apply (b : Fin 2) (n : Fin 32) (g : Fin 4) (j : Fin 8) (r : Fin 128) (k : Fin 256) :
    val_main_v92 (F := Ideal) x s (ix6 b n g j r k)
      = Ideal.div (wt (scores x b n g j r) (sinkOf s g j) k) (den (scores x b n g j r) (sinkOf s g j)) := by
  have h1 : val_main_v92 (F := Ideal) x s (ix6 b n g j r k)
      = Ideal.div (val_main_v87 (F := Ideal) x s (ix6 b n g j r k.castSucc)) (val_main_v88 (F := Ideal) x s (ix5 b n g j r)) := by
    rw [val_main_v92_apply, val_main_v91_apply, val_main_v90_apply, val_main_v89_apply]
    refine congrArg₂ Ideal.div (congrArg (val_main_v87 (F := Ideal) x s) ?_) (congrArg (val_main_v88 (F := Ideal) x s) ?_)
    · exact funext fun a => Fin.ext (by
        match a with | ⟨0, _⟩ => rfl | ⟨1, _⟩ => rfl | ⟨2, _⟩ => rfl | ⟨3, _⟩ => rfl | ⟨4, _⟩ => rfl | ⟨5, _⟩ => rfl)
    · exact funext fun a => Fin.ext (by
        match a with | ⟨0, _⟩ => rfl | ⟨1, _⟩ => rfl | ⟨2, _⟩ => rfl | ⟨3, _⟩ => rfl | ⟨4, _⟩ => rfl)
  rw [h1, exp_apply, den_apply, withSink_castSucc]
  rfl

end Cert.Attn.Ref

end
-- ==== Proof.Attn.RefOut.lean ====
/- The reference's result, read at a row and a column: the weighted mean of the band's values, times the gate. -/
module

public import proofs.«01_k».proof.Proof.Attn.RefSoftmax

@[expose] public section

noncomputable section

namespace Cert.Attn.Ref

open Cert.ReferenceIdeal Cert.ReferenceIdeal.Gen Cert.ReferenceIdeal.Read Idealize.ShloMosaic Idealize.ShloMosaic.TcCoe Idealize.SL.Sem

set_option maxRecDepth 16384

variable (x : Vec Ideal S2x4096x21024 .f32) (s : Vec Ideal S32 .f32)

theorem mean_apply (b : Fin 2) (n : Fin 32) (g : Fin 4) (d : Fin 64) (j : Fin 8) (r : Fin 128) :
    val_main_v93 (F := Ideal) x s (ix6 b n g d j r)
      = attendRef (scores x b n g j r) (sinkOf s g j) (fun k => bandRef x 2304 (by norm_num) b n k g d) := by
  rw [val_main_v93_apply]
  unfold attendRef
  refine Finset.sum_congr rfl fun k _ => congrArg₂ (· * ·) ?_ ?_
  · refine Eq.trans (congrArg (val_main_v21 (F := Ideal) x) (funext fun a => Fin.ext (by
      match a with | ⟨0, _⟩ => rfl | ⟨1, _⟩ => rfl | ⟨2, _⟩ => rfl | ⟨3, _⟩ => rfl | ⟨4, _⟩ => rfl))) (value_apply x b n k g d)
  · rw [← weight_apply]
    exact congrArg (val_main_v92 (F := Ideal) x s) (funext fun a => Fin.ext (by
      match a with | ⟨0, _⟩ => rfl | ⟨1, _⟩ => rfl | ⟨2, _⟩ => rfl | ⟨3, _⟩ => rfl | ⟨4, _⟩ => rfl | ⟨5, _⟩ => rfl))

/-- Row `R`'s sequence, block and place in the block; column `C`'s group, head of the group, and place in the head. -/
abbrev seqOf (R : Fin 8192) : Fin 2 := ⟨R.val / 4096, by omega⟩
abbrev blockOf (R : Fin 8192) : Fin 32 := ⟨R.val % 4096 / 128, by omega⟩
abbrev placeOf (R : Fin 8192) : Fin 128 := ⟨R.val % 128, by omega⟩
abbrev groupOf (C : Fin 2048) : Fin 4 := ⟨C.val / 512, by omega⟩
abbrev memberOf (C : Fin 2048) : Fin 8 := ⟨C.val / 64 % 8, by omega⟩
abbrev laneOf (C : Fin 2048) : Fin 64 := ⟨C.val % 64, by omega⟩

theorem merged_apply (R : Fin 8192) (C : Fin 2048) (t : Fin 4096) (ht : t.val = R.val % 4096) :
    val_main_v95 (F := Ideal) x s (ix3 (seqOf R) t C)
      = val_main_v93 (F := Ideal) x s (ix6 (seqOf R) (blockOf R) (groupOf C) (laneOf C) (memberOf C) (placeOf R)) := by
  have h : val_main_v95 (F := Ideal) x s (ix3 (seqOf R) t C)
      = val_main_v94 (F := Ideal) x s (ix6 (seqOf R) (blockOf R) (placeOf R) (groupOf C) (memberOf C) (laneOf C)) := by
    unfold val_main_v95
    generalize val_main_v94 (F := Ideal) x s = y
    pointwise
    exact congrArg₂ (fun p q => y (ix6 (seqOf R) p q (groupOf C) (memberOf C) (laneOf C)))
      (Fin.ext (by show t.val / 128 = R.val % 4096 / 128; omega)) (Fin.ext (by show t.val % 128 = R.val % 128; omega))
  rw [h, val_main_v94_apply]
  exact congrArg (val_main_v93 (F := Ideal) x s) (funext fun a => Fin.ext (by
    match a with | ⟨0, _⟩ => rfl | ⟨1, _⟩ => rfl | ⟨2, _⟩ => rfl | ⟨3, _⟩ => rfl | ⟨4, _⟩ => rfl | ⟨5, _⟩ => rfl))

/-- What the reference's result holds at row `R`, column `C`. -/
def refOut (x : Vec Ideal S2x4096x21024 .f32) (s : Vec Ideal S32 .f32) (R : Fin 8192) (C : Fin 2048) : EReal :=
  attendRef (rowScore x slopeRef R ⟨C.val / 64, by omega⟩) (s (ix1 ⟨C.val / 64, by omega⟩))
    (fun k => bandRef x 2304 (by norm_num) (seqOf R) (blockOf R) k (groupOf C) (laneOf C))
    * gateR (flat x R ⟨2560 + C.val, by omega⟩)

theorem out_apply (R : Fin 8192) (C : Fin 2048) :
    val_main_v99 (F := Ideal) x s (ix2 R C) = refOut x s R C := by
  have hR : rowAt (seqOf R) (blockOf R) (placeOf R) = R := Fin.ext (by
    show 4096 * (R.val / 4096) + (128 * (R.val % 4096 / 128) + R.val % 128) = R.val; omega)
  have hC : headOf (groupOf C) (memberOf C) = ⟨C.val / 64, by omega⟩ := Fin.ext (by
    show 8 * (C.val / 512) + C.val / 64 % 8 = C.val / 64; omega)
  have h1 : val_main_v99 (F := Ideal) x s (ix2 R C)
      = val_main_v95 (F := Ideal) x s (ix3 (seqOf R) ⟨R.val % 4096, by omega⟩ C)
        * val_main_v96 (F := Ideal) x (ix3 (seqOf R) ⟨R.val % 4096, by omega⟩ C) := by
    rw [val_main_v99_apply, val_main_v98_apply, val_main_v97_apply]
    have e : idx_main_v98 (ix2 R C) = ix3 (seqOf R) ⟨R.val % 4096, by omega⟩ C := funext fun a => Fin.ext (by
      match a with
      | ⟨0, _⟩ => show (R.val * 2048 + C.val) / 8388608 = R.val / 4096; omega
      | ⟨1, _⟩ => show (R.val * 2048 + C.val) / 2048 % 4096 = R.val % 4096; omega
      | ⟨2, _⟩ => show (R.val * 2048 + C.val) % 2048 = C.val; omega)
    rw [e]
    rfl
  have h2 : val_main_v96 (F := Ideal) x (ix3 (seqOf R) ⟨R.val % 4096, by omega⟩ C) = gateR (flat x R ⟨2560 + C.val, by omega⟩) := by
    pointwise [val_main_v96, val_main_call3_v5, val_main_call3_v4, val_main_call3_v3, val_main_call3_v2, val_main_call3_v1, val_main_call3_v0, val_main_call3_cst, val_main_call3_cst_0, val_main_v3]
    rfl
  rw [h1, h2, merged_apply x s R C _ rfl, mean_apply]
  unfold refOut
  simp only [scores, sinkOf, hR, hC]

end Cert.Attn.Ref

end
-- ==== Proof.Attn.Equation.lean ====
/- The equation: on real arguments the kernel's result and the reference's are one. -/
module

public import proofs.«01_k».proof.Proof.Attn.Array
public import proofs.«01_k».proof.Proof.Attn.Slopes
public import proofs.«01_k».proof.Proof.Attn.RefOut

@[expose] public section

noncomputable section

namespace Cert.Attn

open Idealize.ShloMosaic Idealize.SL.Sem

/-- A sum of products of real numbers is real. -/
theorem real_dot {ι : Type} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

variable (X : (⟨3, ![2, 4096, 21024]⟩ : Shape).Idx → EReal) (s : (⟨1, ![32]⟩ : Shape).Idx → EReal)

theorem flat_real (hX : ∀ i, ∃ r : ℝ, X i = r) (R : Fin 8192) (C : Fin 21024) : ∃ r : ℝ, flat X R C = r := by
  unfold flat
  exact hX _

theorem rowScore_notTop (hX : ∀ i, ∃ r : ℝ, X i = r) (R : Fin 8192) (h : Fin 32) (c : Fin 256) :
    NotTop (rowScore X Ref.slopeRef R h c) := by
  unfold rowScore score
  split
  · obtain ⟨q, hq⟩ := real_dot (fun x : Fin 64 => flat X R ⟨64 * h.val + x.val, by omega⟩)
      (fun x => flat X (keyRow R c) ⟨2048 + (64 * (h.val / 8) + x.val), by omega⟩) (fun _ => flat_real X hX _ _) (fun _ => flat_real X hX _ _)
    unfold Ref.slopeRef
    rw [hq, ← EReal.coe_mul, ← EReal.coe_mul, ← EReal.coe_sub]
    exact .inr ⟨_, rfl⟩
  · exact .inl rfl

/-- Where the score is not minus infinity the stacked band holds the value's own row. -/
theorem band_of_score (R : Fin 8192) (C : Fin 2048) (h : Fin 32) (c : Fin 256) (hs : rowScore X Ref.slopeRef R h c ≠ ⊥) :
    flat X (keyRow R c) ⟨2304 + (64 * (C.val / 512) + C.val % 64), by omega⟩
      = Ref.bandRef X 2304 (by norm_num) (Ref.seqOf R) (Ref.blockOf R) c (Ref.groupOf C) (Ref.laneOf C) := by
  have hsee : Sees (R.val / 128 % 32) (R.val % 128) c := by
    by_contra hn
    exact hs (if_neg hn)
  unfold Ref.bandRef
  rw [if_pos (hsee.2.imp id fun h => by show 0 < R.val % 4096 / 128; omega)]
  refine congrArg (flat X · _) (Fin.ext ?_)
  unfold keyRow Ref.rowAt
  split
  · show 128 * (R.val / 4096 * 32 + (R.val / 128 % 32 - 1)) + c.val
      = 128 * ((4096 * (R.val / 4096) + (128 * (R.val % 4096 / 128) + 0)) / 4096 * 32 + ((4096 * (R.val / 4096) + (128 * (R.val % 4096 / 128) + 0)) / 128 % 32 - 1)) + c.val
    omega
  · show 128 * (R.val / 128) + (c.val - 128) = 128 * ((4096 * (R.val / 4096) + (128 * (R.val % 4096 / 128) + 0)) / 128) + (c.val - 128)
    omega

/-- Kernel and reference, at every row and column. -/
theorem kerOut_eq_refOut (hX : ∀ i, ∃ r : ℝ, X i = r) (hs : ∀ i, ∃ r : ℝ, s i = r) (R : Fin 8192) (C : Fin 2048) :
    kerOut X s R C = Ref.refOut X s R C := by
  unfold kerOut Ref.refOut
  rw [funext slope_eq]
  obtain ⟨z, hz⟩ : ∃ z : ℝ, flat X R ⟨2560 + C.val, by omega⟩ = z := flat_real X hX _ _
  obtain ⟨k, hk⟩ := hs (ix1 ⟨C.val / 64, by omega⟩)
  rw [hz, hk, gateK_eq_gateR]
  refine congrArg (· * _) (attend_eq_attendRef _ (rowScore_notTop X hX R _) k _ _ (fun c hc => band_of_score X R C _ c hc) fun c => ?_)
  unfold Ref.bandRef
  split
  · exact flat_real X hX _ _
  · exact ⟨0, rfl⟩

end Cert.Attn

end
-- ==== Proof.Attn.Finite.lean ====
/- What the precondition says: every element of both arguments is a real number. -/
module

public import proofs.«01_k».proof.Pre_finite
public import proofs.«01_k».proof.Proof.Attn.Words
public import Idealize.ShloMosaic.Lib.ReduceAll

@[expose] public section

noncomputable section

namespace Cert.Attn

open Idealize.ShloMosaic Idealize.SL.Sem

/-- The precondition's shapes fit. -/
theorem finite_facts : Cert.Pre_finite.Facts := by constructor <;> decide

theorem lit_posInf : Ideal.ofBits .f32 0x7F800000#32 = ⊤ := by
  simp [Ideal.ofBits, Ideal.ieee]

/-- A number above minus infinity and below infinity is real. -/
theorem real_of_bits (v : EReal) (h : IntOp.andi (Ideal.cmp .ogt v (Ideal.ofBits .f32 0xFF800000#32)) (Ideal.cmp .olt v (Ideal.ofBits .f32 0x7F800000#32)) = 1#1) :
    ∃ r : ℝ, v = r := by
  rw [lit_negInf, lit_posInf] at h
  induction v using EReal.rec with
  | bot => simp [Ideal.cmp, IntOp.andi] at h
  | top => simp [Ideal.cmp, IntOp.andi] at h
  | coe r => exact ⟨r, rfl⟩

theorem and_one (a b : BitVec 1) (h : IntOp.andi a b = 1#1) : a = 1#1 ∧ b = 1#1 := by
  revert a b; decide

theorem finite_real [Cert.Pre_finite.Facts] (x : Vec Ideal Cert.Pre_finite.S2x4096x21024 .f32) (s : Vec Ideal Cert.Pre_finite.S32 .f32)
    (h : Cert.Pre_finite.fn (F := Ideal) x s = fun _ => 1#1) : (∀ i, ∃ r : ℝ, x i = r) ∧ ∀ i, ∃ r : ℝ, s i = r := by
  have h0 := congrFun h (Shape.Idx.first Cert.Pre_finite.Facts.h_S_)
  unfold Cert.Pre_finite.fn at h0
  obtain ⟨h1, h2⟩ := and_one _ _ h0
  haveI : Subsingleton Cert.Pre_finite.S_.Idx := ⟨fun a b => funext fun i => i.elim0⟩
  exact ⟨fun i => real_of_bits _ (Host.reduce_andi_all _ _ _ _ _ h1 i), fun i => real_of_bits _ (Host.reduce_andi_all _ _ _ _ _ h2 i)⟩

end Cert.Attn

end
-- ==== Proof.Attn.Claims.lean ====
/- The attention's claims, from the runs, the array that the kernel leaves, and the equation. -/
module

public import proofs.«01_k».proof.Defs
public import proofs.«01_k».proof.Proof.Gen.KernelIdeal.Value
public import proofs.«01_k».proof.Proof.Gen.ReferenceIdeal.Run
public import proofs.«01_k».proof.Proof.Attn.Equation
public import proofs.«01_k».proof.Proof.Attn.Finite
public import Idealize.ShloMosaic.Adequacy
public import Idealize.ShloMosaic.Init

@[expose] public section

noncomputable section

namespace Cert.Attn

open Idealize.ShloMosaic Idealize.SL.Sem

open Cert.ReferenceIdeal in
/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := Ideal)) _ _).mono (fun r h => ⟨fun c => (h c).2, sem_eq_zero_of_no_sems (by decide) r.2⟩)
    (Cert.ReferenceIdeal.Value.run (F := Ideal) m ρ)

/-- Every named constant is the number it is named for. -/
theorem preserves : Cert.preserves_Kernel_KernelIdeal := by
  unfold Cert.preserves_Kernel_KernelIdeal
  refine ⟨?_, ?_, ?_, ?_, ?_, ?_, ?_, ?_, ?_, ?_, ?_, ?_, ?_, ?_, ?_, ?_, ?_, ?_, ?_, ?_, ?_, ?_, ?_, ?_, ?_⟩ <;>
    exact IdealRules.named_const.statement _ _ _ _ _ rfl

/-- The attention kernel computes the reference's attention. -/
theorem algebraic [Cert.Pre_finite.Facts] : Cert.algebraic_KernelIdeal_ReferenceIdeal_pre_finite := by
  intro m ρ m' ρ' hpre hargs
  refine ⟨fun c => (Cert.KernelIdeal.Gen.dats m 0 c).arrAt 7 Cert.KernelIdeal.cfg0.N, Cert.KernelIdeal.Value.run_blocks (F := Ideal) m ρ, ?_⟩
  refine (θ_run (Cert.ReferenceIdeal.defs (F := Ideal)) _ _).mono (fun r h c => ⟨(h c).1.trans ?_, (h c).2⟩)
    (Cert.ReferenceIdeal.Value.run (F := Ideal) m' ρ')
  have hr := finite_real _ _ (hpre c)
  refine Eq.trans ?_ (final_array m c).symm
  rw [Cert.ReferenceIdeal.Read.val_main_v99_eq, (hargs c).1, (hargs c).2]
  funext i
  exact (congrArg _ (eq_ix2 (n0 := 8192) (n1 := 2048) i)).trans ((Ref.out_apply _ _ (i 0) (i 1)).trans
    (kerOut_eq_refOut _ _ hr.1 hr.2 (i 0) (i 1)).symm)

end Cert.Attn

end
-- ==== Proof.Layer.Rows.lean ====
/- An activation of the two sequences read as one array of rows, its product with a layer's weights, and a row's norm. -/
module

public import Idealize.ShloMosaic.Lib.Pipeline.ValueKit
public import Idealize.ShloMosaic.PureOps.Ideal.Laws

@[expose] public section

noncomputable section

namespace Cert.Layer

open Idealize.ShloMosaic

/-- Row `R` of the two sequences, one after the other, at column `k`. -/
def rows {n : Nat} (X : (⟨3, ![2, 4096, n]⟩ : Shape).Idx → EReal) (R : Fin 8192) (k : Fin n) : EReal :=
  X (ix3 ⟨R.val / 4096, by omega⟩ ⟨R.val % 4096, by omega⟩ k)

/-- The product of an activation's rows with the first of four layers' weights. -/
def prod {K n : Nat} (X : (⟨3, ![2, 4096, K]⟩ : Shape).Idx → EReal) (W : (⟨3, ![4, K, n]⟩ : Shape).Idx → EReal) (R : Fin 8192) (C : Fin n) : EReal :=
  ∑ k : Fin K, rows X R k * W (ix3 (n0 := 4) 0 k C)

/-- One over the root of a row's mean square. -/
def scale (v : Fin 4096 → EReal) : EReal :=
  Ideal.rsqrt (Ideal.div (∑ x, v x * v x) (Ideal.ofBits .f32 0x45800000#32) + Ideal.ofBits .f32 0x358637BD#32)

/-- A row's entry over the root of the row's mean square, times a gain. -/
def normed (v : Fin 4096 → EReal) (g : EReal) (k : Fin 4096) : EReal := v k * scale v * g

end Cert.Layer

end
-- ==== Proof.Layer.InMain.lean ====
/- The input projection's first part: the blocked product with the reordered weights is the reference's product, its parts put
   in the kernel's order. -/
module

public import proofs.«01_k».proof.Defs
public import proofs.«01_k».proof.Proof.Gen.InMainIdeal.Value
public import proofs.«01_k».proof.Proof.Gen.InMainReferenceIdeal.Read
public import proofs.«01_k».proof.Proof.Layer.Rows
public import proofs.«01_k».proof.Proof.Attn.Pack
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.InMain

open Idealize.ShloMosaic Idealize.ShloMosaic.TcCoe Idealize.SL.Sem

set_option maxRecDepth 16384

/-- The projection's columns in the kernel's order. -/
def cols (X : (⟨3, ![2, 4096, 4096]⟩ : Shape).Idx → EReal) (W : (⟨3, ![4, 4096, 21024]⟩ : Shape).Idx → EReal) (R : Fin 8192) (C : Fin 13312) : EReal :=
  prod X W R (Cert.Attn.packCol C)

section Kernel

open Cert.InMainIdeal Cert.InMainIdeal.Gen

variable (m : (ℓ : Loc nD τ sig) → Buf (Elt Ideal) ℓ) (c : Dev nD)

theorem index0 : ∀ t : Fin cfg0.N, win0_0.index t = ![t.val / 13, 0] := (by decide +kernel : ∀ t : Fin grid0.N, _)
theorem index1 : ∀ t : Fin cfg0.N, win0_1.index t = ![0, t.val % 13, 0] := (by decide +kernel : ∀ t : Fin grid0.N, _)
theorem index2 : ∀ t : Fin cfg0.N, win0_2.index t = ![t.val / 13, t.val % 13] := (by decide +kernel : ∀ t : Fin grid0.N, _)

theorem point_lt (t : Fin cfg0.N) : t.val < 104 := t.isLt

theorem V_left : V m c main_v8 = truncf (F := Ideal) .bf16 (shapeCast S8192x4096 (m ((c : Thread nD τ).loc main_arg0)) shapeCasts_S2x4096x4096_S8192x4096) bitsLt_bf16_f32 := by
  rfl

/-- The weights with their columns as rows, in the kernel's order. -/
def weights (w : Vec Ideal S4x4096x21024 .f32) : Vec Ideal S4x13312x4096 .bf16 :=
  let p := transpose S4x21024x4096 [0, 2, 1] w transposes_S4x4096x21024_S4x21024x4096_0_2_1
  truncf (F := Ideal) .bf16 (concatenate S4x13312x4096 1
    [⟨S4x2048x4096, extractStridedSlice S4x2048x4096 ![0, 0, 0] p slices_S4x21024x4096_S4x2048x4096_0_0_0⟩,
      ⟨S4x10240x4096, extractStridedSlice S4x10240x4096 ![0, 2560, 0] p slices_S4x21024x4096_S4x10240x4096_0_2560_0⟩,
      ⟨S4x512x4096, extractStridedSlice S4x512x4096 ![0, 2048, 0] p slices_S4x21024x4096_S4x512x4096_0_2048_0⟩,
      ⟨S4x512x4096, extractStridedSlice S4x512x4096 ![0, 12800, 0] p slices_S4x21024x4096_S4x512x4096_0_12800_0⟩]
    concatenates_S4x2048x4096_S4x10240x4096_S4x512x4096_S4x512x4096_S4x13312x4096_d1) bitsLt_bf16_f32

theorem weights_apply (w : Vec Ideal S4x4096x21024 .f32) (l : Fin 4) (C : Fin 13312) (k : Fin 4096) :
    weights w (ix3 l C k) = w (ix3 l k (Cert.Attn.packCol C)) := by
  pointwise [weights]
  split_ifs <;> refine congrArg (fun k => w (ix3 _ _ k)) (Fin.ext ?_) <;> simp only [Cert.Attn.packCol, Cert.Attn.packNat] <;> split_ifs <;> omega

theorem V_right : V m c main_v6 = weights (m ((c : Thread nD τ).loc main_arg1)) := by
  rfl

theorem left_apply (x : Vec Ideal S2x4096x4096 .f32) (R : Fin 8192) (k : Fin 4096) :
    truncf (F := Ideal) .bf16 (shapeCast S8192x4096 x shapeCasts_S2x4096x4096_S8192x4096) bitsLt_bf16_f32 (ix2 R k) = rows x R k := by
  pointwise []
  rfl

theorem block0 (t : Fin cfg0.N) (r : Fin 1024) (k : Fin 4096) :
    iblk m c 0 t (ix2 r k) = rows (m ((c : Thread nD τ).loc main_arg0)) ⟨1024 * (t.val / 13) + r.val, by have := point_lt t; omega⟩ k := by
  refine Eq.trans ?_ (left_apply _ _ _)
  blk_simp [iblk]
  rw [V_left]
  refine congrArg (truncf (F := Ideal) .bf16 _ _) ?_
  blk_ext [index0]

theorem block1 (t : Fin cfg0.N) (d : Fin 1024) (k : Fin 4096) :
    iblk m c 1 t (ix3 0 d k) = (m ((c : Thread nD τ).loc main_arg1)) (ix3 0 k (Cert.Attn.packCol ⟨1024 * (t.val % 13) + d.val, by omega⟩)) := by
  refine Eq.trans ?_ (weights_apply _ _ _ _)
  blk_simp [iblk]
  rw [V_right]
  refine congrArg (weights _) ?_
  blk_ext [index1]

theorem out_apply (x0 : Vec Ideal S1024x4096 .bf16) (x1 : Vec Ideal S1x1024x4096 .bf16) (r : Fin 1024) (d : Fin 1024) :
    out0_2 x0 x1 (ix2 r d) = ∑ k : Fin 4096, x0 (ix2 r k) * x1 (ix3 0 d k) := by
  refine (congrFun (View.canon_cons_unit_lit _ _ _ (by decide)) _).trans ?_
  rw [View.ld_unit_lit _ _ (by decide), View.ld_unit_lit _ _ (by decide)]
  pointwise [k0_pay1]

/-- The whole array after the run. -/
theorem final_array : (dats m 0 c).arrAt 2 cfg0.N
    = fun i => cols (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have e : y = ix2 (n0 := 1024) (n1 := 1024) (y 0) (y 1) := eq_ix2 (n0 := 1024) (n1 := 1024) y
  have h0 : (y 0).val < 1024 := (y 0).isLt
  have h1 : (y 1).val < 1024 := (y 1).isLt
  have ht := point_lt t
  have e0 : (win0_2.blk t).view.emb y 0 = (⟨1024 * (t.val / 13) + (y 0).val, by omega⟩ : Fin 8192) := by
    refine Fin.ext ?_
    show _ = 1024 * (t.val / 13) + (y 0).val
    blk_simp [index2]
    omega
  have e1 : (win0_2.blk t).view.emb y 1 = (⟨1024 * (t.val % 13) + (y 1).val, by omega⟩ : Fin 13312) := by
    refine Fin.ext ?_
    show _ = 1024 * (t.val % 13) + (y 1).val
    blk_simp [index2]
    omega
  refine (congrArg (out0_2 _ _) e).trans ((out_apply _ _ (y 0) (y 1)).trans (Eq.trans ?_ (congrArg₂ (cols _ _) e0 e1).symm))
  exact Finset.sum_congr rfl fun k _ => congrArg₂ (fun a b : EReal => a * b) (block0 m c t (y 0) k) (block1 m c t (y 1) k)

end Kernel

section Reference

open Cert.InMainReferenceIdeal Cert.InMainReferenceIdeal.Read

theorem proj_apply (X : Vec Ideal S2x4096x4096 .f32) (W : Vec Ideal S4x4096x21024 .f32) (b : Fin 2) (s : Fin 4096) (C : Fin 21024) (R : Fin 8192)
    (h : R.val = 4096 * b.val + s.val) : val_main_v2 (F := Ideal) X W (ix3 b s C) = prod X W R C := by
  rw [val_main_v2_apply]
  unfold prod
  refine Finset.sum_congr rfl fun k _ => ?_
  rw [val_main_v1_apply, val_main_v0_apply]
  refine congrArg₂ (· * ·) (congrArg X ?_) (congrArg W ?_)
  · funext a
    refine Fin.ext ?_
    match a with
    | ⟨0, _⟩ => show b.val = R.val / 4096; omega
    | ⟨1, _⟩ => show s.val = R.val % 4096; omega
    | ⟨2, _⟩ => rfl
  · funext a
    refine Fin.ext ?_
    match a with
    | ⟨0, _⟩ => rfl
    | ⟨1, _⟩ => show (k.val * 21024 + C.val) / 21024 % 4096 = k.val; omega
    | ⟨2, _⟩ => show (k.val * 21024 + C.val) % 21024 = C.val; omega

theorem reference_apply (X : Vec Ideal S2x4096x4096 .f32) (W : Vec Ideal S4x4096x21024 .f32) (R : Fin 8192) (C : Fin 13312) :
    val_main_v15 (F := Ideal) X W (ix2 R C) = cols X W R C := by
  have e : val_main_v14 (F := Ideal) X W (ix3 ⟨R.val / 4096, by omega⟩ ⟨R.val % 4096, by omega⟩ C)
      = val_main_v2 (F := Ideal) X W (ix3 ⟨R.val / 4096, by omega⟩ ⟨R.val % 4096, by omega⟩ (Cert.Attn.packCol C)) := by
    pointwise [val_main_v14, val_main_v3, val_main_v4, val_main_v5, val_main_v6, val_main_v7, val_main_v8, val_main_v9, val_main_v10, val_main_v11, val_main_v12, val_main_v13]
    split_ifs <;> refine congrArg (fun k => val_main_v2 X W (ix3 _ _ k)) (Fin.ext ?_) <;> simp only [Cert.Attn.packCol, Cert.Attn.packNat] <;> split_ifs <;> omega
  rw [val_main_v15_apply]
  refine Eq.trans (congrArg _ ?_) (e.trans (proj_apply X W _ _ _ R (by show R.val = 4096 * (R.val / 4096) + R.val % 4096; omega)))
  funext a
  refine Fin.ext ?_
  match a with
  | ⟨0, _⟩ => show (R.val * 13312 + C.val) / 54525952 = R.val / 4096; omega
  | ⟨1, _⟩ => show (R.val * 13312 + C.val) / 13312 % 4096 = R.val % 4096; omega
  | ⟨2, _⟩ => show (R.val * 13312 + C.val) % 13312 = C.val; omega

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The blocked product is the reference's product. -/
theorem algebraic : Cert.algebraic_InMainIdeal_InMainReferenceIdeal := by
  intro m ρ m' ρ' _ hargs
  refine ⟨fun c => (Cert.InMainIdeal.Gen.dats m 0 c).arrAt 2 Cert.InMainIdeal.cfg0.N, Cert.InMainIdeal.Value.run_blocks (F := Ideal) m ρ, ?_⟩
  refine (θ_run (Cert.InMainReferenceIdeal.defs (F := Ideal)) _ _).mono (fun r h c => ⟨(h c).1.trans ?_, (h c).2⟩)
    (Cert.InMainReferenceIdeal.Value.run (F := Ideal) m' ρ')
  refine Eq.trans ?_ (final_array m c).symm
  refine (Cert.InMainReferenceIdeal.Read.val_main_v15_eq _ _).trans ?_
  rw [(hargs c).1, (hargs c).2]
  funext i
  exact (congrArg _ (eq_ix2 (n0 := 8192) (n1 := 13312) i)).trans (reference_apply _ _ (i 0) (i 1))

end Cert.Layer.InMain

end
-- ==== Proof.Layer.InGates.lean ====
/- The input projection's gates: the blocked product with the gates' weights is the last columns of the reference's product. -/
module

public import proofs.«01_k».proof.Defs
public import proofs.«01_k».proof.Proof.Gen.InGatesIdeal.Value
public import proofs.«01_k».proof.Proof.Gen.InGatesReferenceIdeal.Read
public import proofs.«01_k».proof.Proof.Layer.Rows
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.InGates

open Idealize.ShloMosaic Idealize.ShloMosaic.TcCoe Idealize.SL.Sem

set_option maxRecDepth 16384

/-- The projection's column of gate `C`. -/
def gateCol (C : Fin 8192) : Fin 21024 := ⟨12832 + C.val, by omega⟩

/-- The projection's last columns. -/
def cols (X : (⟨3, ![2, 4096, 4096]⟩ : Shape).Idx → EReal) (W : (⟨3, ![4, 4096, 21024]⟩ : Shape).Idx → EReal) (R : Fin 8192) (C : Fin 8192) : EReal :=
  prod X W R (gateCol C)

section Kernel

open Cert.InGatesIdeal Cert.InGatesIdeal.Gen

variable (m : (ℓ : Loc nD τ sig) → Buf (Elt Ideal) ℓ) (c : Dev nD)

theorem index0 : ∀ t : Fin cfg0.N, win0_0.index t = ![t.val / 8, 0] := (by decide +kernel : ∀ t : Fin grid0.N, _)
theorem index1 : ∀ t : Fin cfg0.N, win0_1.index t = ![0, t.val % 8, 0] := (by decide +kernel : ∀ t : Fin grid0.N, _)
theorem index2 : ∀ t : Fin cfg0.N, win0_2.index t = ![t.val / 8, t.val % 8] := (by decide +kernel : ∀ t : Fin grid0.N, _)

theorem point_lt (t : Fin cfg0.N) : t.val < 64 := t.isLt

theorem V_left : V m c main_v4 = truncf (F := Ideal) .bf16 (shapeCast S8192x4096 (m ((c : Thread nD τ).loc main_arg0)) shapeCasts_S2x4096x4096_S8192x4096) bitsLt_bf16_f32 := by
  rfl

/-- The gates' weights with their columns as rows. -/
def weights (w : Vec Ideal S4x4096x21024 .f32) : Vec Ideal S4x8192x4096 .bf16 :=
  truncf (F := Ideal) .bf16 (extractStridedSlice S4x8192x4096 ![0, 12832, 0]
    (transpose S4x21024x4096 [0, 2, 1] w transposes_S4x4096x21024_S4x21024x4096_0_2_1) slices_S4x21024x4096_S4x8192x4096_0_12832_0) bitsLt_bf16_f32

theorem weights_apply (w : Vec Ideal S4x4096x21024 .f32) (l : Fin 4) (C : Fin 8192) (k : Fin 4096) :
    weights w (ix3 l C k) = w (ix3 l k (gateCol C)) := by
  pointwise [weights]
  rfl

theorem V_right : V m c main_v2 = weights (m ((c : Thread nD τ).loc main_arg1)) := by
  rfl

theorem left_apply (x : Vec Ideal S2x4096x4096 .f32) (R : Fin 8192) (k : Fin 4096) :
    truncf (F := Ideal) .bf16 (shapeCast S8192x4096 x shapeCasts_S2x4096x4096_S8192x4096) bitsLt_bf16_f32 (ix2 R k) = rows x R k := by
  pointwise []
  rfl

theorem block0 (t : Fin cfg0.N) (r : Fin 1024) (k : Fin 4096) :
    iblk m c 0 t (ix2 r k) = rows (m ((c : Thread nD τ).loc main_arg0)) ⟨1024 * (t.val / 8) + r.val, by have := point_lt t; omega⟩ k := by
  refine Eq.trans ?_ (left_apply _ _ _)
  blk_simp [iblk]
  rw [V_left]
  refine congrArg (truncf (F := Ideal) .bf16 _ _) ?_
  blk_ext [index0]

theorem block1 (t : Fin cfg0.N) (d : Fin 1024) (k : Fin 4096) :
    iblk m c 1 t (ix3 0 d k) = (m ((c : Thread nD τ).loc main_arg1)) (ix3 0 k (gateCol ⟨1024 * (t.val % 8) + d.val, by omega⟩)) := by
  refine Eq.trans ?_ (weights_apply _ _ _ _)
  blk_simp [iblk]
  rw [V_right]
  refine congrArg (weights _) ?_
  blk_ext [index1]

theorem out_apply (x0 : Vec Ideal S1024x4096 .bf16) (x1 : Vec Ideal S1x1024x4096 .bf16) (r : Fin 1024) (d : Fin 1024) :
    out0_2 x0 x1 (ix2 r d) = ∑ k : Fin 4096, x0 (ix2 r k) * x1 (ix3 0 d k) := by
  refine (congrFun (View.canon_cons_unit_lit _ _ _ (by decide)) _).trans ?_
  rw [View.ld_unit_lit _ _ (by decide), View.ld_unit_lit _ _ (by decide)]
  pointwise [k0_pay1]

/-- The whole array after the run. -/
theorem final_array : (dats m 0 c).arrAt 2 cfg0.N
    = fun i => cols (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have e : y = ix2 (n0 := 1024) (n1 := 1024) (y 0) (y 1) := eq_ix2 (n0 := 1024) (n1 := 1024) y
  have h0 : (y 0).val < 1024 := (y 0).isLt
  have h1 : (y 1).val < 1024 := (y 1).isLt
  have ht := point_lt t
  have e0 : (win0_2.blk t).view.emb y 0 = (⟨1024 * (t.val / 8) + (y 0).val, by omega⟩ : Fin 8192) := by
    refine Fin.ext ?_
    show _ = 1024 * (t.val / 8) + (y 0).val
    blk_simp [index2]
    omega
  have e1 : (win0_2.blk t).view.emb y 1 = (⟨1024 * (t.val % 8) + (y 1).val, by omega⟩ : Fin 8192) := by
    refine Fin.ext ?_
    show _ = 1024 * (t.val % 8) + (y 1).val
    blk_simp [index2]
    omega
  refine (congrArg (out0_2 _ _) e).trans ((out_apply _ _ (y 0) (y 1)).trans (Eq.trans ?_ (congrArg₂ (cols _ _) e0 e1).symm))
  exact Finset.sum_congr rfl fun k _ => congrArg₂ (fun a b : EReal => a * b) (block0 m c t (y 0) k) (block1 m c t (y 1) k)

end Kernel

section Reference

open Cert.InGatesReferenceIdeal Cert.InGatesReferenceIdeal.Read

theorem proj_apply (X : Vec Ideal S2x4096x4096 .f32) (W : Vec Ideal S4x4096x21024 .f32) (b : Fin 2) (s : Fin 4096) (C : Fin 21024) (R : Fin 8192)
    (h : R.val = 4096 * b.val + s.val) : val_main_v2 (F := Ideal) X W (ix3 b s C) = prod X W R C := by
  rw [val_main_v2_apply]
  unfold prod
  refine Finset.sum_congr rfl fun k _ => ?_
  rw [val_main_v1_apply, val_main_v0_apply]
  refine congrArg₂ (· * ·) (congrArg X ?_) (congrArg W ?_)
  · funext a
    refine Fin.ext ?_
    match a with
    | ⟨0, _⟩ => show b.val = R.val / 4096; omega
    | ⟨1, _⟩ => show s.val = R.val % 4096; omega
    | ⟨2, _⟩ => rfl
  · funext a
    refine Fin.ext ?_
    match a with
    | ⟨0, _⟩ => rfl
    | ⟨1, _⟩ => show (k.val * 21024 + C.val) / 21024 % 4096 = k.val; omega
    | ⟨2, _⟩ => show (k.val * 21024 + C.val) % 21024 = C.val; omega

theorem reference_apply (X : Vec Ideal S2x4096x4096 .f32) (W : Vec Ideal S4x4096x21024 .f32) (R : Fin 8192) (C : Fin 8192) :
    val_main_v14 (F := Ideal) X W (ix2 R C) = cols X W R C := by
  have e : val_main_v13 (F := Ideal) X W (ix3 ⟨R.val / 4096, by omega⟩ ⟨R.val % 4096, by omega⟩ C)
      = val_main_v2 (F := Ideal) X W (ix3 ⟨R.val / 4096, by omega⟩ ⟨R.val % 4096, by omega⟩ (gateCol C)) := by
    pointwise [val_main_v13, val_main_v11, val_main_v12]
    split_ifs <;> refine congrArg (fun k => val_main_v2 X W (ix3 _ _ k)) (Fin.ext ?_) <;> simp only [gateCol] <;> omega
  rw [val_main_v14_apply]
  refine Eq.trans (congrArg _ ?_) (e.trans (proj_apply X W _ _ _ R (by show R.val = 4096 * (R.val / 4096) + R.val % 4096; omega)))
  funext a
  refine Fin.ext ?_
  match a with
  | ⟨0, _⟩ => show (R.val * 8192 + C.val) / 33554432 = R.val / 4096; omega
  | ⟨1, _⟩ => show (R.val * 8192 + C.val) / 8192 % 4096 = R.val % 4096; omega
  | ⟨2, _⟩ => show (R.val * 8192 + C.val) % 8192 = C.val; omega

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The blocked product is the reference's product. -/
theorem algebraic : Cert.algebraic_InGatesIdeal_InGatesReferenceIdeal := by
  intro m ρ m' ρ' _ hargs
  refine ⟨fun c => (Cert.InGatesIdeal.Gen.dats m 0 c).arrAt 2 Cert.InGatesIdeal.cfg0.N, Cert.InGatesIdeal.Value.run_blocks (F := Ideal) m ρ, ?_⟩
  refine (θ_run (Cert.InGatesReferenceIdeal.defs (F := Ideal)) _ _).mono (fun r h c => ⟨(h c).1.trans ?_, (h c).2⟩)
    (Cert.InGatesReferenceIdeal.Value.run (F := Ideal) m' ρ')
  refine Eq.trans ?_ (final_array m c).symm
  refine (Cert.InGatesReferenceIdeal.Read.val_main_v14_eq _ _).trans ?_
  rw [(hargs c).1, (hargs c).2]
  funext i
  exact (congrArg _ (eq_ix2 (n0 := 8192) (n1 := 8192) i)).trans (reference_apply _ _ (i 0) (i 1))

end Cert.Layer.InGates

end
-- ==== Proof.Layer.Merge.lean ====
/- The two branches merged: each branch's blocked product times its gate's logistic, summed, is the reference's sum, at every index. -/
module

public import proofs.«01_k».proof.Defs
public import proofs.«01_k».proof.Proof.Gen.MergeIdeal.Value
public import proofs.«01_k».proof.Proof.Gen.MergeReferenceIdeal.Read
public import proofs.«01_k».proof.Proof.Layer.Rows
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.Merge

open Idealize.ShloMosaic Idealize.ShloMosaic.TcCoe Idealize.SL.Sem

set_option maxRecDepth 16384

/-- Each branch's product times the logistic of its gate, summed, at row `R` and column `C`. -/
def merged (A B : (⟨3, ![2, 4096, 2048]⟩ : Shape).Idx → EReal) (P Q : (⟨3, ![4, 2048, 4096]⟩ : Shape).Idx → EReal)
    (G H : (⟨3, ![2, 4096, 4096]⟩ : Shape).Idx → EReal) (R : Fin 8192) (C : Fin 4096) : EReal :=
  Ideal.logistic (rows G R C) * prod A P R C + Ideal.logistic (rows H R C) * prod B Q R C

section Kernel

open Cert.MergeIdeal Cert.MergeIdeal.Gen

variable (m : (ℓ : Loc nD τ sig) → Buf (Elt Ideal) ℓ) (c : Dev nD)

theorem index0 : ∀ t : Fin cfg0.N, win0_0.index t = ![t.val / 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![0, 0, t.val % 8] := (by decide +kernel : ∀ t : Fin grid0.N, _)
theorem index3 : ∀ t : Fin cfg0.N, win0_3.index t = ![0, 0, t.val % 8] := (by decide +kernel : ∀ t : Fin grid0.N, _)
theorem index4 : ∀ t : Fin cfg0.N, win0_4.index t = ![t.val / 8, t.val % 8] := (by decide +kernel : ∀ t : Fin grid0.N, _)
theorem index5 : ∀ t : Fin cfg0.N, win0_5.index t = ![t.val / 8, 8 + t.val % 8] := (by decide +kernel : ∀ t : Fin grid0.N, _)
theorem index6 : ∀ t : Fin cfg0.N, win0_6.index t = ![t.val / 8, t.val % 8] := (by decide +kernel : ∀ t : Fin grid0.N, _)

theorem point_lt (t : Fin cfg0.N) : t.val < 64 := t.isLt

/-- A branch's output as rows. -/
def left (x : Vec Ideal S2x4096x2048 .f32) : Vec Ideal S8192x2048 .bf16 :=
  truncf (F := Ideal) .bf16 (shapeCast S8192x2048 x shapeCasts_S2x4096x2048_S8192x2048) bitsLt_bf16_f32

/-- The two gates' columns side by side, as rows. -/
def gates (G H : Vec Ideal S2x4096x4096 .f32) : Vec Ideal S8192x8192 .f32 :=
  shapeCast S8192x8192 (concatenate S2x4096x8192 2 [⟨S2x4096x4096, G⟩, ⟨S2x4096x4096, H⟩] concatenates_S2x4096x4096_S2x4096x4096_S2x4096x8192_d2)
    shapeCasts_S2x4096x8192_S8192x8192

theorem left_apply (x : Vec Ideal S2x4096x2048 .f32) (R : Fin 8192) (k : Fin 2048) : left x (ix2 R k) = rows x R k := by
  pointwise [left]
  rfl

theorem gates_low (G H : Vec Ideal S2x4096x4096 .f32) (R : Fin 8192) (C : Fin 4096) : gates G H (ix2 R ⟨C.val, by omega⟩) = rows G R C := by
  pointwise [gates]
  rfl

theorem gates_high (G H : Vec Ideal S2x4096x4096 .f32) (R : Fin 8192) (C : Fin 4096) : gates G H (ix2 R ⟨4096 + C.val, by omega⟩) = rows H R C := by
  pointwise [gates]
  rfl

/-- A branch's weights, cast. -/
def weights (w : Vec Ideal S4x2048x4096 .f32) : Vec Ideal S4x2048x4096 .bf16 := truncf (F := Ideal) .bf16 w bitsLt_bf16_f32

theorem V_left0 : V m c main_v3 = left (m ((c : Thread nD τ).loc main_arg0)) := by
  rfl

theorem V_left1 : V m c main_v5 = left (m ((c : Thread nD τ).loc main_arg1)) := by
  rfl

theorem V_weights0 : V m c main_v6 = weights (m ((c : Thread nD τ).loc main_arg2)) := by
  rfl

theorem V_weights1 : V m c main_v7 = weights (m ((c : Thread nD τ).loc main_arg3)) := by
  rfl

theorem V_gates : V m c main_v1 = gates (m ((c : Thread nD τ).loc main_arg4)) (m ((c : Thread nD τ).loc main_arg5)) := by
  rfl

theorem block0 (t : Fin cfg0.N) (r : Fin 1024) (k : Fin 2048) :
    iblk m c 0 t (ix2 r k) = rows (m ((c : Thread nD τ).loc main_arg0)) ⟨1024 * (t.val / 8) + r.val, by have := point_lt t; omega⟩ k := by
  refine Eq.trans ?_ (left_apply _ _ _)
  blk_simp [iblk]
  rw [V_left0]
  refine congrArg (left _) ?_
  blk_ext [index0]

theorem block1 (t : Fin cfg0.N) (r : Fin 1024) (k : Fin 2048) :
    iblk m c 1 t (ix2 r k) = rows (m ((c : Thread nD τ).loc main_arg1)) ⟨1024 * (t.val / 8) + r.val, by have := point_lt t; omega⟩ k := by
  refine Eq.trans ?_ (left_apply _ _ _)
  blk_simp [iblk]
  rw [V_left1]
  refine congrArg (left _) ?_
  blk_ext [index1]

theorem block2 (t : Fin cfg0.N) (k : Fin 2048) (d : Fin 512) :
    iblk m c 2 t (ix3 0 k d) = (m ((c : Thread nD τ).loc main_arg2)) (ix3 0 k ⟨512 * (t.val % 8) + d.val, by omega⟩) := by
  show _ = weights (m ((c : Thread nD τ).loc main_arg2)) _
  blk_simp [iblk]
  rw [V_weights0]
  refine congrArg (weights _) ?_
  blk_ext [index2]

theorem block3 (t : Fin cfg0.N) (k : Fin 2048) (d : Fin 512) :
    iblk m c 3 t (ix3 0 k d) = (m ((c : Thread nD τ).loc main_arg3)) (ix3 0 k ⟨512 * (t.val % 8) + d.val, by omega⟩) := by
  show _ = weights (m ((c : Thread nD τ).loc main_arg3)) _
  blk_simp [iblk]
  rw [V_weights1]
  refine congrArg (weights _) ?_
  blk_ext [index3]

theorem block4 (t : Fin cfg0.N) (r : Fin 1024) (d : Fin 512) : iblk m c 4 t (ix2 r d)
    = rows (m ((c : Thread nD τ).loc main_arg4)) ⟨1024 * (t.val / 8) + r.val, by have := point_lt t; omega⟩ ⟨512 * (t.val % 8) + d.val, by omega⟩ := by
  refine Eq.trans ?_ (gates_low (m ((c : Thread nD τ).loc main_arg4)) (m ((c : Thread nD τ).loc main_arg5)) _ _)
  blk_simp [iblk]
  rw [V_gates]
  refine congrArg (gates _ _) ?_
  blk_ext [index4]

theorem block5 (t : Fin cfg0.N) (r : Fin 1024) (d : Fin 512) : iblk m c 5 t (ix2 r d)
    = rows (m ((c : Thread nD τ).loc main_arg5)) ⟨1024 * (t.val / 8) + r.val, by have := point_lt t; omega⟩ ⟨512 * (t.val % 8) + d.val, by omega⟩ := by
  refine Eq.trans ?_ (gates_high (m ((c : Thread nD τ).loc main_arg4)) (m ((c : Thread nD τ).loc main_arg5)) _ _)
  blk_simp [iblk]
  rw [V_gates]
  refine congrArg (gates _ _) ?_
  blk_ext [index5]

theorem out_apply (x0 x1 : Vec Ideal S1024x2048 .bf16) (x2 x3 : Vec Ideal S1x2048x512 .bf16) (x4 x5 : Vec Ideal S1024x512 .f32) (r : Fin 1024) (d : Fin 512) :
    out0_6 x0 x1 x2 x3 x4 x5 (ix2 r d) = Ideal.logistic (x4 (ix2 r d)) * (∑ k : Fin 2048, x0 (ix2 r k) * x2 (ix3 0 k d))
      + Ideal.logistic (x5 (ix2 r d)) * ∑ k : Fin 2048, x1 (ix2 r k) * x3 (ix3 0 k d) := by
  refine (congrFun (View.canon_cons_unit_lit _ _ _ (by decide)) _).trans ?_
  rw [View.ld_unit_lit _ _ (by decide), View.ld_unit_lit _ _ (by decide), View.ld_unit_lit _ _ (by decide),
    View.ld_unit_lit _ _ (by decide), View.ld_unit_lit _ _ (by decide), View.ld_unit_lit _ _ (by decide)]
  pointwise [k0_pay1]

/-- The whole array after the run. -/
theorem final_array : (dats m 0 c).arrAt 6 cfg0.N
    = fun i => merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  have e : y = ix2 (n0 := 1024) (n1 := 512) (y 0) (y 1) := eq_ix2 (n0 := 1024) (n1 := 512) y
  have h0 : (y 0).val < 1024 := (y 0).isLt
  have h1 : (y 1).val < 512 := (y 1).isLt
  have ht := point_lt t
  have e0 : (win0_6.blk t).view.emb y 0 = (⟨1024 * (t.val / 8) + (y 0).val, by omega⟩ : Fin 8192) := by
    refine Fin.ext ?_
    show _ = 1024 * (t.val / 8) + (y 0).val
    blk_simp [index6]
    omega
  have e1 : (win0_6.blk t).view.emb y 1 = (⟨512 * (t.val % 8) + (y 1).val, by omega⟩ : Fin 4096) := by
    refine Fin.ext ?_
    show _ = 512 * (t.val % 8) + (y 1).val
    blk_simp [index6]
    omega
  refine (congrArg (out0_6 _ _ _ _ _ _) e).trans ((out_apply _ _ _ _ _ _ (y 0) (y 1)).trans (Eq.trans ?_ (congrArg₂ (merged _ _ _ _ _ _) e0 e1).symm))
  refine congrArg₂ (fun a b : EReal => a + b) (congrArg₂ (fun a b : EReal => a * b) (congrArg Ideal.logistic (block4 m c t (y 0) (y 1))) ?_)
    (congrArg₂ (fun a b : EReal => a * b) (congrArg Ideal.logistic (block5 m c t (y 0) (y 1))) ?_)
  · exact Finset.sum_congr rfl fun k _ => congrArg₂ (fun a b : EReal => a * b) (block0 m c t (y 0) k) (block2 m c t k (y 1))
  · exact Finset.sum_congr rfl fun k _ => congrArg₂ (fun a b : EReal => a * b) (block1 m c t (y 0) k) (block3 m c t k (y 1))

end Kernel

section Reference

open Cert.MergeReferenceIdeal Cert.MergeReferenceIdeal.Gen Cert.MergeReferenceIdeal.Read

theorem prod_apply (X : Vec Ideal S2x4096x2048 .f32) (W : Vec Ideal S4x2048x4096 .f32) (b : Fin 2) (s C : Fin 4096) (R : Fin 8192)
    (h : R.val = 4096 * b.val + s.val) : val_main_v2 (F := Ideal) X W (ix3 b s C) = prod X W R C := by
  rw [val_main_v2_apply]
  unfold prod
  refine Finset.sum_congr rfl fun k _ => ?_
  rw [val_main_v1_apply, val_main_v0_apply]
  refine congrArg₂ (· * ·) (congrArg X ?_) (congrArg W ?_)
  · funext a
    refine Fin.ext ?_
    match a with
    | ⟨0, _⟩ => show b.val = R.val / 4096; omega
    | ⟨1, _⟩ => show s.val = R.val % 4096; omega
    | ⟨2, _⟩ => rfl
  · funext a
    refine Fin.ext ?_
    match a with
    | ⟨0, _⟩ => rfl
    | ⟨1, _⟩ => show (k.val * 4096 + C.val) / 4096 % 2048 = k.val; omega
    | ⟨2, _⟩ => show (k.val * 4096 + C.val) % 4096 = C.val; omega

theorem gate_apply (G : Vec Ideal S2x4096x4096 .f32) (b : Fin 2) (s C : Fin 4096) :
    val_main_v11 (F := Ideal) G (ix3 b s C) = Ideal.logistic (G (ix3 b s C)) := by
  pointwise [val_main_v11, val_main_v10, val_main_v9, val_main_v8, val_main_v7, val_main_v6, val_main_cst, val_main_cst_0]
  rfl

theorem sum_apply (A B : Vec Ideal S2x4096x2048 .f32) (P Q : Vec Ideal S4x2048x4096 .f32) (G H : Vec Ideal S2x4096x4096 .f32)
    (b : Fin 2) (s C : Fin 4096) (R : Fin 8192) (h : R.val = 4096 * b.val + s.val) :
    val_main_v20 (F := Ideal) A B P Q G H (ix3 b s C)
      = Ideal.logistic (G (ix3 b s C)) * prod A P R C + Ideal.logistic (H (ix3 b s C)) * prod B Q R C :=
  congrArg₂ (fun a b : EReal => a + b) (congrArg₂ (fun a b : EReal => a * b) (gate_apply G b s C) (prod_apply A P b s C R h))
    (congrArg₂ (fun a b : EReal => a * b) (gate_apply H b s C) (prod_apply B Q b s C R h))

theorem reference_apply (A B : Vec Ideal S2x4096x2048 .f32) (P Q : Vec Ideal S4x2048x4096 .f32) (G H : Vec Ideal S2x4096x4096 .f32)
    (R : Fin 8192) (C : Fin 4096) : val_main_v22 (F := Ideal) A B P Q G H (ix2 R C) = merged A B P Q G H R C := by
  pointwise [val_main_v22, val_main_v21]
  exact sum_apply A B P Q G H _ _ C R (by show R.val = 4096 * (R.val / 4096) + R.val % 4096; omega)

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The merged branches are the reference's. -/
theorem algebraic : Cert.algebraic_MergeIdeal_MergeReferenceIdeal := by
  intro m ρ m' ρ' _ hargs
  refine ⟨fun c => (Cert.MergeIdeal.Gen.dats m 0 c).arrAt 6 Cert.MergeIdeal.cfg0.N, Cert.MergeIdeal.Value.run_blocks (F := Ideal) m ρ, ?_⟩
  refine (θ_run (Cert.MergeReferenceIdeal.defs (F := Ideal)) _ _).mono (fun r h c => ⟨(h c).1.trans ?_, (h c).2⟩)
    (Cert.MergeReferenceIdeal.Value.run (F := Ideal) m' ρ')
  refine Eq.trans ?_ (final_array m c).symm
  refine (Cert.MergeReferenceIdeal.Read.val_main_v22_eq _ _ _ _ _ _).trans ?_
  rw [(hargs c).1, (hargs c).2.1, (hargs c).2.2.1, (hargs c).2.2.2.1, (hargs c).2.2.2.2.1, (hargs c).2.2.2.2.2]
  funext i
  exact (congrArg _ (eq_ix2 (n0 := 8192) (n1 := 4096) i)).trans (reference_apply _ _ _ _ _ _ (i 0) (i 1))

end Cert.Layer.Merge

end
-- ==== Proof.Layer.OutProj.lean ====
/- The output projection: the blocked product is the reference's product, at every index. -/
module

public import proofs.«01_k».proof.Defs
public import proofs.«01_k».proof.Proof.Gen.OutProjIdeal.Value
public import proofs.«01_k».proof.Proof.Gen.OutProjReferenceIdeal.Read
public import proofs.«01_k».proof.Proof.Layer.Rows
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.OutProj

open Idealize.ShloMosaic Idealize.ShloMosaic.TcCoe Idealize.SL.Sem

set_option maxRecDepth 16384

section Kernel

open Cert.OutProjIdeal Cert.OutProjIdeal.Gen

variable (m : (ℓ : Loc nD τ sig) → Buf (Elt Ideal) ℓ) (c : Dev nD)

theorem index0 : ∀ t : Fin cfg0.N, win0_0.index t = ![t.val / 4, 0] := (by decide +kernel : ∀ t : Fin grid0.N, _)
theorem index1 : ∀ t : Fin cfg0.N, win0_1.index t = ![0, 0, t.val % 4] := (by decide +kernel : ∀ t : Fin grid0.N, _)
theorem index2 : ∀ t : Fin cfg0.N, win0_2.index t = ![t.val / 4, t.val % 4] := (by decide +kernel : ∀ t : Fin grid0.N, _)

theorem point_lt (t : Fin cfg0.N) : t.val < 32 := t.isLt

theorem V_left : V m c main_v1 = truncf (F := Ideal) .bf16 (shapeCast S8192x4096 (m ((c : Thread nD τ).loc main_arg0)) shapeCasts_S2x4096x4096_S8192x4096) bitsLt_bf16_f32 := by
  rfl

theorem V_right : V m c main_v2 = truncf (F := Ideal) .bf16 (m ((c : Thread nD τ).loc main_arg1)) bitsLt_bf16_f32 := by
  rfl

theorem left_apply (x : Vec Ideal S2x4096x4096 .f32) (R : Fin 8192) (k : Fin 4096) :
    truncf (F := Ideal) .bf16 (shapeCast S8192x4096 x shapeCasts_S2x4096x4096_S8192x4096) bitsLt_bf16_f32 (ix2 R k) = rows x R k := by
  pointwise []
  rfl

theorem block0 (t : Fin cfg0.N) (r : Fin 1024) (k : Fin 4096) :
    iblk m c 0 t (ix2 r k) = rows (m ((c : Thread nD τ).loc main_arg0)) ⟨1024 * (t.val / 4) + r.val, by have := point_lt t; omega⟩ k := by
  refine Eq.trans ?_ (left_apply _ _ _)
  blk_simp [iblk]
  rw [V_left]
  refine congrArg (truncf (F := Ideal) .bf16 _ _) ?_
  blk_ext [index0]

theorem block1 (t : Fin cfg0.N) (k : Fin 4096) (d : Fin 1024) :
    iblk m c 1 t (ix3 0 k d) = (m ((c : Thread nD τ).loc main_arg1)) (ix3 0 k ⟨1024 * (t.val % 4) + d.val, by omega⟩) := by
  blk_simp [iblk]
  rw [V_right]
  refine congrArg (m ((c : Thread nD τ).loc main_arg1)) ?_
  blk_ext [index1]

theorem out_apply (x0 : Vec Ideal S1024x4096 .bf16) (x1 : Vec Ideal S1x4096x1024 .bf16) (r : Fin 1024) (d : Fin 1024) :
    out0_2 x0 x1 (ix2 r d) = ∑ k : Fin 4096, x0 (ix2 r k) * x1 (ix3 0 k d) := by
  refine (congrFun (View.canon_cons_unit_lit _ _ _ (by decide)) _).trans ?_
  rw [View.ld_unit_lit _ _ (by decide), View.ld_unit_lit _ _ (by decide)]
  pointwise [k0_pay1]

/-- The whole array after the run. -/
theorem final_array : (dats m 0 c).arrAt 2 cfg0.N
    = fun i => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have e : y = ix2 (n0 := 1024) (n1 := 1024) (y 0) (y 1) := eq_ix2 (n0 := 1024) (n1 := 1024) y
  have h0 : (y 0).val < 1024 := (y 0).isLt
  have h1 : (y 1).val < 1024 := (y 1).isLt
  have ht := point_lt t
  have e0 : (win0_2.blk t).view.emb y 0 = (⟨1024 * (t.val / 4) + (y 0).val, by omega⟩ : Fin 8192) := by
    refine Fin.ext ?_
    show _ = 1024 * (t.val / 4) + (y 0).val
    blk_simp [index2]
    omega
  have e1 : (win0_2.blk t).view.emb y 1 = (⟨1024 * (t.val % 4) + (y 1).val, by omega⟩ : Fin 4096) := by
    refine Fin.ext ?_
    show _ = 1024 * (t.val % 4) + (y 1).val
    blk_simp [index2]
    omega
  refine (congrArg (out0_2 _ _) e).trans ((out_apply _ _ (y 0) (y 1)).trans (Eq.trans ?_ (congrArg₂ (prod _ _) e0 e1).symm))
  exact Finset.sum_congr rfl fun k _ => congrArg₂ (fun a b : EReal => a * b) (block0 m c t (y 0) k) (block1 m c t k (y 1))

end Kernel

section Reference

open Cert.OutProjReferenceIdeal Cert.OutProjReferenceIdeal.Read

theorem reference_apply (X : Vec Ideal S2x4096x4096 .f32) (W : Vec Ideal S4x4096x4096 .f32) (R : Fin 8192) (C : Fin 4096) :
    val_main_v3 (F := Ideal) X W (ix2 R C) = prod X W R C := by
  rw [val_main_v3_apply, val_main_v2_apply]
  unfold prod
  refine Finset.sum_congr rfl fun k _ => ?_
  rw [val_main_v1_apply, val_main_v0_apply]
  refine congrArg₂ (· * ·) (congrArg X ?_) (congrArg W ?_)
  · funext a
    refine Fin.ext ?_
    match a with
    | ⟨0, _⟩ => show (R.val * 4096 + C.val) / 16777216 = R.val / 4096; omega
    | ⟨1, _⟩ => show (R.val * 4096 + C.val) / 4096 % 4096 = R.val % 4096; omega
    | ⟨2, _⟩ => rfl
  · funext a
    refine Fin.ext ?_
    match a with
    | ⟨0, _⟩ => rfl
    | ⟨1, _⟩ => show (k.val * 4096 + (R.val * 4096 + C.val) % 4096) / 4096 % 4096 = k.val; omega
    | ⟨2, _⟩ => show (k.val * 4096 + (R.val * 4096 + C.val) % 4096) % 4096 = C.val; omega

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The blocked product is the reference's product. -/
theorem algebraic : Cert.algebraic_OutProjIdeal_OutProjReferenceIdeal := by
  intro m ρ m' ρ' _ hargs
  refine ⟨fun c => (Cert.OutProjIdeal.Gen.dats m 0 c).arrAt 2 Cert.OutProjIdeal.cfg0.N, Cert.OutProjIdeal.Value.run_blocks (F := Ideal) m ρ, ?_⟩
  refine (θ_run (Cert.OutProjReferenceIdeal.defs (F := Ideal)) _ _).mono (fun r h c => ⟨(h c).1.trans ?_, (h c).2⟩)
    (Cert.OutProjReferenceIdeal.Value.run (F := Ideal) m' ρ')
  refine Eq.trans ?_ (final_array m c).symm
  refine (Cert.OutProjReferenceIdeal.Read.val_main_v3_eq _ _).trans ?_
  rw [(hargs c).1, (hargs c).2]
  funext i
  exact (congrArg _ (eq_ix2 (n0 := 8192) (n1 := 4096) i)).trans (reference_apply _ _ (i 0) (i 1))

end Cert.Layer.OutProj

end
-- ==== Proof.Layer.PreNorm.lean ====
/- The norm of the first layer's input: the kernel's rows are the reference's, at every index. -/
module

public import proofs.«01_k».proof.Defs
public import proofs.«01_k».proof.Proof.Gen.PreNormIdeal.Value
public import proofs.«01_k».proof.Proof.Gen.PreNormReferenceIdeal.Read
public import proofs.«01_k».proof.Proof.Layer.Rows
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.PreNorm

open Idealize.ShloMosaic Idealize.ShloMosaic.TcCoe Idealize.SL.Sem

set_option maxRecDepth 16384

/-- The norm of row `R` at column `C`. -/
def out (X : (⟨3, ![2, 4096, 4096]⟩ : Shape).Idx → EReal) (g : (⟨1, ![4096]⟩ : Shape).Idx → EReal) (R : Fin 8192) (C : Fin 4096) : EReal :=
  normed (rows X R) (g (ix1 C)) C

section Kernel

open Cert.PreNormIdeal Cert.PreNormIdeal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem point_lt (t : Fin cfg0.N) : t.val < 32 := t.isLt

theorem V_input : V m c main_v0 = shapeCast S8192x4096 (m ((c : Thread nD τ).loc main_arg0)) shapeCasts_S2x4096x4096_S8192x4096 := by
  rfl

theorem V_gain : V m c main_v1 = shapeCast S1x4096 (m ((c : Thread nD τ).loc main_arg1)) shapeCasts_S4096_S1x4096 := by
  rfl

theorem input_apply (x : Vec Ideal S2x4096x4096 .f32) (R : Fin 8192) (k : Fin 4096) :
    shapeCast S8192x4096 x shapeCasts_S2x4096x4096_S8192x4096 (ix2 R k) = rows x R k := by
  pointwise []
  rfl

theorem gain_apply (g : Vec Ideal S4096 .f32) (k : Fin 4096) : shapeCast S1x4096 g shapeCasts_S4096_S1x4096 (ix2 0 k) = g (ix1 k) := by
  pointwise []

theorem block0 (t : Fin cfg0.N) (r : Fin 256) (k : Fin 4096) :
    iblk m c 0 t (ix2 r k) = rows (m ((c : Thread nD τ).loc main_arg0)) ⟨256 * t.val + r.val, by have := point_lt t; omega⟩ k := by
  refine Eq.trans ?_ (input_apply _ _ _)
  blk_simp [iblk]
  rw [V_input]
  refine congrArg (shapeCast S8192x4096 _ _) ?_
  blk_ext [index0]

theorem block1 (t : Fin cfg0.N) (k : Fin 4096) : iblk m c 1 t (ix2 0 k) = (m ((c : Thread nD τ).loc main_arg1)) (ix1 k) := by
  refine Eq.trans ?_ (gain_apply _ _)
  blk_simp [iblk]
  rw [V_gain]
  refine congrArg (shapeCast S1x4096 _ _) ?_
  blk_ext [index1]

theorem out_apply (x0 : Vec Ideal S256x4096 .f32) (x1 : Vec Ideal S1x4096 .f32) (r : Fin 256) (d : Fin 4096) :
    out0_2 x0 x1 (ix2 r d) = normed (fun k => x0 (ix2 r k)) (x1 (ix2 0 d)) d := by
  refine (congrFun (View.canon_cons_unit_lit _ _ _ (by decide)) _).trans ?_
  rw [View.ld_unit_lit _ _ (by decide), View.ld_unit_lit _ _ (by decide)]
  pointwise [k0_pay1]
  rfl

/-- The whole array after the run. -/
theorem final_array : (dats m 0 c).arrAt 2 cfg0.N
    = fun i => out (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have e : y = ix2 (n0 := 256) (n1 := 4096) (y 0) (y 1) := eq_ix2 (n0 := 256) (n1 := 4096) y
  have h0 : (y 0).val < 256 := (y 0).isLt
  have h1 : (y 1).val < 4096 := (y 1).isLt
  have ht := point_lt t
  have e0 : (win0_2.blk t).view.emb y 0 = (⟨256 * t.val + (y 0).val, by omega⟩ : Fin 8192) := by
    refine Fin.ext ?_
    show _ = 256 * t.val + (y 0).val
    blk_simp [index2]
    omega
  have e1 : (win0_2.blk t).view.emb y 1 = (⟨(y 1).val, by omega⟩ : Fin 4096) := by
    refine Fin.ext ?_
    show _ = (y 1).val
    blk_simp [index2]
  refine (congrArg (out0_2 _ _) e).trans ((out_apply _ _ (y 0) (y 1)).trans (Eq.trans ?_ (congrArg₂ (out _ _) e0 e1).symm))
  exact (congrArg (normed · _ _) (funext fun k => block0 m c t (y 0) k)).trans (congrArg (normed _ · _) (block1 m c t (y 1)))

end Kernel

section Reference

open Cert.PreNormReferenceIdeal Cert.PreNormReferenceIdeal.Gen Cert.PreNormReferenceIdeal.Read

theorem norm_apply (X : Vec Ideal S2x4096x4096 .f32) (g : Vec Ideal S4096 .f32) (b : Fin 2) (s d : Fin 4096) :
    val_main_v12 (F := Ideal) X g (ix3 b s d) = normed (fun k => X (ix3 b s k)) (g (ix1 d)) d := by
  have e : val_main_v1 (F := Ideal) X (ix2 b s) = ∑ k : Fin 4096, X (ix3 b s k) * X (ix3 b s k) := by
    rw [val_main_v1_apply]
    have z : val_main_cst (F := Ideal) (Shape.Idx.first h_S_) = 0 := by
      show Ideal.ofBits .f32 0x00000000#32 = 0
      simp [Ideal.ofBits, Ideal.ieee]
    rw [z, zero_add]
    refine Finset.sum_congr rfl fun k _ => ?_
    rw [val_main_v0_apply]
    have e1 : idx_main_v1 (ix2 b s) k = ix3 b s k := by
      funext a
      match a with
      | ⟨0, _⟩ => rfl
      | ⟨1, _⟩ => rfl
      | ⟨2, _⟩ => rfl
    rw [e1]
    rfl
  pointwise [val_main_v12, val_main_v11, val_main_v10, val_main_v9, val_main_v8, val_main_v7, val_main_v6, val_main_v5, val_main_v4, val_main_v3, val_main_v2, val_main_cst_1, val_main_cst_0]
  rw [e]
  rfl

theorem reference_apply (X : Vec Ideal S2x4096x4096 .f32) (g : Vec Ideal S4096 .f32) (R : Fin 8192) (C : Fin 4096) :
    val_main_v14 (F := Ideal) X g (ix2 R C) = out X g R C := by
  pointwise [val_main_v14, val_main_v13]
  exact norm_apply X g _ _ C

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The kernel's norm is the reference's. -/
theorem algebraic : Cert.algebraic_PreNormIdeal_PreNormReferenceIdeal := by
  intro m ρ m' ρ' _ hargs
  refine ⟨fun c => (Cert.PreNormIdeal.Gen.dats m 0 c).arrAt 2 Cert.PreNormIdeal.cfg0.N, Cert.PreNormIdeal.Value.run_blocks (F := Ideal) m ρ, ?_⟩
  refine (θ_run (Cert.PreNormReferenceIdeal.defs (F := Ideal)) _ _).mono (fun r h c => ⟨(h c).1.trans ?_, (h c).2⟩)
    (Cert.PreNormReferenceIdeal.Value.run (F := Ideal) m' ρ')
  refine Eq.trans ?_ (final_array m c).symm
  refine (Cert.PreNormReferenceIdeal.Read.val_main_v14_eq _ _).trans ?_
  rw [(hargs c).1, (hargs c).2]
  funext i
  exact (congrArg _ (eq_ix2 (n0 := 8192) (n1 := 4096) i)).trans (reference_apply _ _ (i 0) (i 1))

end Cert.Layer.PreNorm

end
-- ==== Proof.Layer.PostNorm.lean ====
/- The residual plus the norm of a layer's output: the kernel's rows are the reference's, at every index. -/
module

public import proofs.«01_k».proof.Defs
public import proofs.«01_k».proof.Proof.Gen.PostNormIdeal.Value
public import proofs.«01_k».proof.Proof.Gen.PostNormReferenceIdeal.Read
public import proofs.«01_k».proof.Proof.Layer.PreNorm
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.PostNorm

open Idealize.ShloMosaic Idealize.ShloMosaic.TcCoe Idealize.SL.Sem

set_option maxRecDepth 16384

/-- Row `R` of the residual at column `C`, plus the norm of the output's row there. -/
def out (X Y : (⟨3, ![2, 4096, 4096]⟩ : Shape).Idx → EReal) (g : (⟨1, ![4096]⟩ : Shape).Idx → EReal) (R : Fin 8192) (C : Fin 4096) : EReal :=
  rows X R C + normed (rows Y R) (g (ix1 C)) C

section Kernel

open Cert.PostNormIdeal Cert.PostNormIdeal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

theorem point_lt (t : Fin cfg0.N) : t.val < 32 := t.isLt

theorem V_residual : V m c main_v0 = shapeCast S8192x4096 (m ((c : Thread nD τ).loc main_arg0)) shapeCasts_S2x4096x4096_S8192x4096 := by
  rfl

theorem V_output : V m c main_v1 = shapeCast S8192x4096 (m ((c : Thread nD τ).loc main_arg1)) shapeCasts_S2x4096x4096_S8192x4096 := by
  rfl

theorem V_gain : V m c main_v2 = shapeCast S1x4096 (m ((c : Thread nD τ).loc main_arg2)) shapeCasts_S4096_S1x4096 := by
  rfl

theorem block0 (t : Fin cfg0.N) (r : Fin 256) (k : Fin 4096) :
    iblk m c 0 t (ix2 r k) = rows (m ((c : Thread nD τ).loc main_arg0)) ⟨256 * t.val + r.val, by have := point_lt t; omega⟩ k := by
  refine Eq.trans ?_ (PreNorm.input_apply _ _ _)
  blk_simp [iblk]
  rw [V_residual]
  refine congrArg (shapeCast S8192x4096 _ _) ?_
  blk_ext [index0]

theorem block1 (t : Fin cfg0.N) (r : Fin 256) (k : Fin 4096) :
    iblk m c 1 t (ix2 r k) = rows (m ((c : Thread nD τ).loc main_arg1)) ⟨256 * t.val + r.val, by have := point_lt t; omega⟩ k := by
  refine Eq.trans ?_ (PreNorm.input_apply _ _ _)
  blk_simp [iblk]
  rw [V_output]
  refine congrArg (shapeCast S8192x4096 _ _) ?_
  blk_ext [index1]

theorem block2 (t : Fin cfg0.N) (k : Fin 4096) : iblk m c 2 t (ix2 0 k) = (m ((c : Thread nD τ).loc main_arg2)) (ix1 k) := by
  refine Eq.trans ?_ (PreNorm.gain_apply _ _)
  blk_simp [iblk]
  rw [V_gain]
  refine congrArg (shapeCast S1x4096 _ _) ?_
  blk_ext [index2]

theorem out_apply (x0 x1 : Vec Ideal S256x4096 .f32) (x2 : Vec Ideal S1x4096 .f32) (r : Fin 256) (d : Fin 4096) :
    out0_3 x0 x1 x2 (ix2 r d) = x0 (ix2 r d) + normed (fun k => x1 (ix2 r k)) (x2 (ix2 0 d)) d := by
  refine (congrFun (View.canon_cons_unit_lit _ _ _ (by decide)) _).trans ?_
  rw [View.ld_unit_lit _ _ (by decide), View.ld_unit_lit _ _ (by decide), View.ld_unit_lit _ _ (by decide)]
  pointwise [k0_pay1]
  rfl

/-- The whole array after the run. -/
theorem final_array : (dats m 0 c).arrAt 3 cfg0.N
    = fun i => out (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  have e : y = ix2 (n0 := 256) (n1 := 4096) (y 0) (y 1) := eq_ix2 (n0 := 256) (n1 := 4096) y
  have h0 : (y 0).val < 256 := (y 0).isLt
  have h1 : (y 1).val < 4096 := (y 1).isLt
  have ht := point_lt t
  have e0 : (win0_3.blk t).view.emb y 0 = (⟨256 * t.val + (y 0).val, by omega⟩ : Fin 8192) := by
    refine Fin.ext ?_
    show _ = 256 * t.val + (y 0).val
    blk_simp [index3]
    omega
  have e1 : (win0_3.blk t).view.emb y 1 = (⟨(y 1).val, by omega⟩ : Fin 4096) := by
    refine Fin.ext ?_
    show _ = (y 1).val
    blk_simp [index3]
  refine (congrArg (out0_3 _ _ _) e).trans ((out_apply _ _ _ (y 0) (y 1)).trans (Eq.trans ?_ (congrArg₂ (out _ _ _) e0 e1).symm))
  exact congrArg₂ (fun a b : EReal => a + b) (block0 m c t (y 0) (y 1))
    ((congrArg (normed · _ _) (funext fun k => block1 m c t (y 0) k)).trans (congrArg (normed _ · _) (block2 m c t (y 1))))

end Kernel

section Reference

open Cert.PostNormReferenceIdeal Cert.PostNormReferenceIdeal.Gen Cert.PostNormReferenceIdeal.Read

theorem sum_apply (X Y : Vec Ideal S2x4096x4096 .f32) (g : Vec Ideal S4096 .f32) (b : Fin 2) (s d : Fin 4096) :
    val_main_v13 (F := Ideal) X Y g (ix3 b s d) = X (ix3 b s d) + normed (fun k => Y (ix3 b s k)) (g (ix1 d)) d :=
  congrArg (fun a : EReal => X (ix3 b s d) + a) (PreNorm.norm_apply Y g b s d)

theorem reference_apply (X Y : Vec Ideal S2x4096x4096 .f32) (g : Vec Ideal S4096 .f32) (R : Fin 8192) (C : Fin 4096) :
    val_main_v14 (F := Ideal) X Y g (ix2 R C) = out X Y g R C := by
  pointwise [val_main_v14]
  exact sum_apply X Y g _ _ C

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The kernel's sum is the reference's. -/
theorem algebraic : Cert.algebraic_PostNormIdeal_PostNormReferenceIdeal := by
  intro m ρ m' ρ' _ hargs
  refine ⟨fun c => (Cert.PostNormIdeal.Gen.dats m 0 c).arrAt 3 Cert.PostNormIdeal.cfg0.N, Cert.PostNormIdeal.Value.run_blocks (F := Ideal) m ρ, ?_⟩
  refine (θ_run (Cert.PostNormReferenceIdeal.defs (F := Ideal)) _ _).mono (fun r h c => ⟨(h c).1.trans ?_, (h c).2⟩)
    (Cert.PostNormReferenceIdeal.Value.run (F := Ideal) m' ρ')
  refine Eq.trans ?_ (final_array m c).symm
  refine (Cert.PostNormReferenceIdeal.Read.val_main_v14_eq _ _ _).trans ?_
  rw [(hargs c).1, (hargs c).2.1, (hargs c).2.2]
  funext i
  exact (congrArg _ (eq_ix2 (n0 := 8192) (n1 := 4096) i)).trans (reference_apply _ _ _ (i 0) (i 1))

end Cert.Layer.PostNorm

end
-- ==== Proof.Layer.PostPreNorm.lean ====
/- The residual plus the norm of a layer's output, and the norm of that sum: the kernel's rows are the reference's, at every index. -/
module

public import proofs.«01_k».proof.Defs
public import proofs.«01_k».proof.Proof.Gen.PostPreNormIdeal.Value
public import proofs.«01_k».proof.Proof.Gen.PostPreNormReferenceIdeal.Read
public import proofs.«01_k».proof.Proof.Layer.PostNorm
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.PostPreNorm

open Idealize.ShloMosaic Idealize.ShloMosaic.TcCoe Idealize.SL.Sem

set_option maxRecDepth 16384

/-- The norm of row `R` of the sum at column `C`. -/
def next (X Y : (⟨3, ![2, 4096, 4096]⟩ : Shape).Idx → EReal) (g g' : (⟨1, ![4096]⟩ : Shape).Idx → EReal) (R : Fin 8192) (C : Fin 4096) : EReal :=
  normed (PostNorm.out X Y g R) (g' (ix1 C)) C

section Kernel

open Cert.PostPreNormIdeal Cert.PostPreNormIdeal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem point_lt (t : Fin cfg0.N) : t.val < 32 := t.isLt

theorem V_residual : V m c main_v0 = shapeCast S8192x4096 (m ((c : Thread nD τ).loc main_arg0)) shapeCasts_S2x4096x4096_S8192x4096 := by
  rfl

theorem V_output : V m c main_v1 = shapeCast S8192x4096 (m ((c : Thread nD τ).loc main_arg1)) shapeCasts_S2x4096x4096_S8192x4096 := by
  rfl

theorem V_gain : V m c main_v2 = shapeCast S1x4096 (m ((c : Thread nD τ).loc main_arg2)) shapeCasts_S4096_S1x4096 := by
  rfl

theorem V_gain' : V m c main_v3 = shapeCast S1x4096 (m ((c : Thread nD τ).loc main_arg3)) shapeCasts_S4096_S1x4096 := by
  rfl

theorem block0 (t : Fin cfg0.N) (r : Fin 256) (k : Fin 4096) :
    iblk m c 0 t (ix2 r k) = rows (m ((c : Thread nD τ).loc main_arg0)) ⟨256 * t.val + r.val, by have := point_lt t; omega⟩ k := by
  refine Eq.trans ?_ (PreNorm.input_apply _ _ _)
  blk_simp [iblk]
  rw [V_residual]
  refine congrArg (shapeCast S8192x4096 _ _) ?_
  blk_ext [index0]

theorem block1 (t : Fin cfg0.N) (r : Fin 256) (k : Fin 4096) :
    iblk m c 1 t (ix2 r k) = rows (m ((c : Thread nD τ).loc main_arg1)) ⟨256 * t.val + r.val, by have := point_lt t; omega⟩ k := by
  refine Eq.trans ?_ (PreNorm.input_apply _ _ _)
  blk_simp [iblk]
  rw [V_output]
  refine congrArg (shapeCast S8192x4096 _ _) ?_
  blk_ext [index1]

theorem block2 (t : Fin cfg0.N) (k : Fin 4096) : iblk m c 2 t (ix2 0 k) = (m ((c : Thread nD τ).loc main_arg2)) (ix1 k) := by
  refine Eq.trans ?_ (PreNorm.gain_apply _ _)
  blk_simp [iblk]
  rw [V_gain]
  refine congrArg (shapeCast S1x4096 _ _) ?_
  blk_ext [index2]

theorem block3 (t : Fin cfg0.N) (k : Fin 4096) : iblk m c 3 t (ix2 0 k) = (m ((c : Thread nD τ).loc main_arg3)) (ix1 k) := by
  refine Eq.trans ?_ (PreNorm.gain_apply _ _)
  blk_simp [iblk]
  rw [V_gain']
  refine congrArg (shapeCast S1x4096 _ _) ?_
  blk_ext [index3]

/-- A block's sum. -/
def sumOf (x0 x1 : Vec Ideal S256x4096 .f32) (x2 : Vec Ideal S1x4096 .f32) (r : Fin 256) (d : Fin 4096) : EReal :=
  x0 (ix2 r d) + normed (fun k => x1 (ix2 r k)) (x2 (ix2 0 d)) d

theorem pay1_apply (x0 x1 : Vec Ideal S256x4096 .f32) (x2 : Vec Ideal S1x4096 .f32) (r : Fin 256) (d : Fin 4096) :
    k0_pay1 x1 x0 x2 (ix2 r d) = sumOf x0 x1 x2 r d := by
  pointwise [k0_pay1]
  rfl

theorem pay2_apply (x0 x1 : Vec Ideal S256x4096 .f32) (x2 x3 : Vec Ideal S1x4096 .f32) (r : Fin 256) (d : Fin 4096) :
    k0_pay2 x1 x0 x2 x3 (ix2 r d) = normed (sumOf x0 x1 x2 r) (x3 (ix2 0 d)) d := by
  rw [← show (fun k => k0_pay1 x1 x0 x2 (ix2 r k)) = sumOf x0 x1 x2 r from funext fun k => pay1_apply x0 x1 x2 r k]
  unfold k0_pay2
  generalize k0_pay1 x1 x0 x2 = s
  pointwise []
  rfl

theorem out4_apply (x0 x1 : Vec Ideal S256x4096 .f32) (x2 x3 : Vec Ideal S1x4096 .f32) (r : Fin 256) (d : Fin 4096) :
    out0_4 x0 x1 x2 x3 (ix2 r d) = sumOf x0 x1 x2 r d := by
  refine (congrFun (View.canon_cons_unit_lit _ _ _ (by decide)) _).trans ?_
  rw [View.ld_unit_lit _ _ (by decide), View.ld_unit_lit _ _ (by decide), View.ld_unit_lit _ _ (by decide)]
  exact pay1_apply x0 x1 x2 r d

theorem out5_apply (x0 x1 : Vec Ideal S256x4096 .f32) (x2 x3 : Vec Ideal S1x4096 .f32) (r : Fin 256) (d : Fin 4096) :
    out0_5 x0 x1 x2 x3 (ix2 r d) = normed (sumOf x0 x1 x2 r) (x3 (ix2 0 d)) d := by
  refine (congrFun (View.canon_cons_unit_lit _ _ _ (by decide)) _).trans ?_
  rw [View.ld_unit_lit _ _ (by decide), View.ld_unit_lit _ _ (by decide), View.ld_unit_lit _ _ (by decide), View.ld_unit_lit _ _ (by decide)]
  exact pay2_apply x0 x1 x2 x3 r d

/-- A point's sum is the rows' sum. -/
theorem sum_block (t : Fin cfg0.N) (r : Fin 256) (d : Fin 4096) : sumOf (iblk m c 0 t) (iblk m c 1 t) (iblk m c 2 t) r d
    = PostNorm.out (m ((c : Thread nD τ).loc main_arg0)) (m ((c : Thread nD τ).loc main_arg1)) (m ((c : Thread nD τ).loc main_arg2))
        ⟨256 * t.val + r.val, by have := point_lt t; omega⟩ d :=
  congrArg₂ (fun a b : EReal => a + b) (block0 m c t r d)
    ((congrArg (normed · _ _) (funext fun k => block1 m c t r k)).trans (congrArg (normed _ · _) (block2 m c t d)))

/-- The whole sum after the run. -/
theorem final_sum : (dats m 0 c).arrAt 4 cfg0.N
    = fun i => PostNorm.out (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  have e : y = ix2 (n0 := 256) (n1 := 4096) (y 0) (y 1) := eq_ix2 (n0 := 256) (n1 := 4096) y
  have h0 : (y 0).val < 256 := (y 0).isLt
  have h1 : (y 1).val < 4096 := (y 1).isLt
  have ht := point_lt t
  have e0 : (win0_4.blk t).view.emb y 0 = (⟨256 * t.val + (y 0).val, by omega⟩ : Fin 8192) := by
    refine Fin.ext ?_
    show _ = 256 * t.val + (y 0).val
    blk_simp [index4]
    omega
  have e1 : (win0_4.blk t).view.emb y 1 = (⟨(y 1).val, by omega⟩ : Fin 4096) := by
    refine Fin.ext ?_
    show _ = (y 1).val
    blk_simp [index4]
  refine (congrArg (out0_4 _ _ _ _) e).trans ((out4_apply _ _ _ _ (y 0) (y 1)).trans (Eq.trans ?_ (congrArg₂ (PostNorm.out _ _ _) e0 e1).symm))
  exact sum_block m c t (y 0) (y 1)

/-- The whole norm of the sum after the run. -/
theorem final_next : (dats m 0 c).arrAt 5 cfg0.N
    = fun i => next (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  have e : y = ix2 (n0 := 256) (n1 := 4096) (y 0) (y 1) := eq_ix2 (n0 := 256) (n1 := 4096) y
  have h0 : (y 0).val < 256 := (y 0).isLt
  have h1 : (y 1).val < 4096 := (y 1).isLt
  have ht := point_lt t
  have e0 : (win0_5.blk t).view.emb y 0 = (⟨256 * t.val + (y 0).val, by omega⟩ : Fin 8192) := by
    refine Fin.ext ?_
    show _ = 256 * t.val + (y 0).val
    blk_simp [index5]
    omega
  have e1 : (win0_5.blk t).view.emb y 1 = (⟨(y 1).val, by omega⟩ : Fin 4096) := by
    refine Fin.ext ?_
    show _ = (y 1).val
    blk_simp [index5]
  refine (congrArg (out0_5 _ _ _ _) e).trans ((out5_apply _ _ _ _ (y 0) (y 1)).trans (Eq.trans ?_ (congrArg₂ (next _ _ _ _) e0 e1).symm))
  exact (congrArg (normed · _ _) (funext fun k => sum_block m c t (y 0) k)).trans (congrArg (normed _ · _) (block3 m c t (y 1)))

end Kernel

section Reference

open Cert.PostPreNormReferenceIdeal Cert.PostPreNormReferenceIdeal.Gen Cert.PostPreNormReferenceIdeal.Read

theorem sum_apply (X Y : Vec Ideal S2x4096x4096 .f32) (g : Vec Ideal S4096 .f32) (R : Fin 8192) (C : Fin 4096) :
    val_main_v14 (F := Ideal) X Y g (ix2 R C) = PostNorm.out X Y g R C :=
  PostNorm.reference_apply X Y g R C

theorem next_apply (X Y : Vec Ideal S2x4096x4096 .f32) (g g' : Vec Ideal S4096 .f32) (R : Fin 8192) (C : Fin 4096) :
    val_main_v29 (F := Ideal) X Y g g' (ix2 R C) = next X Y g g' R C := by
  refine (PreNorm.reference_apply (val_main_v13 (F := Ideal) X Y g) g' R C).trans (congrArg (normed · _ _) (funext fun k => ?_))
  exact PostNorm.sum_apply X Y g _ _ k

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run (defs (F := Ideal)) _ _).mono (fun r h => ⟨fun c => (h c).2.2, sem_eq_zero_of_no_sems (by decide) r.2⟩)
    (Value.run (F := Ideal) m ρ)

end Reference

/-- The kernel's two results are the reference's. -/
theorem algebraic : Cert.algebraic_PostPreNormIdeal_PostPreNormReferenceIdeal := by
  intro m ρ m' ρ' _ hargs
  refine ⟨fun c => (Cert.PostPreNormIdeal.Gen.dats m 0 c).arrAt 4 Cert.PostPreNormIdeal.cfg0.N,
    fun c => (Cert.PostPreNormIdeal.Gen.dats m 0 c).arrAt 5 Cert.PostPreNormIdeal.cfg0.N, Cert.PostPreNormIdeal.Value.run_blocks (F := Ideal) m ρ, ?_⟩
  refine (θ_run (Cert.PostPreNormReferenceIdeal.defs (F := Ideal)) _ _).mono
    (fun r h c => ⟨(h c).1.trans (Eq.trans ?_ (final_sum m c).symm), (h c).2.1.trans (Eq.trans ?_ (final_next m c).symm), (h c).2.2⟩)
    (Cert.PostPreNormReferenceIdeal.Value.run (F := Ideal) m' ρ')
  · refine (Cert.PostPreNormReferenceIdeal.Read.val_main_v14_eq _ _ _).trans ?_
    rw [(hargs c).1, (hargs c).2.1, (hargs c).2.2.1]
    funext i
    exact (congrArg _ (eq_ix2 (n0 := 8192) (n1 := 4096) i)).trans (sum_apply _ _ _ (i 0) (i 1))
  · refine (Cert.PostPreNormReferenceIdeal.Read.val_main_v29_eq _ _ _ _).trans ?_
    rw [(hargs c).1, (hargs c).2.1, (hargs c).2.2.1, (hargs c).2.2.2]
    funext i
    exact (congrArg _ (eq_ix2 (n0 := 8192) (n1 := 4096) i)).trans (next_apply _ _ _ _ (i 0) (i 1))

end Cert.Layer.PostPreNorm

end
-- ==== Proof.Layer.Scan.lean ====
/- Running sums within chunks of 64, built by doubling: each step adds the value some places back (or ahead) where the
   chunk reaches that far, and six steps give the whole sum. -/
module

public import proofs.«01_k».proof.Proof.Gen.DeltaGatesIdeal.Frame
public import Idealize.ShloMosaic.Lib.Pointwise
public import Idealize.ShloMosaic.Lib.KernelVsHost

@[expose] public section

noncomputable section

namespace Cert.Layer.Scan

open Idealize.ShloMosaic

/-- The sum of the last `2 ^ k` values up to position `s`, none from before the chunk's start. -/
def back (f : ℕ → EReal) (k s : ℕ) : EReal := ∑ j ∈ Finset.range (min (2 ^ k) (s % 64 + 1)), f (s - j)

/-- The sum of the next `2 ^ k` values from position `s`, none from after the chunk's end. -/
def ahead (f : ℕ → EReal) (k s : ℕ) : EReal := ∑ j ∈ Finset.range (min (2 ^ k) (64 - s % 64)), f (s + j)

theorem back_zero (f : ℕ → EReal) (s : ℕ) : back f 0 s = f s := by
  have h : min (2 ^ 0) (s % 64 + 1) = 1 := by omega
  simp only [back, h, Finset.sum_range_one, Nat.sub_zero]

theorem ahead_zero (f : ℕ → EReal) (s : ℕ) : ahead f 0 s = f s := by
  have h : min (2 ^ 0) (64 - s % 64) = 1 := by omega
  simp only [ahead, h, Finset.sum_range_one, Nat.add_zero]

theorem back_succ (f : ℕ → EReal) (k s : ℕ) :
    back f (k + 1) s = back f k s + if 2 ^ k ≤ s % 64 then back f k (s - 2 ^ k) else 0 := by
  have hp : 2 ^ (k + 1) = 2 ^ k + 2 ^ k := by rw [pow_succ]; omega
  by_cases h : 2 ^ k ≤ s % 64
  · have e : min (2 ^ (k + 1)) (s % 64 + 1) = 2 ^ k + min (2 ^ k) ((s - 2 ^ k) % 64 + 1) := by omega
    have e' : min (2 ^ k) (s % 64 + 1) = 2 ^ k := by omega
    rw [if_pos h]
    simp only [back]
    rw [e, e', Finset.sum_range_add]
    refine congrArg _ (Finset.sum_congr rfl fun j _ => congrArg f ?_)
    omega
  · have e : min (2 ^ (k + 1)) (s % 64 + 1) = min (2 ^ k) (s % 64 + 1) := by omega
    rw [if_neg h, add_zero]
    simp only [back]
    rw [e]

theorem ahead_succ (f : ℕ → EReal) (k s : ℕ) :
    ahead f (k + 1) s = ahead f k s + if s % 64 < 64 - 2 ^ k then ahead f k (s + 2 ^ k) else 0 := by
  have hp : 2 ^ (k + 1) = 2 ^ k + 2 ^ k := by rw [pow_succ]; omega
  by_cases h : s % 64 < 64 - 2 ^ k
  · have e : min (2 ^ (k + 1)) (64 - s % 64) = 2 ^ k + min (2 ^ k) (64 - (s + 2 ^ k) % 64) := by omega
    have e' : min (2 ^ k) (64 - s % 64) = 2 ^ k := by omega
    rw [if_pos h]
    simp only [ahead]
    rw [e, e', Finset.sum_range_add]
    refine congrArg _ (Finset.sum_congr rfl fun j _ => congrArg f ?_)
    omega
  · have e : min (2 ^ (k + 1)) (64 - s % 64) = min (2 ^ k) (64 - s % 64) := by omega
    rw [if_neg h, add_zero]
    simp only [ahead]
    rw [e]

/-- After six steps the sum runs from the chunk's start. -/
theorem back_six (f : ℕ → EReal) (s : ℕ) : back f 6 s = ∑ j ∈ Finset.range (s % 64 + 1), f (s - j) := by
  have h : min (2 ^ 6) (s % 64 + 1) = s % 64 + 1 := by omega
  simp only [back, h]

/-- After six steps the sum runs to the chunk's end. -/
theorem ahead_six (f : ℕ → EReal) (s : ℕ) : ahead f 6 s = ∑ j ∈ Finset.range (64 - s % 64), f (s + j) := by
  have h : min (2 ^ 6) (64 - s % 64) = 64 - s % 64 := by omega
  simp only [ahead, h]

/-- One doubling step on a vector: where the mask holds, the rotated vector is added. -/
def step (s : Shape) (a : Fin s.rank) (n : BitVec 32) (h : s.Rotates a none) (mask : IVec s 1) (x : FVec Ideal s .f32) :
    FVec Ideal s .f32 :=
  addf x (select mask (dynamicRotate a n none x h) (broadcast s (Scalar.ofBits .f32 0x00000000#32)))

theorem zero_eq : (Scalar.ofBits .f32 0x00000000#32 : Ideal .f32) = (0 : EReal) := by
  show Ideal.ofBits .f32 0x00000000#32 = 0
  simp [Ideal.ofBits, Ideal.ieee]

/-- One doubling step read at an index. -/
theorem step_apply (s : Shape) (a : Fin s.rank) (n : BitVec 32) (h : s.Rotates a none) (mask : IVec s 1) (x : FVec Ideal s .f32)
    (j k : s.Idx) (p : Prop) [Decidable p] (hm : mask j = 1#1 ↔ p)
    (hk : p → ∀ b : Fin s.rank, (k b).val = if b = a then ((j b).val + s.size b - n.toNat % s.size b) % s.size b else (j b).val) :
    step s a n h mask x j = (x j + if p then x k else 0 : EReal) := by
  show (x j + (if mask j = 1#1 then dynamicRotate a n none x h j else (Scalar.ofBits .f32 0x00000000#32 : Ideal .f32)) : EReal) = _
  refine congrArg (fun b : EReal => (x j + b : EReal)) ?_
  by_cases hp : p
  · rw [if_pos (hm.2 hp), if_pos hp]; exact dynamicRotate_apply a n x h j k (hk hp)
  · rw [if_neg fun hc => hp (hm.1 hc), if_neg hp]; exact zero_eq

section Gates

open Cert.DeltaGatesIdeal Cert.DeltaGatesIdeal.Gen

/-- A row's place in its chunk. -/
theorem place_col (r : Fin 256) (c : Fin 128) : k0_pay5 (ix2 r c) = BitVec.ofNat 32 (r.val % 64) := by
  pointwise [k0_pay5]
  revert r
  decide +kernel

/-- A column's place in its chunk. -/
theorem place_row (h : Fin 16) (r : Fin 256) : k0_pay14 (ix2 h r) = BitVec.ofNat 32 (r.val % 64) := by
  pointwise [k0_pay14]
  revert r
  decide +kernel

theorem sge_iff : ∀ k : Fin 6, ∀ p : Fin 64, IntOp.cmpi .sge (BitVec.ofNat 32 p.val) (BitVec.ofNat 32 (2 ^ k.val)) = 1#1 ↔ 2 ^ k.val ≤ p.val := by
  decide +kernel

theorem slt_iff : ∀ k : Fin 6, ∀ p : Fin 64, IntOp.cmpi .slt (BitVec.ofNat 32 p.val) (BitVec.ofNat 32 (64 - 2 ^ k.val)) = 1#1 ↔ p.val < 64 - 2 ^ k.val := by
  decide +kernel

theorem pow_facts : ∀ k : Fin 6, 2 ^ k.val ≤ 32 ∧ 1 ≤ 2 ^ k.val := by decide

/-- A step down the rows. -/
theorem back_col (k : Fin 6) (x : FVec Ideal S256x128 .f32) (f : Fin 128 → ℕ → EReal)
    (hx : ∀ r c, x (ix2 r c) = back (f c) k.val r.val) (r : Fin 256) (c : Fin 128) :
    step S256x128 0 (BitVec.ofNat 32 (2 ^ k.val)) rotates_S256x128_d0 (cmpi .sge k0_pay5 (broadcast S256x128 (BitVec.ofNat 32 (2 ^ k.val)))) x (ix2 r c)
      = back (f c) (k.val + 1) r.val := by
  have hk := pow_facts k
  have ht : (BitVec.ofNat 32 (2 ^ k.val)).toNat = 2 ^ k.val := by rw [BitVec.toNat_ofNat]; omega
  refine (step_apply _ _ _ _ _ _ _ (ix2 (n0 := 256) (n1 := 128) ⟨r.val - 2 ^ k.val, by omega⟩ c) (2 ^ k.val ≤ r.val % 64) ?_ ?_).trans ?_
  · show IntOp.cmpi .sge (k0_pay5 (ix2 r c)) _ = 1#1 ↔ _
    rw [place_col]
    exact sge_iff k ⟨r.val % 64, by omega⟩
  · intro hp b
    fin_cases b
    · show r.val - 2 ^ k.val = (r.val + 256 - (BitVec.ofNat 32 (2 ^ k.val)).toNat % 256) % 256
      rw [ht]; omega
    · rfl
  · rw [hx, hx, back_succ]

/-- A step up the rows. -/
theorem ahead_col (k : Fin 6) (x : FVec Ideal S256x128 .f32) (f : Fin 128 → ℕ → EReal)
    (hx : ∀ r c, x (ix2 r c) = ahead (f c) k.val r.val) (r : Fin 256) (c : Fin 128) :
    step S256x128 0 (BitVec.ofNat 32 (256 - 2 ^ k.val)) rotates_S256x128_d0 (cmpi .slt k0_pay5 (broadcast S256x128 (BitVec.ofNat 32 (64 - 2 ^ k.val)))) x (ix2 r c)
      = ahead (f c) (k.val + 1) r.val := by
  have hk := pow_facts k
  have ht : (BitVec.ofNat 32 (256 - 2 ^ k.val)).toNat = 256 - 2 ^ k.val := by rw [BitVec.toNat_ofNat]; omega
  by_cases hp : r.val % 64 < 64 - 2 ^ k.val
  · refine (step_apply _ _ _ _ _ _ _ (ix2 (n0 := 256) (n1 := 128) ⟨r.val + 2 ^ k.val, by omega⟩ c) (r.val % 64 < 64 - 2 ^ k.val) ?_ ?_).trans ?_
    · show IntOp.cmpi .slt (k0_pay5 (ix2 r c)) _ = 1#1 ↔ _
      rw [place_col]
      exact slt_iff k ⟨r.val % 64, by omega⟩
    · intro hp b
      fin_cases b
      · show r.val + 2 ^ k.val = (r.val + 256 - (BitVec.ofNat 32 (256 - 2 ^ k.val)).toNat % 256) % 256
        rw [ht]; omega
      · rfl
    · rw [hx, hx, ahead_succ]
  · refine (step_apply _ _ _ _ _ _ _ (ix2 r c) (r.val % 64 < 64 - 2 ^ k.val) ?_ fun h => absurd h hp).trans ?_
    · show IntOp.cmpi .slt (k0_pay5 (ix2 r c)) _ = 1#1 ↔ _
      rw [place_col]
      exact slt_iff k ⟨r.val % 64, by omega⟩
    · rw [hx, ahead_succ, if_neg hp, if_neg hp]

/-- A step along the columns. -/
theorem back_row (k : Fin 6) (x : FVec Ideal S16x256 .f32) (f : Fin 16 → ℕ → EReal)
    (hx : ∀ h r, x (ix2 h r) = back (f h) k.val r.val) (h : Fin 16) (r : Fin 256) :
    step S16x256 1 (BitVec.ofNat 32 (2 ^ k.val)) rotates_S16x256_d1 (cmpi .sge k0_pay14 (broadcast S16x256 (BitVec.ofNat 32 (2 ^ k.val)))) x (ix2 h r)
      = back (f h) (k.val + 1) r.val := by
  have hk := pow_facts k
  have ht : (BitVec.ofNat 32 (2 ^ k.val)).toNat = 2 ^ k.val := by rw [BitVec.toNat_ofNat]; omega
  refine (step_apply _ _ _ _ _ _ _ (ix2 (n0 := 16) (n1 := 256) h ⟨r.val - 2 ^ k.val, by omega⟩) (2 ^ k.val ≤ r.val % 64) ?_ ?_).trans ?_
  · show IntOp.cmpi .sge (k0_pay14 (ix2 h r)) _ = 1#1 ↔ _
    rw [place_row]
    exact sge_iff k ⟨r.val % 64, by omega⟩
  · intro hp b
    fin_cases b
    · rfl
    · show r.val - 2 ^ k.val = (r.val + 256 - (BitVec.ofNat 32 (2 ^ k.val)).toNat % 256) % 256
      rw [ht]; omega
  · rw [hx, hx, back_succ]

end Gates

end Cert.Layer.Scan

end
-- ==== Proof.Layer.GateColumns.lean ====
/- The decay gates' kernel: what each block of each output holds, and the whole arrays after the run. -/
module

public import proofs.«01_k».proof.Defs
public import proofs.«01_k».proof.Proof.Layer.Scan
public import Idealize.ShloMosaic.Adequacy
public import Idealize.ShloMosaic.Init
public import Idealize.ShloMosaic.Lib.Pipeline.ValueKit
public import Idealize.ShloMosaic.Lib.StableHlo.ReadAt

@[expose] public section

noncomputable section

namespace Cert.Layer.Gates

open Idealize.ShloMosaic Idealize.ShloMosaic.TcCoe Idealize.SL.Sem Cert.Layer.Scan

set_option maxRecDepth 16384

/-- The logarithm of one head's decay at one token: minus `exp a` times the softplus of `x + d`. -/
def gate (a d x : EReal) : EReal :=
  -Ideal.exp a * (max (x + d) 0 + Ideal.log1p (Ideal.exp (-max (x + d) (-(x + d)))))

/-- A function of the first `n` numbers, zero beyond them. -/
def upTo (n : ℕ) (f : Fin n → EReal) (k : ℕ) : EReal := if h : k < n then f ⟨k, h⟩ else 0

theorem upTo_lt (n : ℕ) (f : Fin n → EReal) (k : ℕ) (h : k < n) : upTo n f k = f ⟨k, h⟩ := dif_pos h

open Cert.DeltaGatesIdeal Cert.DeltaGatesIdeal.Gen

section Block

variable (x0 : Vec Ideal S256x128 .f32) (x1 : Vec Ideal S16x256 .f32) (x2 x3 : Vec Ideal S1x128 .f32) (x4 x5 : Vec Ideal S16x1 .f32)

/-- A block's gates, a head to a column. -/
def colGate (c : Fin 128) : ℕ → EReal := upTo 256 fun r => gate (x2 (ix2 0 c)) (x3 (ix2 0 c)) (x0 (ix2 r c))

/-- A block's gates, a head to a row. -/
def rowGate (h : Fin 16) : ℕ → EReal := upTo 256 fun r => gate (x4 (ix2 h 0)) (x5 (ix2 h 0)) (x1 (ix2 h r))

theorem col_apply (r : Fin 256) (c : Fin 128) : k0_pay4 x0 x2 x3 (ix2 r c) = colGate x0 x2 x3 c r.val := by
  rw [colGate, upTo_lt _ _ _ r.isLt]
  pointwise [k0_pay4, k0_pay2]
  simp only [gate, zero_sub]
  rfl

theorem beta_apply (r : Fin 256) (c : Fin 128) : out0_6 x0 x1 x2 x3 x4 x5 (ix2 r c) = Ideal.logistic (x0 (ix2 r c)) := by
  refine (congrFun (View.canon_cons_unit_lit _ _ _ (by decide)) _).trans ?_
  rw [View.ld_unit_lit _ _ (by decide)]
  pointwise [k0_pay3, k0_pay2]

/-- The sums back to the chunk's start, down the rows. -/
theorem gc_apply (r : Fin 256) (c : Fin 128) : out0_7 x0 x1 x2 x3 x4 x5 (ix2 r c) = back (colGate x0 x2 x3 c) 6 r.val := by
  refine (congrFun (View.canon_cons_unit_lit _ _ _ (by decide)) _).trans ?_
  rw [show k0_pay17 x0 x1 x2 x3 x4 x5 = k0_pay4 x0 x2 x3 by
    unfold k0_pay17; rw [View.ld_unit_lit _ _ (by decide), View.ld_unit_lit _ _ (by decide), View.ld_unit_lit _ _ (by decide)]]
  exact back_col 5 _ _ (back_col 4 _ _ (back_col 3 _ _ (back_col 2 _ _ (back_col 1 _ _ (back_col 0 _ _
    (fun r c => (col_apply x0 x2 x3 r c).trans (back_zero _ _).symm)))))) r c

/-- The sums on to the chunk's end, without the row's own gate. -/
theorem tail_apply (r : Fin 256) (c : Fin 128) :
    out0_8 x0 x1 x2 x3 x4 x5 (ix2 r c) = ahead (colGate x0 x2 x3 c) 6 r.val - colGate x0 x2 x3 c r.val := by
  refine (congrFun (View.canon_cons_unit_lit _ _ _ (by decide)) _).trans ?_
  rw [show k0_pay17 x0 x1 x2 x3 x4 x5 = k0_pay4 x0 x2 x3 by
    unfold k0_pay17; rw [View.ld_unit_lit _ _ (by decide), View.ld_unit_lit _ _ (by decide), View.ld_unit_lit _ _ (by decide)]]
  exact congrArg₂ (fun a b : EReal => a - b) (ahead_col 5 _ _ (ahead_col 4 _ _ (ahead_col 3 _ _ (ahead_col 2 _ _ (ahead_col 1 _ _ (ahead_col 0 _ _
    (fun r c => (col_apply x0 x2 x3 r c).trans (ahead_zero _ _).symm)))))) r c) (col_apply x0 x2 x3 r c)

/-- The gates along the columns, before any step. -/
def rowGates (x1 : Vec Ideal S16x256 .f32) (x4 x5 : Vec Ideal S16x1 .f32) : FVec Ideal S16x256 .f32 := fun i =>
  rowGate x1 x4 x5 ⟨(i 0).val, (i 0).isLt⟩ (i 1).val

theorem pay15_eq : k0_pay15 x4 x1 x5
    = step S16x256 1 1#32 rotates_S16x256_d1 (cmpi .sge k0_pay14 (broadcast S16x256 1#32)) (rowGates x1 x4 x5) := by
  unfold k0_pay15
  refine congrArg (step S16x256 1 1#32 rotates_S16x256_d1 (cmpi .sge k0_pay14 (broadcast S16x256 1#32))) (funext fun i => ?_)
  obtain ⟨h, r, rfl⟩ : ∃ (h : Fin 16) (r : Fin 256), i = ix2 h r := ⟨i 0, i 1, eq_ix2 (n0 := 16) (n1 := 256) i⟩
  refine Eq.trans ?_ (show rowGate x1 x4 x5 h r.val = _ from upTo_lt _ _ _ r.isLt).symm
  pointwise []
  simp only [gate, zero_sub]
  rfl

/-- The sums back to the chunk's start, along the columns. -/
theorem gcrow_apply (h : Fin 16) (r : Fin 256) : out0_9 x0 x1 x2 x3 x4 x5 (ix2 h r) = back (rowGate x1 x4 x5 h) 6 r.val := by
  refine (congrFun (View.canon_cons_unit_lit _ _ _ (by decide)) _).trans ?_
  rw [View.ld_unit_lit _ _ (by decide), View.ld_unit_lit _ _ (by decide), View.ld_unit_lit _ _ (by decide),
    show k0_pay13 x4 = x4 from by unfold k0_pay13; exact shapeCast_self _ _, pay15_eq]
  exact back_row 5 _ _ (back_row 4 _ _ (back_row 3 _ _ (back_row 2 _ _ (back_row 1 _ _ (back_row 0 _ _
    (fun h r => (back_zero _ _).symm)))))) h r

end Block

variable (m : (ℓ : Loc nD τ sig) → Buf (Elt Ideal) ℓ) (c : Dev nD)

theorem index0 : ∀ t : Fin cfg0.N, win0_0.index t = ![t.val, 100] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, t.val] := (by decide +kernel : ∀ t : Fin grid0.N, _)

theorem point_lt (t : Fin cfg0.N) : t.val < 32 := t.isLt

theorem block0 (t : Fin cfg0.N) (r : Fin 256) (l : Fin 128) :
    iblk m c 0 t (ix2 r l) = V m c main_v5 (ix2 (n0 := 8192) (n1 := 13312) ⟨256 * t.val + r.val, by have := point_lt t; omega⟩ ⟨12800 + l.val, by omega⟩) := by
  blk_simp [iblk]
  refine congrArg (V m c main_v5) ?_
  blk_ext [index0]

theorem block1 (t : Fin cfg0.N) (h : Fin 16) (r : Fin 256) :
    iblk m c 1 t (ix2 h r) = V m c main_v7 (ix2 (n0 := 16) (n1 := 8192) h ⟨256 * t.val + r.val, by have := point_lt t; omega⟩) := by
  blk_simp [iblk]
  refine congrArg (V m c main_v7) ?_
  blk_ext [index1]

theorem block2 (t : Fin cfg0.N) (l : Fin 128) : iblk m c 2 t (ix2 0 l) = V m c main_v9 (ix2 (n0 := 1) (n1 := 128) 0 l) := by
  blk_simp [iblk]
  refine congrArg (V m c main_v9) ?_
  blk_ext [index2]

theorem block3 (t : Fin cfg0.N) (l : Fin 128) : iblk m c 3 t (ix2 0 l) = V m c main_v11 (ix2 (n0 := 1) (n1 := 128) 0 l) := by
  blk_simp [iblk]
  refine congrArg (V m c main_v11) ?_
  blk_ext [index3]

theorem block4 (t : Fin cfg0.N) (h : Fin 16) : iblk m c 4 t (ix2 h 0) = V m c main_v12 (ix2 (n0 := 16) (n1 := 1) h 0) := by
  blk_simp [iblk]
  refine congrArg (V m c main_v12) ?_
  blk_ext [index4]

theorem block5 (t : Fin cfg0.N) (h : Fin 16) : iblk m c 5 t (ix2 h 0) = V m c main_v13 (ix2 (n0 := 16) (n1 := 1) h 0) := by
  blk_simp [iblk]
  refine congrArg (V m c main_v13) ?_
  blk_ext [index5]

/-- The gates of one lane, by token. -/
def laneGate (l : Fin 128) : ℕ → EReal := upTo 8192 fun R =>
  gate (V m c main_v9 (ix2 (n0 := 1) (n1 := 128) 0 l)) (V m c main_v11 (ix2 (n0 := 1) (n1 := 128) 0 l))
    (V m c main_v5 (ix2 (n0 := 8192) (n1 := 13312) R ⟨12800 + l.val, by omega⟩))

/-- The gates of one head, by token, from the transposed input. -/
def headGate (h : Fin 16) : ℕ → EReal := upTo 8192 fun R =>
  gate (V m c main_v12 (ix2 (n0 := 16) (n1 := 1) h 0)) (V m c main_v13 (ix2 (n0 := 16) (n1 := 1) h 0))
    (V m c main_v7 (ix2 (n0 := 16) (n1 := 8192) h R))

theorem colGate_block (t : Fin cfg0.N) (l : Fin 128) (r : ℕ) (hr : r < 256) :
    colGate (iblk m c 0 t) (iblk m c 2 t) (iblk m c 3 t) l r = laneGate m c l (256 * t.val + r) := by
  have ht := point_lt t
  rw [colGate, upTo_lt _ _ _ hr, laneGate, upTo_lt _ _ _ (by omega), block0, block2, block3]

theorem rowGate_block (t : Fin cfg0.N) (h : Fin 16) (r : ℕ) (hr : r < 256) :
    rowGate (iblk m c 1 t) (iblk m c 4 t) (iblk m c 5 t) h r = headGate m c h (256 * t.val + r) := by
  have ht := point_lt t
  rw [rowGate, upTo_lt _ _ _ hr, headGate, upTo_lt _ _ _ (by omega), block1, block4, block5]

/-- A sum within a block is the sum within the array. -/
theorem back_shift (f g : ℕ → EReal) (t r : ℕ) (h : ∀ n < 256, f n = g (256 * t + n)) (hr : r < 256) : back f 6 r = back g 6 (256 * t + r) := by
  have e : (256 * t + r) % 64 = r % 64 := by omega
  rw [back_six, back_six, e]
  refine Finset.sum_congr rfl fun j hj => ?_
  have := Finset.mem_range.1 hj
  rw [h _ (by omega)]
  exact congrArg g (by omega)

theorem ahead_shift (f g : ℕ → EReal) (t r : ℕ) (h : ∀ n < 256, f n = g (256 * t + n)) (hr : r < 256) : ahead f 6 r = ahead g 6 (256 * t + r) := by
  have e : (256 * t + r) % 64 = r % 64 := by omega
  rw [ahead_six, ahead_six, e]
  refine Finset.sum_congr rfl fun j hj => ?_
  have := Finset.mem_range.1 hj
  rw [h _ (by omega)]
  exact congrArg g (by omega)

/-- The logistic of every lane. -/
theorem beta_array : (dats m 0 c).arrAt 6 cfg0.N
    = fun i => Ideal.logistic (V m c main_v5 (ix2 (n0 := 8192) (n1 := 13312) (i 0) ⟨12800 + (i 1).val, by have : (i 1).val < 128 := (i 1).isLt; omega⟩)) := by
  refine (dats m 0 c).arrAt_eq_of_covers 6 _ (by decide +kernel) fun t hf y => ?_
  blk_simp
  rw [after0_6]
  obtain ⟨r, l, rfl⟩ : ∃ (r : Fin 256) (l : Fin 128), y = ix2 r l := ⟨y 0, y 1, eq_ix2 (n0 := 256) (n1 := 128) y⟩
  refine (beta_apply _ _ _ _ _ _ r l).trans (congrArg Ideal.logistic ((block0 m c t r l).trans (congrArg (V m c main_v5) ?_)))
  refine congrArg₂ (ix2 (n0 := 8192) (n1 := 13312)) (Fin.ext ?_) (Fin.ext ?_)
  · show 256 * t.val + r.val = _
    blk_simp [index6]
    omega
  · show 12800 + l.val = _
    blk_simp [index6]

/-- The running sums of every lane. -/
theorem gc_array : (dats m 0 c).arrAt 7 cfg0.N = fun i => back (laneGate m c (i 1)) 6 (i 0).val := by
  refine (dats m 0 c).arrAt_eq_of_covers 7 _ (by decide +kernel) fun t hf y => ?_
  blk_simp
  rw [after0_7]
  obtain ⟨r, l, rfl⟩ : ∃ (r : Fin 256) (l : Fin 128), y = ix2 r l := ⟨y 0, y 1, eq_ix2 (n0 := 256) (n1 := 128) y⟩
  refine (gc_apply _ _ _ _ _ _ r l).trans ((back_shift _ _ t.val r.val (fun n hn => colGate_block m c t l n hn) r.isLt).trans ?_)
  refine congrArg₂ (fun (l : Fin 128) (R : ℕ) => back (laneGate m c l) 6 R) (Fin.ext ?_) ?_
  · show l.val = _
    blk_simp [index7]
  · show 256 * t.val + r.val = _
    blk_simp [index7]
    omega

/-- What is left of every lane's chunk. -/
theorem tail_array : (dats m 0 c).arrAt 8 cfg0.N = fun i => ahead (laneGate m c (i 1)) 6 (i 0).val - laneGate m c (i 1) (i 0).val := by
  refine (dats m 0 c).arrAt_eq_of_covers 8 _ (by decide +kernel) fun t hf y => ?_
  blk_simp
  rw [after0_8]
  obtain ⟨r, l, rfl⟩ : ∃ (r : Fin 256) (l : Fin 128), y = ix2 r l := ⟨y 0, y 1, eq_ix2 (n0 := 256) (n1 := 128) y⟩
  refine (tail_apply _ _ _ _ _ _ r l).trans ((congrArg₂ (fun a b : EReal => a - b)
    (ahead_shift _ _ t.val r.val (fun n hn => colGate_block m c t l n hn) r.isLt) (colGate_block m c t l r.val r.isLt)).trans ?_)
  refine congrArg₂ (fun (l : Fin 128) (R : ℕ) => ahead (laneGate m c l) 6 R - laneGate m c l R) (Fin.ext ?_) ?_
  · show l.val = _
    blk_simp [index8]
  · show 256 * t.val + r.val = _
    blk_simp [index8]
    omega

/-- The running sums of every head, along the columns. -/
theorem gcrow_array : (dats m 0 c).arrAt 9 cfg0.N = fun i => back (headGate m c (i 0)) 6 (i 1).val := by
  refine (dats m 0 c).arrAt_eq_of_covers 9 _ (by decide +kernel) fun t hf y => ?_
  blk_simp
  rw [after0_9]
  obtain ⟨h, r, rfl⟩ : ∃ (h : Fin 16) (r : Fin 256), y = ix2 h r := ⟨y 0, y 1, eq_ix2 (n0 := 16) (n1 := 256) y⟩
  refine (gcrow_apply _ _ _ _ _ _ h r).trans ((back_shift _ _ t.val r.val (fun n hn => rowGate_block m c t h n hn) r.isLt).trans ?_)
  refine congrArg₂ (fun (h : Fin 16) (R : ℕ) => back (headGate m c h) 6 R) (Fin.ext ?_) ?_
  · show h.val = _
    blk_simp [index9]
  · show 256 * t.val + r.val = _
    blk_simp [index9]
    omega

end Cert.Layer.Gates

end
-- ==== Proof.Layer.GateReference.lean ====
/- The decay gates' reference: its running sums, chunk by chunk, are the same sums the kernel's steps build. -/
module

public import proofs.«01_k».proof.Defs
public import proofs.«01_k».proof.Proof.Gen.DeltaGatesReferenceIdeal.Read
public import proofs.«01_k».proof.Proof.Layer.GateColumns
public import proofs.«01_k».proof.Proof.Layer.Rows
public import Idealize.ShloMosaic.Adequacy
public import Idealize.ShloMosaic.Init

@[expose] public section

noncomputable section

namespace Cert.Layer.Gates

open Idealize.ShloMosaic Idealize.ShloMosaic.TcCoe Idealize.SL.Sem Cert.Layer.Scan

set_option maxRecDepth 16384

/-- One head's gates, by token. -/
def gateAt (P : (⟨3, ![2, 4096, 21024]⟩ : Shape).Idx → EReal) (A D : (⟨1, ![16]⟩ : Shape).Idx → EReal) (h : Fin 16) : ℕ → EReal :=
  upTo 8192 fun R => gate (A (ix1 h)) (D (ix1 h)) (rows P R ⟨12816 + h.val, by omega⟩)

section Reference

open Cert.DeltaGatesReferenceIdeal Cert.DeltaGatesReferenceIdeal.Gen Cert.DeltaGatesReferenceIdeal.Read

theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window of 64 that ends at an entry holds the entries up to it. -/
theorem window_sum (y : ℕ → EReal) (i : ℕ) (hi : i < 64) :
    (∑ w : Fin 64, if 63 ≤ i + w.val then y (i + w.val - 63) else 0) = ∑ j ∈ Finset.range (i + 1), y (i - j) := by
  rw [Fin.sum_univ_eq_sum_range (fun w => if 63 ≤ i + w then y (i + w - 63) else 0) 64, ← Finset.sum_range_reflect]
  symm
  refine (Finset.sum_congr rfl fun j hj => ?_).trans (Finset.sum_subset (Finset.range_subset_range.2 (by omega : i + 1 ≤ 64)) fun j hj hn => ?_)
  · have := Finset.mem_range.1 hj
    rw [if_pos (by omega)]
    exact congrArg y (by omega)
  · have := Finset.mem_range.1 hj
    have : ¬j < i + 1 := fun h => hn (Finset.mem_range.2 h)
    exact if_neg (by omega)

/-- The host's running sum along the last axis, read at an entry. -/
theorem cumsum_apply (x : Vec Ideal S2x16x64x64 .f32) (z : Vec Ideal S_ .f32) (hz : ∀ i, z i = (0 : EReal)) (b : Fin 2) (h : Fin 16) (n i : Fin 64) :
    Host.reduceWindowAdd (F := Ideal) (φ := .f32) ![1, 1, 1, 64] ![1, 1, 1, 1] ![0, 0, 0, 63] ![0, 0, 0, 0] x z
        reduceWindows_S2x16x64x64_S2x16x64x64_w1s1p0_0_w1s1p0_0_w1s1p0_0_w64s1p63_0 h_S_ (ix4 b h n i)
      = ∑ j ∈ Finset.range (i.val + 1), upTo 64 (fun k => x (ix4 b h n k)) (i.val - j) := by
  refine Eq.trans ?_ (window_sum _ i.val i.isLt)
  refine (foldl_sum _ _ _).trans ?_
  rw [hz, zero_add, ← Fin.sum_univ_def]
  refine (Finset.sum_congr rfl fun q _ => ?_).trans ((Equiv.sum_comp (Shape.rowMajor ⟨4, ![1, 1, 1, 64]⟩).symm fun k =>
    if 63 ≤ i.val + (k 3).val then upTo 64 (fun k => x (ix4 b h n k)) (i.val + (k 3).val - 63) else 0).trans ?_)
  · let k : (⟨4, ![1, 1, 1, 64]⟩ : Shape).Idx := (Shape.rowMajor ⟨4, ![1, 1, 1, 64]⟩).symm q
    show _ = if 63 ≤ i.val + (k 3).val then upTo 64 (fun k => x (ix4 b h n k)) (i.val + (k 3).val - 63) else 0
    have k0 : (k 0).val < 1 := (k 0).isLt
    have k1 : (k 1).val < 1 := (k 1).isLt
    have k2 : (k 2).val < 1 := (k 2).isLt
    have k3 : (k 3).val < 64 := (k 3).isLt
    have hb := b.isLt
    have hh := h.isLt
    have hn := n.isLt
    have hi := i.isLt
    by_cases hw : 63 ≤ i.val + (k 3).val
    · rw [if_pos hw, upTo_lt _ _ _ (by omega), dif_pos]
      · refine congrArg x (funext fun a => Fin.ext ?_)
        fin_cases a
        · show b.val * 1 + (k 0).val - 0 = b.val
          omega
        · show h.val * 1 + (k 1).val - 0 = h.val
          omega
        · show n.val * 1 + (k 2).val - 0 = n.val
          omega
        · show i.val * 1 + (k 3).val - 63 = i.val + (k 3).val - 63
          omega
      · intro a
        fin_cases a
        · show 0 ≤ b.val * 1 + (k 0).val ∧ b.val * 1 + (k 0).val - 0 < 2
          omega
        · show 0 ≤ h.val * 1 + (k 1).val ∧ h.val * 1 + (k 1).val - 0 < 16
          omega
        · show 0 ≤ n.val * 1 + (k 2).val ∧ n.val * 1 + (k 2).val - 0 < 64
          omega
        · show 63 ≤ i.val * 1 + (k 3).val ∧ i.val * 1 + (k 3).val - 63 < 64
          omega
    · rw [if_neg hw, dif_neg]
      intro hin
      have h3 : 63 ≤ i.val * 1 + (k 3).val := (hin (3 : Fin 4)).1
      omega
  · rw [sum_idx4]
    simp only [Fin.sum_univ_one, Finset.univ_unique, Finset.sum_singleton]
    rfl

theorem beta_reference (P : Vec Ideal S2x4096x21024 .f32) (R : Fin 8192) (h : Fin 16) :
    val_main_v31 (F := Ideal) P (ix2 R h) = Ideal.logistic (rows P R ⟨12800 + h.val, by omega⟩) := by
  pointwise [val_main_v31, val_main_v15, val_main_v14, val_main_v13, val_main_v12, val_main_v11, val_main_v10, val_main_v6, val_main_cst, val_main_cst_0]
  rfl

theorem gate_reference (P : Vec Ideal S2x4096x21024 .f32) (A D : Vec Ideal S16 .f32) (b : Fin 2) (s : Fin 4096) (h : Fin 16) :
    val_main_v24 (F := Ideal) P A D (ix3 b s h) = gate (A (ix1 h)) (D (ix1 h)) (P (ix3 b s ⟨12816 + h.val, by omega⟩)) := by
  pointwise [val_main_v24, val_main_v23, val_main_v22, val_main_v21, val_main_v20, val_main_v19, val_main_v18, val_main_v17, val_main_v16, val_main_v7,
    val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_call0_cst]
  simp only [gate, sub_zero, ne_eq, not_true_eq_false, ↓reduceIte]
  rfl

/-- The running sums, chunk by chunk. -/
theorem scan_reference (P : Vec Ideal S2x4096x21024 .f32) (A D : Vec Ideal S16 .f32) (b : Fin 2) (h : Fin 16) (n i : Fin 64) :
    val_main_v27 (F := Ideal) P A D (ix4 b h n i) = back (gateAt P A D h) 6 (4096 * b.val + 64 * n.val + i.val) := by
  unfold val_main_v27
  refine (cumsum_apply _ _ (fun i => ?_) b h n i).trans ?_
  · exact zero_eq
  · have e : (4096 * b.val + 64 * n.val + i.val) % 64 = i.val := by omega
    rw [back_six, e]
    refine Finset.sum_congr rfl fun j hj => ?_
    have := Finset.mem_range.1 hj
    rw [upTo_lt _ _ _ (by omega), gateAt, upTo_lt _ _ _ (by omega)]
    have e1 : val_main_v26 (F := Ideal) P A D (ix4 b h n ⟨i.val - j, by omega⟩)
        = val_main_v24 (F := Ideal) P A D (ix3 b ⟨64 * n.val + (i.val - j), by omega⟩ h) := by
      pointwise [val_main_v26, val_main_v25]
      refine congrArg _ (congrArg₂ (fun a c => ix3 a c h) (Fin.ext ?_) (Fin.ext ?_)) <;> simp <;> omega
    rw [e1, gate_reference]
    refine congrArg _ (congrArg₂ (fun a c => P (ix3 a c _)) (Fin.ext ?_) (Fin.ext ?_)) <;> simp <;> omega

theorem gc_reference (P : Vec Ideal S2x4096x21024 .f32) (A D : Vec Ideal S16 .f32) (R : Fin 8192) (h : Fin 16) :
    val_main_v33 (F := Ideal) P A D (ix2 R h) = back (gateAt P A D h) 6 R.val := by
  pointwise [val_main_v33, val_main_v32]
  refine (scan_reference _ _ _ _ _ _ _).trans (congrArg _ ?_)
  simp
  omega

theorem gcrow_reference (P : Vec Ideal S2x4096x21024 .f32) (A D : Vec Ideal S16 .f32) (h : Fin 16) (R : Fin 8192) :
    val_main_v37 (F := Ideal) P A D (ix2 h R) = back (gateAt P A D h) 6 R.val := by
  pointwise [val_main_v37, val_main_v36]
  refine (scan_reference _ _ _ _ _ _ _).trans ?_
  refine congrArg₂ (fun a b => back (gateAt P A D a) 6 b) (Fin.ext ?_) ?_ <;> simp <;> omega

theorem tail_reference (P : Vec Ideal S2x4096x21024 .f32) (A D : Vec Ideal S16 .f32) (R : Fin 8192) (h : Fin 16) :
    val_main_v35 (F := Ideal) P A D (ix2 R h)
      = back (gateAt P A D h) 6 (R.val - R.val % 64 + 63) - back (gateAt P A D h) 6 R.val := by
  pointwise [val_main_v35, val_main_v34, val_main_v30, val_main_v29, val_main_v28]
  refine congrArg₂ (fun a b : EReal => a - b) ((scan_reference _ _ _ _ _ _ _).trans (congrArg _ ?_)) ((scan_reference _ _ _ _ _ _ _).trans (congrArg _ ?_)) <;>
    simp <;> omega

/-- The reference ends, leaves its arguments, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := Ideal)) _ _).mono (fun r h => ⟨fun c => (h c).2.2.2.2, sem_eq_zero_of_no_sems (by decide) r.2⟩)
    (Value.run (F := Ideal) m ρ)

end Reference

end Cert.Layer.Gates

end
-- ==== Proof.Layer.DeltaGates.lean ====
/- The decay gates of the delta rule: the kernel's four results are the reference's, for finite arguments. -/
module

public import proofs.«01_k».proof.Defs
public import proofs.«01_k».proof.Proof.Layer.GateColumns
public import proofs.«01_k».proof.Proof.Layer.GateReference
public import proofs.«01_k».proof.Proof.Attn.Finite
public import proofs.«01_k».proof.Proof.Attn.Scalar

@[expose] public section

noncomputable section

namespace Cert.Layer.Gates

open Idealize.ShloMosaic Idealize.ShloMosaic.TcCoe Idealize.SL.Sem Cert.Layer.Scan

set_option maxRecDepth 16384

section Finite

theorem finite_facts : Cert.Pre_finite_gates.Facts := by constructor <;> decide

theorem finite_real [Cert.Pre_finite_gates.Facts] (P : Vec Ideal Cert.Pre_finite_gates.S2x4096x21024 .f32) (A D : Vec Ideal Cert.Pre_finite_gates.S16 .f32)
    (h : Cert.Pre_finite_gates.fn (F := Ideal) P A D = fun _ => 1#1) :
    (∀ i, ∃ r : ℝ, P i = r) ∧ (∀ i, ∃ r : ℝ, A i = r) ∧ ∀ i, ∃ r : ℝ, D i = r := by
  have h0 := congrFun h (Shape.Idx.first Cert.Pre_finite_gates.Facts.h_S_)
  unfold Cert.Pre_finite_gates.fn Cert.Pre_finite_gates.fn_part1 at h0
  obtain ⟨h1, h2⟩ := Cert.Attn.and_one _ _ h0
  obtain ⟨h3, h4⟩ := Cert.Attn.and_one _ _ h1
  haveI : Subsingleton Cert.Pre_finite_gates.S_.Idx := ⟨fun a b => funext fun i => i.elim0⟩
  exact ⟨fun i => Cert.Attn.real_of_bits _ (Host.reduce_andi_all _ _ _ _ _ h3 i), fun i => Cert.Attn.real_of_bits _ (Host.reduce_andi_all _ _ _ _ _ h4 i),
    fun i => Cert.Attn.real_of_bits _ (Host.reduce_andi_all _ _ _ _ _ h2 i)⟩

/-- The gate of real arguments is real. -/
theorem gate_real (a d x : ℝ) : ∃ r : ℝ, gate a d x = r := by
  have hm : max ((x : EReal) + d) (-((x : EReal) + d)) = ((max (x + d) (-(x + d)) : ℝ) : EReal) := by
    rw [← EReal.coe_add, ← EReal.coe_neg]; exact (EReal.coe_strictMono.monotone.map_max).symm
  have hp : max ((x : EReal) + d) 0 = ((max (x + d) 0 : ℝ) : EReal) := by
    rw [← EReal.coe_add, ← EReal.coe_zero]; exact (EReal.coe_strictMono.monotone.map_max).symm
  have hl : ∀ t : ℝ, Ideal.log1p (Real.exp t : EReal) = ((Real.log (1 + Real.exp t) : ℝ) : EReal) := by
    intro t
    have : ¬1 + Real.exp t ≤ 0 := by have := Real.exp_pos t; linarith
    rw [Ideal.log1p, ← EReal.coe_one, ← EReal.coe_add, Ideal.log_coe, if_neg this]
  refine ⟨-Real.exp a * (max (x + d) 0 + Real.log (1 + Real.exp (-max (x + d) (-(x + d))))), ?_⟩
  rw [gate, hm, hp, ← EReal.coe_neg, Ideal.exp_coe, Ideal.exp_coe, hl, ← EReal.coe_neg, ← EReal.coe_add, ← EReal.coe_mul]

theorem gateAt_real (P : (⟨3, ![2, 4096, 21024]⟩ : Shape).Idx → EReal) (A D : (⟨1, ![16]⟩ : Shape).Idx → EReal)
    (hP : ∀ i, ∃ r : ℝ, P i = r) (hA : ∀ i, ∃ r : ℝ, A i = r) (hD : ∀ i, ∃ r : ℝ, D i = r) (h : Fin 16) (n : ℕ) :
    ∃ r : ℝ, gateAt P A D h n = r := by
  by_cases hn : n < 8192
  · obtain ⟨a, ha⟩ := hA (ix1 h)
    obtain ⟨d, hd⟩ := hD (ix1 h)
    obtain ⟨x, hx⟩ := hP (ix3 ⟨n / 4096, by omega⟩ ⟨n % 4096, by omega⟩ ⟨12816 + h.val, by omega⟩)
    rw [gateAt, upTo_lt _ _ _ hn]
    unfold rows
    rw [ha, hd, hx]
    exact gate_real a d x
  · exact ⟨0, dif_neg hn⟩

/-- Of real numbers, the sum on to the chunk's end without the first is the whole chunk's sum less the sum so far. -/
theorem ahead_eq (f : ℕ → EReal) (hf : ∀ n, ∃ r : ℝ, f n = r) (s : ℕ) : ahead f 6 s - f s = back f 6 (s - s % 64 + 63) - back f 6 s := by
  choose g hg using hf
  obtain rfl : f = fun n => (g n : EReal) := funext hg
  have e : (s - s % 64 + 63) % 64 = 63 := by omega
  have key : (∑ j ∈ Finset.range (64 - s % 64), g (s + j)) - g s
      = (∑ j ∈ Finset.range (63 + 1), g (s - s % 64 + 63 - j)) - ∑ j ∈ Finset.range (s % 64 + 1), g (s - j) := by
    have h1 : ∑ j ∈ Finset.range (63 + 1), g (s - s % 64 + 63 - j) = ∑ j ∈ Finset.range 64, g (s - s % 64 + j) := by
      rw [← Finset.sum_range_reflect]
      refine Finset.sum_congr rfl fun j hj => congrArg g ?_
      have := Finset.mem_range.1 hj
      omega
    have h2 : ∑ j ∈ Finset.range (s % 64 + 1), g (s - j) = ∑ j ∈ Finset.range (s % 64 + 1), g (s - s % 64 + j) := by
      rw [← Finset.sum_range_reflect]
      refine Finset.sum_congr rfl fun j hj => congrArg g ?_
      have := Finset.mem_range.1 hj
      omega
    have h3 : ∑ j ∈ Finset.range 64, g (s - s % 64 + j)
        = ∑ j ∈ Finset.range (s % 64), g (s - s % 64 + j) + ∑ j ∈ Finset.range (64 - s % 64), g (s + j) := by
      have h := Finset.sum_range_add (fun j => g (s - s % 64 + j)) (s % 64) (64 - s % 64)
      rw [show s % 64 + (64 - s % 64) = 64 by omega] at h
      exact h.trans (congrArg _ (Finset.sum_congr rfl fun j _ => congrArg g (by omega)))
    have h4 : s - s % 64 + s % 64 = s := by omega
    rw [h1, h2, h3, Finset.sum_range_succ, h4]
    ring
  rw [ahead_six, back_six, back_six, e, ← Cert.Attn.coe_sum, ← Cert.Attn.coe_sum, ← Cert.Attn.coe_sum, ← EReal.coe_sub, ← EReal.coe_sub, key]

end Finite

section Kernel

open Cert.DeltaGatesIdeal Cert.DeltaGatesIdeal.Gen

/-- The projections in the kernel's order. -/
def packed (P : Vec Ideal S2x4096x21024 .f32) : Vec Ideal S8192x13312 .f32 :=
  let p := shapeCast S8192x21024 P shapeCasts_S2x4096x21024_S8192x21024
  concatenate S8192x13312 1
    [⟨S8192x2048, extractStridedSlice S8192x2048 ![0, 0] p slices_S8192x21024_S8192x2048_0_0⟩,
      ⟨S8192x10240, extractStridedSlice S8192x10240 ![0, 2560] p slices_S8192x21024_S8192x10240_0_2560⟩,
      ⟨S8192x512, extractStridedSlice S8192x512 ![0, 2048] p slices_S8192x21024_S8192x512_0_2048⟩,
      ⟨S8192x512, extractStridedSlice S8192x512 ![0, 12800] p slices_S8192x21024_S8192x512_0_12800⟩]
    concatenates_S8192x2048_S8192x10240_S8192x512_S8192x512_S8192x13312_d1

/-- The last columns are where they were. -/
theorem packed_apply (P : Vec Ideal S2x4096x21024 .f32) (R : Fin 8192) (l : Fin 512) :
    packed P (ix2 R ⟨12800 + l.val, by omega⟩) = rows P R ⟨12800 + l.val, by omega⟩ := by
  pointwise [packed]
  split_ifs
  all_goals first | (exfalso; omega) | skip
  · refine congrArg (fun k => P (ix3 _ _ k)) (Fin.ext ?_)
    show 12800 + (12800 + l.val - 2048 - 10240 - 512) = 12800 + l.val
    omega

/-- A vector of sixteen heads in lanes 16 to 31 of a row of 128, zero around them. -/
def padded (A : Vec Ideal S16 .f32) : Vec Ideal S1x128 .f32 :=
  shapeCast S1x128 (pad S128 ![16] ![96] ![0] A (sitofp (F := Ideal) .f32 (constantI S_ 32 0#32)) pads_S16_S128_16960 h_S_) shapeCasts_S128_S1x128

theorem padded_apply (A : Vec Ideal S16 .f32) (h : Fin 16) : padded A (ix2 0 ⟨16 + h.val, by omega⟩) = A (ix1 h) := by
  refine (shapeCast_apply _ shapeCasts_S128_S1x128 _ (ix1 ⟨16 + h.val, by omega⟩) ?_).trans ?_
  · rw [Shape.rowMajor_val_one, Shape.rowMajor_val_two]
    show 16 + h.val = 0 * 128 + (16 + h.val)
    omega
  · refine pad_apply_of_inside _ _ _ _ _ _ _ _ (ix1 h) fun a => ?_
    fin_cases a
    show 16 + h.val = 16 + h.val * (0 + 1)
    omega

variable (m : (ℓ : Loc nD τ sig) → Buf (Elt Ideal) ℓ) (c : Dev nD)

theorem V_packed : V m c main_v5 = packed (m ((c : Thread nD τ).loc main_arg0)) := by
  rfl

theorem V_alpha : V m c main_v7 = transpose S16x8192 [1, 0]
    (extractStridedSlice S8192x16 ![0, 12816] (packed (m ((c : Thread nD τ).loc main_arg0))) slices_S8192x13312_S8192x16_0_12816) transposes_S8192x16_S16x8192_1_0 := by
  rfl

theorem V_logRow : V m c main_v9 = padded (m ((c : Thread nD τ).loc main_arg1)) := by
  rfl

theorem V_biasRow : V m c main_v11 = padded (m ((c : Thread nD τ).loc main_arg2)) := by
  rfl

theorem V_logCol : V m c main_v12 = shapeCast S16x1 (m ((c : Thread nD τ).loc main_arg1)) shapeCasts_S16_S16x1 := by
  rfl

theorem V_biasCol : V m c main_v13 = shapeCast S16x1 (m ((c : Thread nD τ).loc main_arg2)) shapeCasts_S16_S16x1 := by
  rfl

theorem col_of (A : Vec Ideal S16 .f32) (h : Fin 16) : shapeCast S16x1 A shapeCasts_S16_S16x1 (ix2 h 0) = A (ix1 h) := by
  pointwise []

/-- Lane `16 + h` holds head `h`. -/
theorem laneGate_eq (h : Fin 16) : laneGate m c ⟨16 + h.val, by omega⟩
    = gateAt (m ((c : Thread nD τ).loc main_arg0)) (m ((c : Thread nD τ).loc main_arg1)) (m ((c : Thread nD τ).loc main_arg2)) h := by
  refine congrArg (upTo 8192) (funext fun R => ?_)
  rw [V_packed, V_logRow, V_biasRow, padded_apply, padded_apply]
  refine congrArg _ ((congrArg (packed _) (congrArg (ix2 R) (Fin.ext ?_))).trans ((packed_apply _ R ⟨16 + h.val, by omega⟩).trans
    (congrArg (rows _ R) (Fin.ext ?_))))
  · show 12800 + (16 + h.val) = _
    rfl
  · show 12800 + (16 + h.val) = 12816 + h.val
    omega

theorem headGate_eq (h : Fin 16) : headGate m c h
    = gateAt (m ((c : Thread nD τ).loc main_arg0)) (m ((c : Thread nD τ).loc main_arg1)) (m ((c : Thread nD τ).loc main_arg2)) h := by
  refine congrArg (upTo 8192) (funext fun R => ?_)
  rw [V_alpha, V_logCol, V_biasCol, col_of, col_of]
  refine congrArg _ (Eq.trans ?_ ((packed_apply _ R ⟨16 + h.val, by omega⟩).trans (congrArg (rows _ R) (Fin.ext ?_))))
  · pointwise []
    refine congrArg (packed _) (congrArg (ix2 R) (Fin.ext ?_))
    show 12816 + h.val = 12800 + (16 + h.val)
    omega
  · show 12800 + (16 + h.val) = 12816 + h.val
    omega

/-! ## The results, after the lines that follow the kernel -/

theorem arr_injective : Function.Injective (Pipeline.arrRef spec0) := by decide

theorem beta_result : Pipeline.afterTail₀ cfgs (dats m) 0 (V0 m) [hostOps1] c main_v15
    = extractStridedSlice S8192x16 ![0, 0] ((dats m 0 c).arrAt 6 cfg0.N) slices_S8192x128_S8192x16_0_0 := by
  refine Eq.trans ?_ (congrArg (fun x => extractStridedSlice S8192x16 ![0, 0] x slices_S8192x128_S8192x16_0_0)
    (Pipeline.withArrays_arr spec0 arr_injective c (V0 m c) (fun w => (dats m 0 c).arrAt w cfg0.N) 6))
  rfl

theorem gc_result : Pipeline.afterTail₀ cfgs (dats m) 0 (V0 m) [hostOps1] c main_v16
    = extractStridedSlice S8192x16 ![0, 16] ((dats m 0 c).arrAt 7 cfg0.N) slices_S8192x128_S8192x16_0_16 := by
  refine Eq.trans ?_ (congrArg (fun x => extractStridedSlice S8192x16 ![0, 16] x slices_S8192x128_S8192x16_0_16)
    (Pipeline.withArrays_arr spec0 arr_injective c (V0 m c) (fun w => (dats m 0 c).arrAt w cfg0.N) 7))
  rfl

theorem tail_result : Pipeline.afterTail₀ cfgs (dats m) 0 (V0 m) [hostOps1] c main_v17
    = extractStridedSlice S8192x16 ![0, 16] ((dats m 0 c).arrAt 8 cfg0.N) slices_S8192x128_S8192x16_0_16 := by
  refine Eq.trans ?_ (congrArg (fun x => extractStridedSlice S8192x16 ![0, 16] x slices_S8192x128_S8192x16_0_16)
    (Pipeline.withArrays_arr spec0 arr_injective c (V0 m c) (fun w => (dats m 0 c).arrAt w cfg0.N) 8))
  rfl

/-- The kernel's run: its four results and its arguments. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = extractStridedSlice S8192x16 ![0, 0] ((dats m 0 c).arrAt 6 cfg0.N) slices_S8192x128_S8192x16_0_0
      ∧ r.2.mem ((c.tc : Thread nD τ).loc main_v16) = extractStridedSlice S8192x16 ![0, 16] ((dats m 0 c).arrAt 7 cfg0.N) slices_S8192x128_S8192x16_0_16
      ∧ r.2.mem ((c.tc : Thread nD τ).loc main_v17) = extractStridedSlice S8192x16 ![0, 16] ((dats m 0 c).arrAt 8 cfg0.N) slices_S8192x128_S8192x16_0_16
      ∧ r.2.mem ((c.tc : Thread nD τ).loc main_v14_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨((h c).2 main_v15 (Pipeline.mem_restRefs_of main_v15 (by decide) (by decide))).trans (beta_result m c),
      ((h c).2 main_v16 (Pipeline.mem_restRefs_of main_v16 (by decide) (by decide))).trans (gc_result m c),
      ((h c).2 main_v17 (Pipeline.mem_restRefs_of main_v17 (by decide) (by decide))).trans (tail_result m c),
      (h c).1 9,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

theorem beta_value (R : Fin 8192) (h : Fin 16) :
    extractStridedSlice S8192x16 ![0, 0] ((dats m 0 c).arrAt 6 cfg0.N) slices_S8192x128_S8192x16_0_0 (ix2 R h)
      = Ideal.logistic (rows (m ((c : Thread nD τ).loc main_arg0)) R ⟨12800 + h.val, by omega⟩) := by
  refine (extractStridedSlice_apply _ _ _ _ (ix2 (n0 := 8192) (n1 := 128) R ⟨h.val, by omega⟩) fun a => ?_).trans ?_
  · fin_cases a
    · show R.val = 0 + R.val
      omega
    · show h.val = 0 + h.val
      omega
  · rw [beta_array, V_packed]
    exact congrArg Ideal.logistic (packed_apply _ R ⟨h.val, by omega⟩)

theorem lane_value (x : Vec Ideal S8192x128 .f32) (R : Fin 8192) (h : Fin 16) :
    extractStridedSlice S8192x16 ![0, 16] x slices_S8192x128_S8192x16_0_16 (ix2 R h) = x (ix2 R ⟨16 + h.val, by omega⟩) := by
  refine extractStridedSlice_apply _ _ _ _ _ fun a => ?_
  fin_cases a
  · show R.val = 0 + R.val
    omega
  · rfl

theorem gc_value (R : Fin 8192) (h : Fin 16) :
    extractStridedSlice S8192x16 ![0, 16] ((dats m 0 c).arrAt 7 cfg0.N) slices_S8192x128_S8192x16_0_16 (ix2 R h)
      = back (gateAt (m ((c : Thread nD τ).loc main_arg0)) (m ((c : Thread nD τ).loc main_arg1)) (m ((c : Thread nD τ).loc main_arg2)) h) 6 R.val := by
  rw [lane_value, gc_array, ← laneGate_eq]
  rfl

theorem tail_value (R : Fin 8192) (h : Fin 16) :
    extractStridedSlice S8192x16 ![0, 16] ((dats m 0 c).arrAt 8 cfg0.N) slices_S8192x128_S8192x16_0_16 (ix2 R h)
      = ahead (gateAt (m ((c : Thread nD τ).loc main_arg0)) (m ((c : Thread nD τ).loc main_arg1)) (m ((c : Thread nD τ).loc main_arg2)) h) 6 R.val
        - gateAt (m ((c : Thread nD τ).loc main_arg0)) (m ((c : Thread nD τ).loc main_arg1)) (m ((c : Thread nD τ).loc main_arg2)) h R.val := by
  rw [lane_value, tail_array, ← laneGate_eq]
  rfl

end Kernel

/-- The kernel's gates are the reference's. -/
theorem algebraic : Cert.algebraic_DeltaGatesIdeal_DeltaGatesReferenceIdeal_pre_finite_gates (hPre_finite_gates := finite_facts) := by
  intro m ρ m' ρ' hpre hargs
  haveI := finite_facts
  refine ⟨_, _, _, _, run_results m ρ, ?_⟩
  refine (θ_run (Cert.DeltaGatesReferenceIdeal.defs (F := Ideal)) _ _).mono
    (fun r h c => ⟨(h c).1.trans ?_, (h c).2.1.trans ?_, (h c).2.2.1.trans ?_, (h c).2.2.2.1.trans ?_, (h c).2.2.2.2⟩)
    (Cert.DeltaGatesReferenceIdeal.Value.run (F := Ideal) m' ρ')
  · refine (Cert.DeltaGatesReferenceIdeal.Read.val_main_v31_eq _).trans ?_
    rw [(hargs c).1]
    funext i
    obtain ⟨R, h, rfl⟩ : ∃ (R : Fin 8192) (h : Fin 16), i = ix2 R h := ⟨i 0, i 1, eq_ix2 (n0 := 8192) (n1 := 16) i⟩
    exact (beta_reference _ R h).trans (beta_value m c R h).symm
  · refine (Cert.DeltaGatesReferenceIdeal.Read.val_main_v33_eq _ _ _).trans ?_
    rw [(hargs c).1, (hargs c).2.1, (hargs c).2.2]
    funext i
    obtain ⟨R, h, rfl⟩ : ∃ (R : Fin 8192) (h : Fin 16), i = ix2 R h := ⟨i 0, i 1, eq_ix2 (n0 := 8192) (n1 := 16) i⟩
    exact (gc_reference _ _ _ R h).trans (gc_value m c R h).symm
  · refine (Cert.DeltaGatesReferenceIdeal.Read.val_main_v35_eq _ _).trans ?_
    rw [(hargs c).1, (hargs c).2.1, (hargs c).2.2]
    funext i
    obtain ⟨R, h, rfl⟩ : ∃ (R : Fin 8192) (h : Fin 16), i = ix2 R h := ⟨i 0, i 1, eq_ix2 (n0 := 8192) (n1 := 16) i⟩
    obtain ⟨hP, hA, hD⟩ := finite_real _ _ _ (hpre c)
    exact (tail_reference _ _ _ R h).trans ((ahead_eq _ (gateAt_real _ _ _ hP hA hD h) R.val).symm.trans (tail_value m c R h).symm)
  · refine (Cert.DeltaGatesReferenceIdeal.Read.val_main_v37_eq _ _ _).trans ?_
    rw [(hargs c).1, (hargs c).2.1, (hargs c).2.2]
    funext i
    obtain ⟨h, R, rfl⟩ : ∃ (h : Fin 16) (R : Fin 8192), i = ix2 h R := ⟨i 0, i 1, eq_ix2 (n0 := 16) (n1 := 8192) i⟩
    rw [gcrow_array]
    exact (gcrow_reference _ _ _ h R).trans (congrArg (back · 6 R.val) (headGate_eq m c h).symm)

end Cert.Layer.Gates

end
-- ==== Proof.Layer.CastIn.lean ====
/- The cast of the input projection's main weights: the kernel's tiles, in its own order, hold the reference's columns. -/
module

public import proofs.«01_k».proof.Defs
public import proofs.«01_k».proof.Proof.Gen.CastInIdeal.Value
public import proofs.«01_k».proof.Proof.Gen.CastInReferenceIdeal.Read
public import proofs.«01_k».proof.Proof.Attn.Pack
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.CastIn

open Idealize.ShloMosaic Idealize.ShloMosaic.TcCoe Idealize.SL.Sem

set_option maxRecDepth 16384

section Kernel

open Cert.CastInIdeal Cert.CastInIdeal.Gen

variable (m : (ℓ : Loc nD τ sig) → Buf (Elt Ideal) ℓ) (c : Dev nD)

/-- The weights' tile that the kernel's tile `j` holds. -/
def source (j : ℕ) : ℕ := if j < 4 then j else if j < 24 then j + 1 else if j = 24 then 4 else j

theorem index0 : ∀ t : Fin cfg0.N, win0_0.index t = ![t.val / 26, source (t.val % 26), 0] := (by decide +kernel : ∀ t : Fin grid0.N, _)
theorem index1 : ∀ t : Fin cfg0.N, win0_1.index t = ![t.val / 26, t.val % 26, 0] := (by decide +kernel : ∀ t : Fin grid0.N, _)

theorem point_lt (t : Fin cfg0.N) : t.val < 104 := t.isLt

theorem source_col (j r : ℕ) (hj : j < 26) (hr : r < 512) : source j * 512 + r = Cert.Attn.packNat (512 * j + r) := by
  unfold source Cert.Attn.packNat
  split_ifs <;> omega

theorem V_rows : V m c main_v0 = transpose S4x21024x4096 [0, 2, 1] (m ((c : Thread nD τ).loc main_arg0)) transposes_S4x4096x21024_S4x21024x4096_0_2_1 := by
  rfl

theorem rows_apply (w : Vec Ideal S4x4096x21024 .f32) (l : Fin 4) (C : Fin 21024) (k : Fin 4096) :
    transpose S4x21024x4096 [0, 2, 1] w transposes_S4x4096x21024_S4x21024x4096_0_2_1 (ix3 l C k) = w (ix3 l k C) := by
  pointwise []

theorem block0 (t : Fin cfg0.N) (r : Fin 512) (k : Fin 4096) :
    X0_0 m c t (ix3 0 r k) = m ((c : Thread nD τ).loc main_arg0)
      (ix3 ⟨t.val / 26, by have := point_lt t; omega⟩ k (Cert.Attn.packCol ⟨512 * (t.val % 26) + r.val, by omega⟩)) := by
  refine Eq.trans ?_ (rows_apply _ _ _ _)
  unfold X0_0 Pipeline.Window.fill
  rw [dif_pos (moved0_0 t (ix3 0 r k))]
  blk_simp [iblk]
  rw [V_rows]
  refine congrArg (transpose _ _ _ _) ?_
  blk_ext [index0]
  exact source_col _ _ (Nat.mod_lt _ (by decide)) r.isLt

theorem run_pieces (i : grid0.Coords) (arg2 : Memref sig .tc .vmem S1x512x4096 .f32) (harg2 : arg2.IsWhole) (arg3 : Memref sig .tc .vmem S1x512x4096 .bf16) (harg3 : arg3.IsWhole)
    (x0 : Vec Ideal S1x512x4096 .f32) :
    (kernelRun0_A c i arg2 harg2 arg3 harg3 x0).1
      = [⟨Rect.unit (s := S1x512x4096) ![0, 0, 0] S1x512x4096.size inb_S1x512x4096_S1x512x4096_0_0_0,
          k0_pay1 (View.ld (arg2.view.read (Elt Ideal) (harg2.unread x0)) (Rect.unit (s := S1x512x4096) ![0, 0, 0] S1x512x4096.size inb_S1x512x4096_S1x512x4096_0_0_0))⟩] := by
  unfold kernelRun0_A
  rfl

theorem outsAt_eq (t : Fin cfg0.N) (r : Fin 512) (k : Fin 4096) : outsAt0 m c t (ix3 0 r k) = X0_0 m c t (ix3 0 r k) := by
  unfold outsAt0 out0_A_1
  rw [View.read_writes_eq_canon _ _ _ (cover0_A_1 c (grid0.coords t) (ms0_0 t) (hs0_0 t) (ms0_1 t) (hs0_1 t) (X0_0 m c t)), run_pieces]
  refine (congrFun (View.canon_cons_unit_lit _ _ _ (by decide)) _).trans ?_
  rw [View.ld_unit_lit _ _ (by decide), (hs0_0 t).read_unread]
  pointwise [k0_pay1]

/-- The whole array after the run. -/
theorem final_array : (dats m 0 c).arrAt 1 cfg0.N
    = fun i => m ((c : Thread nD τ).loc main_arg0) (ix3 (i 0) (i 2) (Cert.Attn.packCol (i 1))) := by
  refine (dats m 0 c).arrAt_eq_of_covers 1 _ (by decide +kernel) fun t hf y => ?_
  blk_simp
  rw [after0_1]
  have h0 : (y 0).val < 1 := (y 0).isLt
  have h1 : (y 1).val < 512 := (y 1).isLt
  have h2 : (y 2).val < 4096 := (y 2).isLt
  have ht := point_lt t
  have e : y = ix3 (n0 := 1) (n1 := 512) (n2 := 4096) 0 (y 1) (y 2) := by
    refine funext fun a => Fin.ext ?_
    match a with
    | ⟨0, _⟩ => show (y 0).val = 0; omega
    | ⟨1, _⟩ => rfl
    | ⟨2, _⟩ => rfl
  have e0 : (win0_1.blk t).view.emb y 0 = (⟨t.val / 26, by omega⟩ : Fin 4) := by
    refine Fin.ext ?_
    show _ = t.val / 26
    blk_simp [index1]
  have e1 : (win0_1.blk t).view.emb y 1 = (⟨512 * (t.val % 26) + (y 1).val, by omega⟩ : Fin 13312) := by
    refine Fin.ext ?_
    show _ = 512 * (t.val % 26) + (y 1).val
    blk_simp [index1]
    omega
  have e2 : (win0_1.blk t).view.emb y 2 = (y 2 : Fin 4096) := by
    refine Fin.ext ?_
    blk_simp [index1]
  refine (congrArg (outsAt0 m c t) e).trans ((outsAt_eq m c t (y 1) (y 2)).trans ((block0 m c t (y 1) (y 2)).trans ?_))
  exact congrArg (m ((c : Thread nD τ).loc main_arg0)) (congrArg₂ (fun (p : Fin 4 × Fin 4096) (q : Fin 13312) => ix3 p.1 p.2 (Cert.Attn.packCol q))
    (congrArg₂ Prod.mk e0.symm e2.symm) e1.symm)

end Kernel

section Reference

open Cert.CastInReferenceIdeal Cert.CastInReferenceIdeal.Gen Cert.CastInReferenceIdeal.Read

theorem reference_apply (w : Vec Ideal S4x4096x21024 .f32) (l : Fin 4) (C : Fin 13312) (k : Fin 4096) :
    val_main_v13 (F := Ideal) w (ix3 l C k) = w (ix3 l k (Cert.Attn.packCol C)) := by
  pointwise [val_main_v13, val_main_v12, val_main_v11, val_main_v0, val_main_v1, val_main_v2, val_main_v3, val_main_v4, val_main_v5, val_main_v6, val_main_v7, val_main_v8, val_main_v10]
  split_ifs <;> refine congrArg (fun k => w (ix3 _ _ k)) (Fin.ext ?_) <;> simp only [Cert.Attn.packCol, Cert.Attn.packNat] <;> split_ifs <;> omega

/-- The reference ends, leaves its argument, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The kernel's cast weights are the reference's. -/
theorem algebraic : Cert.algebraic_CastInIdeal_CastInReferenceIdeal := by
  intro m ρ m' ρ' _ hargs
  refine ⟨fun c => (Cert.CastInIdeal.Gen.dats m 0 c).arrAt 1 Cert.CastInIdeal.cfg0.N, Cert.CastInIdeal.Value.run_blocks (F := Ideal) m ρ, ?_⟩
  refine (θ_run (Cert.CastInReferenceIdeal.defs (F := Ideal)) _ _).mono (fun r h c => ⟨(h c).1.trans ?_, (h c).2⟩)
    (Cert.CastInReferenceIdeal.Value.run (F := Ideal) m' ρ')
  refine Eq.trans ?_ (final_array m c).symm
  refine (Cert.CastInReferenceIdeal.Read.val_main_v13_eq _).trans ?_
  rw [hargs c]
  funext i
  exact (congrArg _ (eq_ix3 (n0 := 4) (n1 := 13312) (n2 := 4096) i)).trans (reference_apply _ (i 0) (i 1) (i 2))

end Cert.Layer.CastIn

end
-- ==== Proof.Layer.CastGates.lean ====
/- The cast of the input projection's gate weights: the columns start 32 past a tile's edge, so each tile of the result is 480 rows
   of one tile of the weights and 32 of the next; every element is the reference's. -/
module

public import proofs.«01_k».proof.Defs
public import proofs.«01_k».proof.Proof.Gen.CastGatesIdeal.Value
public import proofs.«01_k».proof.Proof.Gen.CastGatesReferenceIdeal.Read
public import proofs.«01_k».proof.Proof.Layer.InGates
public import Idealize.ShloMosaic.Adequacy
public import Idealize.ShloMosaic.Init
public import Idealize.ShloMosaic.Lib.Pointwise
public import Idealize.ShloMosaic.Lib.Pipeline.ValueKit
public import Idealize.ShloMosaic.Lib.StableHlo.ReadAt

@[expose] public section

noncomputable section

namespace Cert.Layer.CastGates

open Idealize.ShloMosaic Idealize.ShloMosaic.TcCoe Idealize.SL.Sem

set_option maxRecDepth 16384

section Kernel

open Cert.CastGatesIdeal Cert.CastGatesIdeal.Gen

variable (m : (ℓ : Loc nD τ sig) → Buf (Elt Ideal) ℓ) (c : Dev nD)

theorem index0 : ∀ t : Fin cfg0.N, win0_0.index t = ![t.val / 16, 25 + t.val % 16, 0] := (by decide +kernel : ∀ t : Fin grid0.N, _)
theorem index1 : ∀ t : Fin cfg0.N, win0_1.index t = ![t.val / 16, (26 + t.val % 16) * 16, 0] := (by decide +kernel : ∀ t : Fin grid0.N, _)
theorem index2 : ∀ t : Fin cfg0.N, win0_2.index t = ![t.val / 16, t.val % 16, 0] := (by decide +kernel : ∀ t : Fin grid0.N, _)

theorem point_lt (t : Fin cfg0.N) : t.val < 64 := t.isLt

theorem V_rows : V m c main_v0 = transpose S4x21024x4096 [0, 2, 1] (m ((c : Thread nD τ).loc main_arg0)) transposes_S4x4096x21024_S4x21024x4096_0_2_1 := by
  rfl

theorem rows_apply (w : Vec Ideal S4x4096x21024 .f32) (l : Fin 4) (C : Fin 21024) (k : Fin 4096) :
    transpose S4x21024x4096 [0, 2, 1] w transposes_S4x4096x21024_S4x21024x4096_0_2_1 (ix3 l C k) = w (ix3 l k C) := by
  pointwise []

/-- Rows 32 and on of the first tile are the result's first 480. -/
theorem block0 (t : Fin cfg0.N) (r : Fin 480) (k : Fin 4096) :
    X0_0 m c t (ix3 0 ⟨32 + r.val, by omega⟩ k) = m ((c : Thread nD τ).loc main_arg0)
      (ix3 ⟨t.val / 16, by have := point_lt t; omega⟩ k (InGates.gateCol ⟨512 * (t.val % 16) + r.val, by omega⟩)) := by
  refine Eq.trans ?_ (rows_apply _ _ _ _)
  unfold X0_0 Pipeline.Window.fill
  rw [dif_pos (moved0_0 t (ix3 0 ⟨32 + r.val, by omega⟩ k))]
  blk_simp [iblk]
  rw [V_rows]
  refine congrArg (transpose _ _ _ _) ?_
  blk_ext [index0]
  show (25 + t.val % 16) * 512 + (32 + r.val) = 12832 + (512 * (t.val % 16) + r.val)
  omega

/-- The first 32 rows of the next tile are the result's last. -/
theorem block1 (t : Fin cfg0.N) (r : Fin 32) (k : Fin 4096) :
    iblk m c 1 t (ix3 0 r k) = m ((c : Thread nD τ).loc main_arg0)
      (ix3 ⟨t.val / 16, by have := point_lt t; omega⟩ k (InGates.gateCol ⟨512 * (t.val % 16) + (480 + r.val), by omega⟩)) := by
  refine Eq.trans ?_ (rows_apply _ _ _ _)
  blk_simp [iblk]
  rw [V_rows]
  refine congrArg (transpose _ _ _ _) ?_
  blk_ext [index1]
  show (26 + t.val % 16) * 16 * 32 + r.val = 12832 + (512 * (t.val % 16) + (480 + r.val))
  omega

theorem run_pieces (i : grid0.Coords) (arg2 : Memref sig .tc .vmem S1x512x4096 .f32) (harg2 : arg2.IsWhole) (arg3 : Memref sig .tc .vmem S1x32x4096 .f32) (harg3 : arg3.IsWhole)
    (arg4 : Memref sig .tc .vmem S1x512x4096 .bf16) (harg4 : arg4.IsWhole) (x0 : Vec Ideal S1x512x4096 .f32) (x1 : Vec Ideal S1x32x4096 .f32) :
    (kernelRun0_A c i arg2 harg2 arg3 harg3 arg4 harg4 x0 x1).1
      = [⟨Rect.unit (s := S1x512x4096) ![0, 480, 0] S1x32x4096.size inb_S1x512x4096_S1x32x4096_0_480_0,
          k0_pay2 (View.ld (arg3.view.read (Elt Ideal) (harg3.unread x1)) (Rect.unit (s := S1x32x4096) ![0, 0, 0] S1x32x4096.size inb_S1x32x4096_S1x32x4096_0_0_0))⟩,
        ⟨Rect.unit (s := S1x512x4096) ![0, 0, 0] S1x480x4096.size inb_S1x512x4096_S1x480x4096_0_0_0,
          k0_pay1 (View.ld (arg2.view.read (Elt Ideal) (harg2.unread x0)) (Rect.unit (s := S1x512x4096) ![0, 32, 0] S1x480x4096.size inb_S1x512x4096_S1x480x4096_0_32_0))⟩] := by
  unfold kernelRun0_A
  rfl

theorem pay1_apply (x0 : Vec Ideal S1x512x4096 .f32) (r : Fin 480) (k : Fin 4096) :
    k0_pay1 (View.ld x0 (Rect.unit (s := S1x512x4096) ![0, 32, 0] S1x480x4096.size inb_S1x512x4096_S1x480x4096_0_32_0)) (ix3 0 r k)
      = x0 (ix3 0 ⟨32 + r.val, by omega⟩ k) := by
  refine Eq.trans (b := View.ld x0 (Rect.unit (s := S1x512x4096) ![0, 32, 0] S1x480x4096.size inb_S1x512x4096_S1x480x4096_0_32_0) (ix3 0 r k)) ?_ ?_
  · generalize View.ld x0 _ = z
    pointwise [k0_pay1]
  · refine View.ld_unit_apply_of _ _ _ _ _ _ fun a => ?_
    match a with
    | ⟨0, _⟩ => rfl
    | ⟨1, _⟩ => rfl
    | ⟨2, _⟩ => show k.val = 0 + k.val; omega

theorem pay2_apply (x1 : Vec Ideal S1x32x4096 .f32) (r : Fin 32) (k : Fin 4096) : k0_pay2 x1 (ix3 0 r k) = x1 (ix3 0 r k) := by
  pointwise [k0_pay2]

theorem outsAt_eq (t : Fin cfg0.N) (r : Fin 512) (k : Fin 4096) : outsAt0 m c t (ix3 0 r k) = m ((c : Thread nD τ).loc main_arg0)
      (ix3 ⟨t.val / 16, by have := point_lt t; omega⟩ k (InGates.gateCol ⟨512 * (t.val % 16) + r.val, by omega⟩)) := by
  unfold outsAt0 out0_A_2
  rw [View.read_writes_eq_canon _ _ _ (cover0_A_2 c (grid0.coords t) (ms0_0 t) (hs0_0 t) (ms0_1 t) (hs0_1 t) (ms0_2 t) (hs0_2 t) (X0_0 m c t) (iblk m c 1 t)), run_pieces]
  rw [View.ld_unit_lit (S := S1x32x4096) _ _ (by decide), (hs0_0 t).read_unread, (hs0_1 t).read_unread]
  by_cases h : r.val < 480
  · have e : (ix3 0 r k : S1x512x4096.Idx) = (Rect.unit (s := S1x512x4096) ![0, 0, 0] S1x480x4096.size inb_S1x512x4096_S1x480x4096_0_0_0).emb
        (ix3 (n0 := 1) (n1 := 480) (n2 := 4096) 0 ⟨r.val, h⟩ k) := by
      refine funext fun a => Fin.ext ?_
      rw [Rect.emb_apply]
      match a with
      | ⟨0, _⟩ => rfl
      | ⟨1, _⟩ => show r.val = 0 + 1 * r.val; omega
      | ⟨2, _⟩ => show k.val = 0 + 1 * k.val; omega
    rw [View.canon_cons_of_not_mem _ _ (fun hm => by
      have h1 : 480 ≤ r.val := ((Rect.mem_set_unit (inb := inb_S1x512x4096_S1x32x4096_0_480_0)).mp hm 1).1
      omega), e]
    exact (View.canon_cons_emb _ _ _ _).trans ((pay1_apply _ ⟨r.val, h⟩ k).trans (block0 m c t ⟨r.val, h⟩ k))
  · have e : (ix3 0 r k : S1x512x4096.Idx) = (Rect.unit (s := S1x512x4096) ![0, 480, 0] S1x32x4096.size inb_S1x512x4096_S1x32x4096_0_480_0).emb
        (ix3 (n0 := 1) (n1 := 32) (n2 := 4096) 0 ⟨r.val - 480, by omega⟩ k) := by
      refine funext fun a => Fin.ext ?_
      rw [Rect.emb_apply]
      match a with
      | ⟨0, _⟩ => rfl
      | ⟨1, _⟩ => show r.val = 480 + 1 * (r.val - 480); omega
      | ⟨2, _⟩ => show k.val = 0 + 1 * k.val; omega
    rw [e]
    refine (View.canon_cons_emb _ _ _ _).trans ((pay2_apply _ ⟨r.val - 480, by omega⟩ k).trans ((block1 m c t ⟨r.val - 480, by omega⟩ k).trans ?_))
    exact congrArg (fun C => m ((c : Thread nD τ).loc main_arg0) (ix3 _ k (InGates.gateCol C))) (Fin.ext (by show 512 * (t.val % 16) + (480 + (r.val - 480)) = 512 * (t.val % 16) + r.val; omega))

/-- The whole array after the run. -/
theorem final_array : (dats m 0 c).arrAt 2 cfg0.N
    = fun i => m ((c : Thread nD τ).loc main_arg0) (ix3 (i 0) (i 2) (InGates.gateCol (i 1))) := by
  refine (dats m 0 c).arrAt_eq_of_covers 2 _ (by decide +kernel) fun t hf y => ?_
  blk_simp
  rw [after0_2]
  have h0 : (y 0).val < 1 := (y 0).isLt
  have h1 : (y 1).val < 512 := (y 1).isLt
  have h2 : (y 2).val < 4096 := (y 2).isLt
  have ht := point_lt t
  have e : y = ix3 (n0 := 1) (n1 := 512) (n2 := 4096) 0 (y 1) (y 2) := by
    refine funext fun a => Fin.ext ?_
    match a with
    | ⟨0, _⟩ => show (y 0).val = 0; omega
    | ⟨1, _⟩ => rfl
    | ⟨2, _⟩ => rfl
  have e0 : (win0_2.blk t).view.emb y 0 = (⟨t.val / 16, by omega⟩ : Fin 4) := by
    refine Fin.ext ?_
    show _ = t.val / 16
    blk_simp [index2]
  have e1 : (win0_2.blk t).view.emb y 1 = (⟨512 * (t.val % 16) + (y 1).val, by omega⟩ : Fin 8192) := by
    refine Fin.ext ?_
    show _ = 512 * (t.val % 16) + (y 1).val
    blk_simp [index2]
    omega
  have e2 : (win0_2.blk t).view.emb y 2 = (y 2 : Fin 4096) := by
    refine Fin.ext ?_
    blk_simp [index2]
  refine (congrArg (outsAt0 m c t) e).trans ((outsAt_eq m c t (y 1) (y 2)).trans ?_)
  exact congrArg (m ((c : Thread nD τ).loc main_arg0)) (congrArg₂ (fun (p : Fin 4 × Fin 4096) (q : Fin 8192) => ix3 p.1 p.2 (InGates.gateCol q))
    (congrArg₂ Prod.mk e0.symm e2.symm) e1.symm)

end Kernel

section Reference

open Cert.CastGatesReferenceIdeal Cert.CastGatesReferenceIdeal.Gen Cert.CastGatesReferenceIdeal.Read

theorem reference_apply (w : Vec Ideal S4x4096x21024 .f32) (l : Fin 4) (C : Fin 8192) (k : Fin 4096) :
    val_main_v12 (F := Ideal) w (ix3 l C k) = w (ix3 l k (InGates.gateCol C)) := by
  pointwise [val_main_v12, val_main_v11, val_main_v10, val_main_v8, val_main_v9]
  split_ifs <;> refine congrArg (fun k => w (ix3 _ _ k)) (Fin.ext ?_) <;> simp only [InGates.gateCol] <;> omega

/-- The reference ends, leaves its argument, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The kernel's cast weights are the reference's. -/
theorem algebraic : Cert.algebraic_CastGatesIdeal_CastGatesReferenceIdeal := by
  intro m ρ m' ρ' _ hargs
  refine ⟨fun c => (Cert.CastGatesIdeal.Gen.dats m 0 c).arrAt 2 Cert.CastGatesIdeal.cfg0.N, Cert.CastGatesIdeal.Value.run_blocks (F := Ideal) m ρ, ?_⟩
  refine (θ_run (Cert.CastGatesReferenceIdeal.defs (F := Ideal)) _ _).mono (fun r h c => ⟨(h c).1.trans ?_, (h c).2⟩)
    (Cert.CastGatesReferenceIdeal.Value.run (F := Ideal) m' ρ')
  refine Eq.trans ?_ (final_array m c).symm
  refine (Cert.CastGatesReferenceIdeal.Read.val_main_v12_eq _).trans ?_
  rw [hargs c]
  funext i
  exact (congrArg _ (eq_ix3 (n0 := 4) (n1 := 8192) (n2 := 4096) i)).trans (reference_apply _ (i 0) (i 1) (i 2))

end Cert.Layer.CastGates

end
-- ==== Proof.Layer.CastBranch.lean ====
/- The cast of each branch's weights: every element of the kernel's array is the reference's. -/
module

public import proofs.«01_k».proof.Defs
public import proofs.«01_k».proof.Proof.Gen.CastBranchIdeal.Value
public import proofs.«01_k».proof.Proof.Gen.CastBranchReferenceIdeal.Read
public import Idealize.ShloMosaic.Adequacy
public import Idealize.ShloMosaic.Init

@[expose] public section

noncomputable section

namespace Cert.Layer.CastBranch

open Idealize.ShloMosaic Idealize.ShloMosaic.TcCoe Idealize.SL.Sem

section Reference

open Cert.CastBranchReferenceIdeal Cert.CastBranchReferenceIdeal.Gen

/-- The reference ends, leaves its argument, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The kernel's cast weights are the reference's. -/
theorem algebraic : Cert.algebraic_CastBranchIdeal_CastBranchReferenceIdeal := by
  intro m ρ m' ρ' _ hargs
  refine ⟨fun c => Cert.CastBranchIdeal.Value.G1 (F := Ideal) (m ((c.tc : Thread _ _).loc Cert.CastBranchIdeal.main_arg0)),
    Cert.CastBranchIdeal.Value.run (F := Ideal) m ρ, ?_⟩
  refine (θ_run (Cert.CastBranchReferenceIdeal.defs (F := Ideal)) _ _).mono (fun r h c => ⟨(h c).1.trans ?_, (h c).2⟩)
    (Cert.CastBranchReferenceIdeal.Value.run (F := Ideal) m' ρ')
  rw [hargs c]
  rfl

end Cert.Layer.CastBranch

end
-- ==== Proof.Layer.CastOut.lean ====
/- The cast of the output weights: every element of the kernel's array is the reference's. -/
module

public import proofs.«01_k».proof.Defs
public import proofs.«01_k».proof.Proof.Gen.CastOutIdeal.Value
public import proofs.«01_k».proof.Proof.Gen.CastOutReferenceIdeal.Read
public import Idealize.ShloMosaic.Adequacy
public import Idealize.ShloMosaic.Init

@[expose] public section

noncomputable section

namespace Cert.Layer.CastOut

open Idealize.ShloMosaic Idealize.ShloMosaic.TcCoe Idealize.SL.Sem

section Reference

open Cert.CastOutReferenceIdeal Cert.CastOutReferenceIdeal.Gen

/-- The reference ends, leaves its argument, and has no counters to leave. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run (defs (F := Ideal)) _ _).mono (fun r h => ⟨fun c => (h c).2, sem_eq_zero_of_no_sems (by decide) r.2⟩)
    (Value.run (F := Ideal) m ρ)

end Reference

/-- The kernel's cast weights are the reference's. -/
theorem algebraic : Cert.algebraic_CastOutIdeal_CastOutReferenceIdeal := by
  intro m ρ m' ρ' _ hargs
  refine ⟨fun c => Cert.CastOutIdeal.Value.G1 (F := Ideal) (m ((c.tc : Thread _ _).loc Cert.CastOutIdeal.main_arg0)),
    Cert.CastOutIdeal.Value.run (F := Ideal) m ρ, ?_⟩
  refine (θ_run (Cert.CastOutReferenceIdeal.defs (F := Ideal)) _ _).mono (fun r h c => ⟨(h c).1.trans ?_, (h c).2⟩)
    (Cert.CastOutReferenceIdeal.Value.run (F := Ideal) m' ρ')
  rw [hargs c]
  rfl

end Cert.Layer.CastOut

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.PreNorm
public import proofs.«01_k».proof.Proof.Gen.PreNorm.Frame
public import proofs.«01_k».proof.Proof.Gen.PreNormIdeal
public import proofs.«01_k».proof.Proof.Gen.PreNormIdeal.Frame
public import proofs.«01_k».proof.Proof.Gen.PreNormIdeal.Value
public import proofs.«01_k».proof.Proof.Gen.PreNormReferenceIdeal
public import proofs.«01_k».proof.Proof.Gen.PreNormReferenceIdeal.Run
public import proofs.«01_k».proof.Proof.Gen.PreNormReferenceIdeal.Read
public import proofs.«01_k».proof.Proof.Gen.InMain
public import proofs.«01_k».proof.Proof.Gen.InMain.Frame
public import proofs.«01_k».proof.Proof.Gen.InMainIdeal
public import proofs.«01_k».proof.Proof.Gen.InMainIdeal.Frame
public import proofs.«01_k».proof.Proof.Gen.InMainIdeal.Value
public import proofs.«01_k».proof.Proof.Gen.InMainReferenceIdeal
public import proofs.«01_k».proof.Proof.Gen.InMainReferenceIdeal.Run
public import proofs.«01_k».proof.Proof.Gen.InMainReferenceIdeal.Read
public import proofs.«01_k».proof.Proof.Gen.InGates
public import proofs.«01_k».proof.Proof.Gen.InGates.Frame
public import proofs.«01_k».proof.Proof.Gen.InGatesIdeal
public import proofs.«01_k».proof.Proof.Gen.InGatesIdeal.Frame
public import proofs.«01_k».proof.Proof.Gen.InGatesIdeal.Value
public import proofs.«01_k».proof.Proof.Gen.InGatesReferenceIdeal
public import proofs.«01_k».proof.Proof.Gen.InGatesReferenceIdeal.Run
public import proofs.«01_k».proof.Proof.Gen.InGatesReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.PostNorm
public import proofs.«01_k».proof.Proof.Gen.PostNorm.Frame
public import proofs.«01_k».proof.Proof.Gen.PostNormIdeal
public import proofs.«01_k».proof.Proof.Gen.PostNormIdeal.Frame
public import proofs.«01_k».proof.Proof.Gen.PostNormIdeal.Value
public import proofs.«01_k».proof.Proof.Gen.PostNormReferenceIdeal
public import proofs.«01_k».proof.Proof.Gen.PostNormReferenceIdeal.Run
public import proofs.«01_k».proof.Proof.Gen.PostNormReferenceIdeal.Read
public import proofs.«01_k».proof.Proof.Gen.PostPreNorm
public import proofs.«01_k».proof.Proof.Gen.PostPreNorm.Frame
public import proofs.«01_k».proof.Proof.Gen.PostPreNormIdeal
public import proofs.«01_k».proof.Proof.Gen.PostPreNormIdeal.Frame
public import proofs.«01_k».proof.Proof.Gen.PostPreNormIdeal.Value
public import proofs.«01_k».proof.Proof.Gen.PostPreNormReferenceIdeal
public import proofs.«01_k».proof.Proof.Gen.PostPreNormReferenceIdeal.Run
public import proofs.«01_k».proof.Proof.Gen.PostPreNormReferenceIdeal.Read
public import proofs.«01_k».proof.Proof.Gen.DeltaNet
public import proofs.«01_k».proof.Proof.Gen.DeltaNet.Frame
public import proofs.«01_k».proof.Proof.Gen.DeltaNetIdeal
public import proofs.«01_k».proof.Proof.Gen.DeltaNetIdeal.Frame
public import proofs.«01_k».proof.Proof.Gen.DeltaGates
public import proofs.«01_k».proof.Proof.Gen.DeltaGates.Frame
public import proofs.«01_k».proof.Proof.Gen.DeltaGatesIdeal
public import proofs.«01_k».proof.Proof.Gen.DeltaGatesIdeal.Frame
public import proofs.«01_k».proof.Proof.Gen.CastIn
public import proofs.«01_k».proof.Proof.Gen.CastIn.Frame
public import proofs.«01_k».proof.Proof.Gen.CastInIdeal
public import proofs.«01_k».proof.Proof.Gen.CastInIdeal.Frame
public import proofs.«01_k».proof.Proof.Gen.CastInIdeal.Value
public import proofs.«01_k».proof.Proof.Gen.CastGates
public import proofs.«01_k».proof.Proof.Gen.CastGates.Frame
public import proofs.«01_k».proof.Proof.Gen.CastGatesIdeal
public import proofs.«01_k».proof.Proof.Gen.CastGatesIdeal.Frame
public import proofs.«01_k».proof.Proof.Gen.CastGatesIdeal.Value
public import proofs.«01_k».proof.Proof.Gen.CastBranch
public import proofs.«01_k».proof.Proof.Gen.CastBranch.Frame
public import proofs.«01_k».proof.Proof.Gen.CastBranchIdeal
public import proofs.«01_k».proof.Proof.Gen.CastBranchIdeal.Frame
public import proofs.«01_k».proof.Proof.Gen.CastBranchIdeal.Value
public import proofs.«01_k».proof.Proof.Gen.CastOut
public import proofs.«01_k».proof.Proof.Gen.CastOut.Frame
public import proofs.«01_k».proof.Proof.Gen.CastOutIdeal
public import proofs.«01_k».proof.Proof.Gen.CastOutIdeal.Frame
public import proofs.«01_k».proof.Proof.Gen.CastOutIdeal.Value
public import proofs.«01_k».proof.Proof.Gen.DeltaGatesReferenceIdeal
public import proofs.«01_k».proof.Proof.Gen.DeltaGatesReferenceIdeal.Run
public import proofs.«01_k».proof.Proof.Gen.DeltaGatesReferenceIdeal.Read
public import proofs.«01_k».proof.Proof.Gen.CastInReferenceIdeal
public import proofs.«01_k».proof.Proof.Gen.CastInReferenceIdeal.Run
public import proofs.«01_k».proof.Proof.Gen.CastInReferenceIdeal.Read
public import proofs.«01_k».proof.Proof.Gen.CastGatesReferenceIdeal
public import proofs.«01_k».proof.Proof.Gen.CastGatesReferenceIdeal.Run
public import proofs.«01_k».proof.Proof.Gen.CastGatesReferenceIdeal.Read
public import proofs.«01_k».proof.Proof.Gen.CastBranchReferenceIdeal
public import proofs.«01_k».proof.Proof.Gen.CastBranchReferenceIdeal.Run
public import proofs.«01_k».proof.Proof.Gen.CastBranchReferenceIdeal.Read
public import proofs.«01_k».proof.Proof.Gen.CastOutReferenceIdeal
public import proofs.«01_k».proof.Proof.Gen.CastOutReferenceIdeal.Run
public import proofs.«01_k».proof.Proof.Gen.CastOutReferenceIdeal.Read
public import proofs.«01_k».proof.Proof.Attn.Claims
public import proofs.«01_k».proof.Proof.Layer.InMain
public import proofs.«01_k».proof.Proof.Layer.InGates
public import proofs.«01_k».proof.Proof.Layer.Merge
public import proofs.«01_k».proof.Proof.Layer.OutProj
public import proofs.«01_k».proof.Proof.Layer.PostPreNorm
public import proofs.«01_k».proof.Proof.Layer.DeltaGates
public import proofs.«01_k».proof.Proof.Layer.CastIn
public import proofs.«01_k».proof.Proof.Layer.CastGates
public import proofs.«01_k».proof.Proof.Layer.CastBranch
public import proofs.«01_k».proof.Proof.Layer.CastOut

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.PreNorm.Gen.facts, Cert.PreNormIdeal.Gen.facts, Cert.PreNormReferenceIdeal.Gen.facts,
  Cert.InMain.Gen.facts, Cert.InMainIdeal.Gen.facts, Cert.InMainReferenceIdeal.Gen.facts,
  Cert.InGates.Gen.facts, Cert.InGatesIdeal.Gen.facts, Cert.InGatesReferenceIdeal.Gen.facts,
  Cert.Merge.Gen.facts, Cert.MergeIdeal.Gen.facts, Cert.MergeReferenceIdeal.Gen.facts,
  Cert.OutProj.Gen.facts, Cert.OutProjIdeal.Gen.facts, Cert.OutProjReferenceIdeal.Gen.facts,
  Cert.PostNorm.Gen.facts, Cert.PostNormIdeal.Gen.facts, Cert.PostNormReferenceIdeal.Gen.facts,
  Cert.PostPreNorm.Gen.facts, Cert.PostPreNormIdeal.Gen.facts, Cert.PostPreNormReferenceIdeal.Gen.facts,
  Cert.DeltaNet.Gen.facts, Cert.DeltaNetIdeal.Gen.facts,
  Cert.DeltaGates.Gen.facts, Cert.DeltaGatesIdeal.Gen.facts, Cert.DeltaGatesReferenceIdeal.Gen.facts,
  Cert.CastIn.Gen.facts, Cert.CastInIdeal.Gen.facts, Cert.CastInReferenceIdeal.Gen.facts,
  Cert.CastGates.Gen.facts, Cert.CastGatesIdeal.Gen.facts, Cert.CastGatesReferenceIdeal.Gen.facts,
  Cert.CastBranch.Gen.facts, Cert.CastBranchIdeal.Gen.facts, Cert.CastBranchReferenceIdeal.Gen.facts,
  Cert.CastOut.Gen.facts, Cert.CastOutIdeal.Gen.facts, Cert.CastOutReferenceIdeal.Gen.facts,
  Cert.Attn.finite_facts, Cert.Layer.Gates.finite_facts,
  fun m ρ _ => Cert.Kernel.Gen.frame m ρ, fun m ρ _ => Cert.KernelIdeal.Gen.frame m ρ, fun m ρ _ => Cert.KernelIdeal.Gen.frame m ρ,
  fun m ρ _ => Cert.Attn.frame_reference m ρ, fun m ρ _ => Cert.Attn.frame_reference m ρ,
  fun m ρ _ => Cert.PreNorm.Gen.frame m ρ, fun m ρ _ => Cert.PreNormIdeal.Gen.frame m ρ, fun m ρ _ => Cert.Layer.PreNorm.frame_reference m ρ,
  fun m ρ _ => Cert.InMain.Gen.frame m ρ, fun m ρ _ => Cert.InMainIdeal.Gen.frame m ρ, fun m ρ _ => Cert.Layer.InMain.frame_reference m ρ,
  fun m ρ _ => Cert.InGates.Gen.frame m ρ, fun m ρ _ => Cert.InGatesIdeal.Gen.frame m ρ, fun m ρ _ => Cert.Layer.InGates.frame_reference m ρ,
  fun m ρ _ => Cert.Merge.Gen.frame m ρ, fun m ρ _ => Cert.MergeIdeal.Gen.frame m ρ, fun m ρ _ => Cert.Layer.Merge.frame_reference m ρ,
  fun m ρ _ => Cert.OutProj.Gen.frame m ρ, fun m ρ _ => Cert.OutProjIdeal.Gen.frame m ρ, fun m ρ _ => Cert.Layer.OutProj.frame_reference m ρ,
  fun m ρ _ => Cert.PostNorm.Gen.frame m ρ, fun m ρ _ => Cert.PostNormIdeal.Gen.frame m ρ, fun m ρ _ => Cert.Layer.PostNorm.frame_reference m ρ,
  fun m ρ _ => Cert.PostPreNorm.Gen.frame m ρ, fun m ρ _ => Cert.PostPreNormIdeal.Gen.frame m ρ, fun m ρ _ => Cert.Layer.PostPreNorm.frame_reference m ρ,
  fun m ρ _ => Cert.DeltaNet.Gen.frame m ρ, fun m ρ _ => Cert.DeltaNetIdeal.Gen.frame m ρ,
  fun m ρ _ => Cert.DeltaGates.Gen.frame m ρ, fun m ρ _ => Cert.DeltaGatesIdeal.Gen.frame m ρ, fun m ρ _ => Cert.DeltaGatesIdeal.Gen.frame m ρ,
  fun m ρ _ => Cert.Layer.Gates.frame_reference m ρ, fun m ρ _ => Cert.Layer.Gates.frame_reference m ρ,
  fun m ρ _ => Cert.CastIn.Gen.frame m ρ, fun m ρ _ => Cert.CastInIdeal.Gen.frame m ρ, fun m ρ _ => Cert.Layer.CastIn.frame_reference m ρ,
  fun m ρ _ => Cert.CastGates.Gen.frame m ρ, fun m ρ _ => Cert.CastGatesIdeal.Gen.frame m ρ, fun m ρ _ => Cert.Layer.CastGates.frame_reference m ρ,
  fun m ρ _ => Cert.CastBranch.Gen.frame m ρ, fun m ρ _ => Cert.CastBranchIdeal.Gen.frame m ρ, fun m ρ _ => Cert.Layer.CastBranch.frame_reference m ρ,
  fun m ρ _ => Cert.CastOut.Gen.frame m ρ, fun m ρ _ => Cert.CastOutIdeal.Gen.frame m ρ, fun m ρ _ => Cert.Layer.CastOut.frame_reference m ρ,
  Cert.Attn.preserves, @Cert.Attn.algebraic Cert.Attn.finite_facts,
  trivial, Cert.Layer.PreNorm.algebraic,
  trivial, Cert.Layer.InMain.algebraic,
  trivial, Cert.Layer.InGates.algebraic,
  trivial, Cert.Layer.Merge.algebraic,
  trivial, Cert.Layer.OutProj.algebraic,
  trivial, Cert.Layer.PostNorm.algebraic,
  trivial, Cert.Layer.PostPreNorm.algebraic,
  trivial, trivial, Cert.Layer.Gates.algebraic,
  trivial, Cert.Layer.CastIn.algebraic,
  trivial, Cert.Layer.CastGates.algebraic,
  trivial, Cert.Layer.CastBranch.algebraic,
  trivial, Cert.Layer.CastOut.algebraic⟩

end Cert.Proof

end
